-- ==== Defs.lean ====
def Pre_Glob (m : (ℓ : Loc Cert.Glob.nD Cert.Glob.τ Cert.Glob.sig) → Buf (Elt Bits) ℓ) : Prop :=
  True

def Pre_GlobIdeal (m : (ℓ : Loc Cert.GlobIdeal.nD Cert.GlobIdeal.τ Cert.GlobIdeal.sig) → Buf (Elt Ideal) ℓ) : Prop :=
  True

def Pre_GlobIdeal_finite_scores [hPre_finite_scores : Cert.Pre_finite_scores.Facts] (m : (ℓ : Loc Cert.GlobIdeal.nD Cert.GlobIdeal.τ Cert.GlobIdeal.sig) → Buf (Elt Ideal) ℓ) : Prop :=
  ∀ c : Dev Cert.GlobIdeal.nD,
    (Cert.Pre_finite_scores.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2))) = (fun _ => 1#1)

def Pre_GlobRefIdeal (m : (ℓ : Loc Cert.GlobRefIdeal.nD Cert.GlobRefIdeal.τ Cert.GlobRefIdeal.sig) → Buf (Elt Ideal) ℓ) : Prop :=
  True

def Pre_GlobRefIdeal_finite_scores [hPre_finite_scores : Cert.Pre_finite_scores.Facts] (m : (ℓ : Loc Cert.GlobRefIdeal.nD Cert.GlobRefIdeal.τ Cert.GlobRefIdeal.sig) → Buf (Elt Ideal) ℓ) : Prop :=
  ∀ c : Dev Cert.GlobRefIdeal.nD,
    (Cert.Pre_finite_scores.fn (F := Ideal) (m ((c.tc : Thread Cert.GlobRefIdeal.nD Cert.GlobRefIdeal.τ).loc Cert.GlobRefIdeal.main_arg0)) (m ((c.tc : Thread Cert.GlobRefIdeal.nD Cert.GlobRefIdeal.τ).loc Cert.GlobRefIdeal.main_arg1)) (m ((c.tc : Thread Cert.GlobRefIdeal.nD Cert.GlobRefIdeal.τ).loc Cert.GlobRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_tokens [hPre_finite_tokens : Cert.Pre_finite_tokens.Facts] (m : (ℓ : Loc Cert.InIdeal.nD Cert.InIdeal.τ Cert.InIdeal.sig) → Buf (Elt Ideal) ℓ) : Prop :=
  ∀ c : Dev Cert.InIdeal.nD,
    (Cert.Pre_finite_tokens.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_tokens [hPre_finite_tokens : Cert.Pre_finite_tokens.Facts] (m : (ℓ : Loc Cert.InRefIdeal.nD Cert.InRefIdeal.τ Cert.InRefIdeal.sig) → Buf (Elt Ideal) ℓ) : Prop :=
  ∀ c : Dev Cert.InRefIdeal.nD,
    (Cert.Pre_finite_tokens.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))) = (fun _ => 1#1)

def quiescent_Glob [hGlob : Cert.Glob.Facts] : Prop :=
  ∀ (m : (ℓ : Loc Cert.Glob.nD Cert.Glob.τ Cert.Glob.sig) → Buf (Elt Bits) ℓ) (g : Dev Cert.Glob.nD → PrngReg), Pre_Glob m →
    θ_run (Cert.Glob.defs (F := Bits)) (onTc (τ := Cert.Glob.τ) (Cert.Glob.main (F := Bits))) ⟨m, fun _ => 0, g⟩ (fun r => (∀ c : Dev Cert.Glob.nD,
      r.2.mem ((c.tc : Thread Cert.Glob.nD Cert.Glob.τ).loc Cert.Glob.main_arg0) = m ((c.tc : Thread Cert.Glob.nD Cert.Glob.τ).loc Cert.Glob.main_arg0)
      ∧ r.2.mem ((c.tc : Thread Cert.Glob.nD Cert.Glob.τ).loc Cert.Glob.main_arg1) = m ((c.tc : Thread Cert.Glob.nD Cert.Glob.τ).loc Cert.Glob.main_arg1)
      ∧ r.2.mem ((c.tc : Thread Cert.Glob.nD Cert.Glob.τ).loc Cert.Glob.main_arg2) = m ((c.tc : Thread Cert.Glob.nD Cert.Glob.τ).loc Cert.Glob.main_arg2))
      ∧ r.2.sem = fun _ => 0)

def quiescent_GlobIdeal [hGlobIdeal : Cert.GlobIdeal.Facts] : Prop :=
  ∀ (m : (ℓ : Loc Cert.GlobIdeal.nD Cert.GlobIdeal.τ Cert.GlobIdeal.sig) → Buf (Elt Ideal) ℓ) (g : Dev Cert.GlobIdeal.nD → PrngReg), Pre_GlobIdeal m →
    θ_run (Cert.GlobIdeal.defs (F := Ideal)) (onTc (τ := Cert.GlobIdeal.τ) (Cert.GlobIdeal.main (F := Ideal))) ⟨m, fun _ => 0, g⟩ (fun r => (∀ c : Dev Cert.GlobIdeal.nD,
      r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
      ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
      ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2))
      ∧ r.2.sem = fun _ => 0)

def quiescent_GlobIdeal_pre_finite_scores [hGlobIdeal : Cert.GlobIdeal.Facts] [hPre_finite_scores : Cert.Pre_finite_scores.Facts] : Prop :=
  ∀ (m : (ℓ : Loc Cert.GlobIdeal.nD Cert.GlobIdeal.τ Cert.GlobIdeal.sig) → Buf (Elt Ideal) ℓ) (g : Dev Cert.GlobIdeal.nD → PrngReg), Pre_GlobIdeal_finite_scores m →
    θ_run (Cert.GlobIdeal.defs (F := Ideal)) (onTc (τ := Cert.GlobIdeal.τ) (Cert.GlobIdeal.main (F := Ideal))) ⟨m, fun _ => 0, g⟩ (fun r => (∀ c : Dev Cert.GlobIdeal.nD,
      r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
      ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
      ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2))
      ∧ r.2.sem = fun _ => 0)

def quiescent_GlobRefIdeal [hGlobRefIdeal : Cert.GlobRefIdeal.Facts] : Prop :=
  ∀ (m : (ℓ : Loc Cert.GlobRefIdeal.nD Cert.GlobRefIdeal.τ Cert.GlobRefIdeal.sig) → Buf (Elt Ideal) ℓ) (g : Dev Cert.GlobRefIdeal.nD → PrngReg), Pre_GlobRefIdeal m →
    θ_run (Cert.GlobRefIdeal.defs (F := Ideal)) (onTc (τ := Cert.GlobRefIdeal.τ) (Cert.GlobRefIdeal.main (F := Ideal))) ⟨m, fun _ => 0, g⟩ (fun r => (∀ c : Dev Cert.GlobRefIdeal.nD,
      r.2.mem ((c.tc : Thread Cert.GlobRefIdeal.nD Cert.GlobRefIdeal.τ).loc Cert.GlobRefIdeal.main_arg0) = m ((c.tc : Thread Cert.GlobRefIdeal.nD Cert.GlobRefIdeal.τ).loc Cert.GlobRefIdeal.main_arg0)
      ∧ r.2.mem ((c.tc : Thread Cert.GlobRefIdeal.nD Cert.GlobRefIdeal.τ).loc Cert.GlobRefIdeal.main_arg1) = m ((c.tc : Thread Cert.GlobRefIdeal.nD Cert.GlobRefIdeal.τ).loc Cert.GlobRefIdeal.main_arg1)
      ∧ r.2.mem ((c.tc : Thread Cert.GlobRefIdeal.nD Cert.GlobRefIdeal.τ).loc Cert.GlobRefIdeal.main_arg2) = m ((c.tc : Thread Cert.GlobRefIdeal.nD Cert.GlobRefIdeal.τ).loc Cert.GlobRefIdeal.main_arg2))
      ∧ r.2.sem = fun _ => 0)

def quiescent_GlobRefIdeal_pre_finite_scores [hGlobRefIdeal : Cert.GlobRefIdeal.Facts] [hPre_finite_scores : Cert.Pre_finite_scores.Facts] : Prop :=
  ∀ (m : (ℓ : Loc Cert.GlobRefIdeal.nD Cert.GlobRefIdeal.τ Cert.GlobRefIdeal.sig) → Buf (Elt Ideal) ℓ) (g : Dev Cert.GlobRefIdeal.nD → PrngReg), Pre_GlobRefIdeal_finite_scores m →
    θ_run (Cert.GlobRefIdeal.defs (F := Ideal)) (onTc (τ := Cert.GlobRefIdeal.τ) (Cert.GlobRefIdeal.main (F := Ideal))) ⟨m, fun _ => 0, g⟩ (fun r => (∀ c : Dev Cert.GlobRefIdeal.nD,
      r.2.mem ((c.tc : Thread Cert.GlobRefIdeal.nD Cert.GlobRefIdeal.τ).loc Cert.GlobRefIdeal.main_arg0) = m ((c.tc : Thread Cert.GlobRefIdeal.nD Cert.GlobRefIdeal.τ).loc Cert.GlobRefIdeal.main_arg0)
      ∧ r.2.mem ((c.tc : Thread Cert.GlobRefIdeal.nD Cert.GlobRefIdeal.τ).loc Cert.GlobRefIdeal.main_arg1) = m ((c.tc : Thread Cert.GlobRefIdeal.nD Cert.GlobRefIdeal.τ).loc Cert.GlobRefIdeal.main_arg1)
      ∧ r.2.mem ((c.tc : Thread Cert.GlobRefIdeal.nD Cert.GlobRefIdeal.τ).loc Cert.GlobRefIdeal.main_arg2) = m ((c.tc : Thread Cert.GlobRefIdeal.nD Cert.GlobRefIdeal.τ).loc Cert.GlobRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_finite_tokens [hInIdeal : Cert.InIdeal.Facts] [hPre_finite_tokens : Cert.Pre_finite_tokens.Facts] : Prop :=
  ∀ (m : (ℓ : Loc Cert.InIdeal.nD Cert.InIdeal.τ Cert.InIdeal.sig) → Buf (Elt Ideal) ℓ) (g : Dev Cert.InIdeal.nD → PrngReg), Pre_InIdeal_finite_tokens m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_finite_tokens [hInRefIdeal : Cert.InRefIdeal.Facts] [hPre_finite_tokens : Cert.Pre_finite_tokens.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_tokens m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def preserves_Glob_GlobIdeal : Prop :=
  IdealRules.named_const.Statement Cert.GlobIdeal.κ "mask" .f32 0xF149F2CA#32 ⊥

def algebraic_GlobIdeal_GlobRefIdeal_on_latent_rows_pre_finite_scores [hGlobIdeal : Cert.GlobIdeal.Facts] [hGlobRefIdeal : Cert.GlobRefIdeal.Facts] [hPre_finite_scores : Cert.Pre_finite_scores.Facts] [hOn_latent_rows : Cert.On_latent_rows.Facts] : Prop :=
  ∀ (m : (ℓ : Loc Cert.GlobIdeal.nD Cert.GlobIdeal.τ Cert.GlobIdeal.sig) → Buf (Elt Ideal) ℓ) (g : Dev Cert.GlobIdeal.nD → PrngReg)
    (m' : (ℓ : Loc Cert.GlobRefIdeal.nD Cert.GlobRefIdeal.τ Cert.GlobRefIdeal.sig) → Buf (Elt Ideal) ℓ) (g' : Dev Cert.GlobRefIdeal.nD → PrngReg), Pre_GlobIdeal_finite_scores m →
    (∀ c : Dev Cert.GlobIdeal.nD,
      m' ((c.tc : Thread Cert.GlobRefIdeal.nD Cert.GlobRefIdeal.τ).loc Cert.GlobRefIdeal.main_arg0) = m ((c.tc : Thread Cert.GlobIdeal.nD Cert.GlobIdeal.τ).loc Cert.GlobIdeal.main_arg0)
      ∧ m' ((c.tc : Thread Cert.GlobRefIdeal.nD Cert.GlobRefIdeal.τ).loc Cert.GlobRefIdeal.main_arg1) = m ((c.tc : Thread Cert.GlobIdeal.nD Cert.GlobIdeal.τ).loc Cert.GlobIdeal.main_arg1)
      ∧ m' ((c.tc : Thread Cert.GlobRefIdeal.nD Cert.GlobRefIdeal.τ).loc Cert.GlobRefIdeal.main_arg2) = m ((c.tc : Thread Cert.GlobIdeal.nD Cert.GlobIdeal.τ).loc Cert.GlobIdeal.main_arg2)) →
    ∃ (v0 : (c : Dev Cert.GlobIdeal.nD) → Buf (Elt Ideal) ((c.tc : Thread Cert.GlobIdeal.nD Cert.GlobIdeal.τ).loc Cert.GlobIdeal.main_v0)),
      θ_run (Cert.GlobIdeal.defs (F := Ideal)) (onTc (τ := Cert.GlobIdeal.τ) (Cert.GlobIdeal.main (F := Ideal))) ⟨m, fun _ => 0, g⟩ (fun r => ∀ c : Dev Cert.GlobIdeal.nD,
          (∀ i : (⟨3, ![2, 8448, 256]⟩ : Shape).Idx, (Cert.On_latent_rows.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2))) i = 1#1 → r.2.mem ((c.tc : Thread Cert.GlobIdeal.nD Cert.GlobIdeal.τ).loc Cert.GlobIdeal.main_v0) i = v0 c i)
          ∧ r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
          ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
          ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2))
      ∧ θ_run (Cert.GlobRefIdeal.defs (F := Ideal)) (onTc (τ := Cert.GlobRefIdeal.τ) (Cert.GlobRefIdeal.main (F := Ideal))) ⟨m', fun _ => 0, g'⟩ (fun r => ∀ c : Dev Cert.GlobRefIdeal.nD,
          (∀ i : (⟨3, ![2, 8448, 256]⟩ : Shape).Idx, (Cert.On_latent_rows.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2))) i = 1#1 → r.2.mem ((c.tc : Thread Cert.GlobRefIdeal.nD Cert.GlobRefIdeal.τ).loc Cert.GlobRefIdeal.main_v22) i = v0 c i)
          ∧ r.2.mem ((c.tc : Thread Cert.GlobRefIdeal.nD Cert.GlobRefIdeal.τ).loc Cert.GlobRefIdeal.main_arg0) = m' ((c.tc : Thread Cert.GlobRefIdeal.nD Cert.GlobRefIdeal.τ).loc Cert.GlobRefIdeal.main_arg0)
          ∧ r.2.mem ((c.tc : Thread Cert.GlobRefIdeal.nD Cert.GlobRefIdeal.τ).loc Cert.GlobRefIdeal.main_arg1) = m' ((c.tc : Thread Cert.GlobRefIdeal.nD Cert.GlobRefIdeal.τ).loc Cert.GlobRefIdeal.main_arg1)
          ∧ r.2.mem ((c.tc : Thread Cert.GlobRefIdeal.nD Cert.GlobRefIdeal.τ).loc Cert.GlobRefIdeal.main_arg2) = m' ((c.tc : Thread Cert.GlobRefIdeal.nD Cert.GlobRefIdeal.τ).loc Cert.GlobRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v75) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_In_InIdeal : Prop :=
  True

def algebraic_InIdeal_InRefIdeal_pre_finite_tokens [hInIdeal : Cert.InIdeal.Facts] [hInRefIdeal : Cert.InRefIdeal.Facts] [hPre_finite_tokens : Cert.Pre_finite_tokens.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_tokens m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v30_0)) (v1 : (c : Dev Cert.InIdeal.nD) → Buf (Elt Ideal) ((c.tc : Thread Cert.InIdeal.nD Cert.InIdeal.τ).loc Cert.InIdeal.main_v30_1)) (v2 : (c : Dev Cert.InIdeal.nD) → Buf (Elt Ideal) ((c.tc : Thread Cert.InIdeal.nD Cert.InIdeal.τ).loc Cert.InIdeal.main_v30_2)) (v3 : (c : Dev Cert.InIdeal.nD) → Buf (Elt Ideal) ((c.tc : Thread Cert.InIdeal.nD Cert.InIdeal.τ).loc Cert.InIdeal.main_v30_3)) (v4 : (c : Dev Cert.InIdeal.nD) → Buf (Elt Ideal) ((c.tc : Thread Cert.InIdeal.nD Cert.InIdeal.τ).loc Cert.InIdeal.main_v30_4)) (v5 : (c : Dev Cert.InIdeal.nD) → Buf (Elt Ideal) ((c.tc : Thread Cert.InIdeal.nD Cert.InIdeal.τ).loc Cert.InIdeal.main_v30_5)) (v6 : (c : Dev Cert.InIdeal.nD) → Buf (Elt Ideal) ((c.tc : Thread Cert.InIdeal.nD Cert.InIdeal.τ).loc Cert.InIdeal.main_v30_6)) (v7 : (c : Dev Cert.InIdeal.nD) → Buf (Elt Ideal) ((c.tc : Thread Cert.InIdeal.nD Cert.InIdeal.τ).loc Cert.InIdeal.main_v30_7)) (v8 : (c : Dev Cert.InIdeal.nD) → Buf (Elt Ideal) ((c.tc : Thread Cert.InIdeal.nD Cert.InIdeal.τ).loc Cert.InIdeal.main_v30_8)) (v9 : (c : Dev Cert.InIdeal.nD) → Buf (Elt Ideal) ((c.tc : Thread Cert.InIdeal.nD Cert.InIdeal.τ).loc Cert.InIdeal.main_v30_9)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v30_0) = v0 c
          ∧ r.2.mem ((c.tc : Thread Cert.InIdeal.nD Cert.InIdeal.τ).loc Cert.InIdeal.main_v30_1) = v1 c
          ∧ r.2.mem ((c.tc : Thread Cert.InIdeal.nD Cert.InIdeal.τ).loc Cert.InIdeal.main_v30_2) = v2 c
          ∧ r.2.mem ((c.tc : Thread Cert.InIdeal.nD Cert.InIdeal.τ).loc Cert.InIdeal.main_v30_3) = v3 c
          ∧ r.2.mem ((c.tc : Thread Cert.InIdeal.nD Cert.InIdeal.τ).loc Cert.InIdeal.main_v30_4) = v4 c
          ∧ r.2.mem ((c.tc : Thread Cert.InIdeal.nD Cert.InIdeal.τ).loc Cert.InIdeal.main_v30_5) = v5 c
          ∧ r.2.mem ((c.tc : Thread Cert.InIdeal.nD Cert.InIdeal.τ).loc Cert.InIdeal.main_v30_6) = v6 c
          ∧ r.2.mem ((c.tc : Thread Cert.InIdeal.nD Cert.InIdeal.τ).loc Cert.InIdeal.main_v30_7) = v7 c
          ∧ r.2.mem ((c.tc : Thread Cert.InIdeal.nD Cert.InIdeal.τ).loc Cert.InIdeal.main_v30_8) = v8 c
          ∧ r.2.mem ((c.tc : Thread Cert.InIdeal.nD Cert.InIdeal.τ).loc Cert.InIdeal.main_v30_9) = v9 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v112) = v0 c
          ∧ r.2.mem ((c.tc : Thread Cert.InRefIdeal.nD Cert.InRefIdeal.τ).loc Cert.InRefIdeal.main_v113) = v1 c
          ∧ r.2.mem ((c.tc : Thread Cert.InRefIdeal.nD Cert.InRefIdeal.τ).loc Cert.InRefIdeal.main_v114) = v2 c
          ∧ r.2.mem ((c.tc : Thread Cert.InRefIdeal.nD Cert.InRefIdeal.τ).loc Cert.InRefIdeal.main_v115) = v3 c
          ∧ r.2.mem ((c.tc : Thread Cert.InRefIdeal.nD Cert.InRefIdeal.τ).loc Cert.InRefIdeal.main_v116) = v4 c
          ∧ r.2.mem ((c.tc : Thread Cert.InRefIdeal.nD Cert.InRefIdeal.τ).loc Cert.InRefIdeal.main_v117) = v5 c
          ∧ r.2.mem ((c.tc : Thread Cert.InRefIdeal.nD Cert.InRefIdeal.τ).loc Cert.InRefIdeal.main_v106) = v6 c
          ∧ r.2.mem ((c.tc : Thread Cert.InRefIdeal.nD Cert.InRefIdeal.τ).loc Cert.InRefIdeal.main_v118) = v7 c
          ∧ r.2.mem ((c.tc : Thread Cert.InRefIdeal.nD Cert.InRefIdeal.τ).loc Cert.InRefIdeal.main_v119) = v8 c
          ∧ r.2.mem ((c.tc : Thread Cert.InRefIdeal.nD Cert.InRefIdeal.τ).loc Cert.InRefIdeal.main_v120) = v9 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def Claim : Prop :=
  ∃ (hGlob : Cert.Glob.Facts) (hGlobIdeal : Cert.GlobIdeal.Facts) (hGlobRefIdeal : Cert.GlobRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hPre_finite_scores : Cert.Pre_finite_scores.Facts) (hPre_finite_tokens : Cert.Pre_finite_tokens.Facts) (hOn_latent_rows : Cert.On_latent_rows.Facts),
    quiescent_Glob (hGlob := hGlob)
    ∧ quiescent_GlobIdeal (hGlobIdeal := hGlobIdeal)
    ∧ quiescent_GlobIdeal_pre_finite_scores (hGlobIdeal := hGlobIdeal) (hPre_finite_scores := hPre_finite_scores)
    ∧ quiescent_GlobRefIdeal (hGlobRefIdeal := hGlobRefIdeal)
    ∧ quiescent_GlobRefIdeal_pre_finite_scores (hGlobRefIdeal := hGlobRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InIdeal_pre_finite_tokens (hInIdeal := hInIdeal) (hPre_finite_tokens := hPre_finite_tokens)
    ∧ quiescent_InRefIdeal (hInRefIdeal := hInRefIdeal)
    ∧ quiescent_InRefIdeal_pre_finite_tokens (hInRefIdeal := hInRefIdeal) (hPre_finite_tokens := hPre_finite_tokens)
    ∧ preserves_Glob_GlobIdeal
    ∧ algebraic_GlobIdeal_GlobRefIdeal_on_latent_rows_pre_finite_scores (hGlobIdeal := hGlobIdeal) (hGlobRefIdeal := hGlobRefIdeal) (hPre_finite_scores := hPre_finite_scores) (hOn_latent_rows := hOn_latent_rows)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal_pre_finite_tokens (hInIdeal := hInIdeal) (hInRefIdeal := hInRefIdeal) (hPre_finite_tokens := hPre_finite_tokens)
-- ==== On_latent_rows.lean ====
abbrev S2x8448x256 : Shape := ⟨3, ![2, 8448, 256]⟩
abbrev S2x33x128x256 : Shape := ⟨4, ![2, 33, 128, 256]⟩
abbrev S2x8448x128 : Shape := ⟨3, ![2, 8448, 128]⟩
abbrev S_ : Shape := ⟨0, ![]⟩

class Facts : Prop where
  bcast_S_S2x8448x256 : S_.BroadcastsInDim S2x8448x256 (![] : Fin 0 → Fin S2x8448x256.rank)

variable [Facts]

def fn {F : FTy → Type} [FloatOps F] (main_arg0 : FVec F S2x8448x256 .bf16) (main_arg1 : FVec F S2x33x128x256 .bf16) (main_arg2 : FVec F S2x8448x128 .bf16) : IVec S2x8448x256 1 :=
  let main_v0 : IVec S2x8448x256 32 := iotaInDim S2x8448x256 32 1
  let main_c : IVec S_ 32 := constantI S_ 32 8192#32
  let main_v1 : IVec S2x8448x256 32 := broadcastInDim S2x8448x256 ![] bcast_S_S2x8448x256 main_c
  let main_v2 : IVec S2x8448x256 1 := cmpi .slt main_v0 main_v1
  main_v2
-- ==== Pre_finite_scores.lean ====
abbrev S2x8448x256 : Shape := ⟨3, ![2, 8448, 256]⟩
abbrev S2x33x128x256 : Shape := ⟨4, ![2, 33, 128, 256]⟩
abbrev S2x8448x128 : Shape := ⟨3, ![2, 8448, 128]⟩
abbrev S_ : Shape := ⟨0, ![]⟩

class Facts : Prop where
  bitsLt_bf16_f32 : FTy.bits .bf16 < FTy.bits .f32
  bcast_S_S2x8448x256 : S_.BroadcastsInDim S2x8448x256 (![] : Fin 0 → Fin S2x8448x256.rank)
  bcast_S_S2x33x128x256 : S_.BroadcastsInDim S2x33x128x256 (![] : Fin 0 → Fin S2x33x128x256.rank)
  reducesTo_S2x8448x256_S_d0_1_2 : S2x8448x256.ReducesTo [0, 1, 2] S_
  h_S_ : 0 < S_.numel
  reducesTo_S2x33x128x256_S_d0_1_2_3 : S2x33x128x256.ReducesTo [0, 1, 2, 3] S_

variable [Facts]

def fn {F : FTy → Type} [FloatOps F] (main_arg0 : FVec F S2x8448x256 .bf16) (main_arg1 : FVec F S2x33x128x256 .bf16) (main_arg2 : FVec F S2x8448x128 .bf16) : IVec S_ 1 :=
  let main_v0 : FVec F S2x8448x256 .f32 := (extf .f32 · bitsLt_bf16_f32) main_arg0
  let main_v1 : FVec F S2x8448x256 .f32 := Host.absf main_v0
  let main_cst : FVec F S_ .f32 := constant S_ .f32 0x7F800000#32
  let main_v2 : FVec F S2x8448x256 .f32 := broadcastInDim S2x8448x256 ![] bcast_S_S2x8448x256 main_cst
  let main_v3 : IVec S2x8448x256 1 := cmpf .olt main_v1 main_v2
  let main_v4 : FVec F S2x33x128x256 .f32 := (extf .f32 · bitsLt_bf16_f32) main_arg1
  let main_v5 : FVec F S2x33x128x256 .f32 := Host.absf main_v4
  let main_cst_0 : FVec F S_ .f32 := constant S_ .f32 0x7F800000#32
  let main_v6 : FVec F S2x33x128x256 .f32 := broadcastInDim S2x33x128x256 ![] bcast_S_S2x33x128x256 main_cst_0
  let main_v7 : IVec S2x33x128x256 1 := cmpf .olt main_v5 main_v6
  let main_c : IVec S_ 1 := constantI S_ 1 1#1
  let main_v8 : IVec S_ 1 := (fun x v => Host.reduce IntOp.andi x v reducesTo_S2x8448x256_S_d0_1_2 h_S_) main_v3 main_c
  let main_c_1 : IVec S_ 1 := constantI S_ 1 1#1
  let main_v9 : IVec S_ 1 := (fun x v => Host.reduce IntOp.andi x v reducesTo_S2x33x128x256_S_d0_1_2_3 h_S_) main_v7 main_c_1
  let main_v10 : IVec S_ 1 := andi main_v8 main_v9
  main_v10
-- ==== Pre_finite_tokens.lean ====
abbrev S2x8448x1024 : Shape := ⟨3, ![2, 8448, 1024]⟩
abbrev S2x2x8x1024 : Shape := ⟨4, ![2, 2, 8, 1024]⟩
abbrev S1024x3072 : Shape := ⟨2, ![1024, 3072]⟩
abbrev S8192x2x16 : Shape := ⟨3, ![8192, 2, 16]⟩
abbrev S2x64 : Shape := ⟨2, ![2, 64]⟩
abbrev S_ : Shape := ⟨0, ![]⟩

class Facts : Prop where
  bcast_S_S2x8448x1024 : S_.BroadcastsInDim S2x8448x1024 (![] : Fin 0 → Fin S2x8448x1024.rank)
  reducesTo_S2x8448x1024_S_d0_1_2 : S2x8448x1024.ReducesTo [0, 1, 2] S_
  h_S_ : 0 < S_.numel
  bcast_S_S2x2x8x1024 : S_.BroadcastsInDim S2x2x8x1024 (![] : Fin 0 → Fin S2x2x8x1024.rank)
  reducesTo_S2x2x8x1024_S_d0_1_2_3 : S2x2x8x1024.ReducesTo [0, 1, 2, 3] S_
  bitsLt_bf16_f32 : FTy.bits .bf16 < FTy.bits .f32
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S2x8448x1024 .f32) (main_arg1 : FVec F S2x2x8x1024 .f32) (main_arg2 : FVec F S1024x3072 .bf16) (main_arg3 : FVec F S8192x2x16 .f32) (main_arg4 : FVec F S8192x2x16 .f32) (main_arg5 : FVec F S2x64 .f32) : IVec S_ 1 :=
  let main_v0 : FVec F S2x8448x1024 .f32 := Host.absf main_arg0
  let main_cst : FVec F S_ .f32 := constant S_ .f32 0x7F800000#32
  let main_v1 : FVec F S2x8448x1024 .f32 := broadcastInDim S2x8448x1024 ![] bcast_S_S2x8448x1024 main_cst
  let main_v2 : IVec S2x8448x1024 1 := cmpf .olt main_v0 main_v1
  let main_c : IVec S_ 1 := constantI S_ 1 1#1
  let main_v3 : IVec S_ 1 := (fun x v => Host.reduce IntOp.andi x v reducesTo_S2x8448x1024_S_d0_1_2 h_S_) main_v2 main_c
  let main_v4 : FVec F S2x2x8x1024 .f32 := Host.absf main_arg1
  let main_cst_0 : FVec F S_ .f32 := constant S_ .f32 0x7F800000#32
  let main_v5 : FVec F S2x2x8x1024 .f32 := broadcastInDim S2x2x8x1024 ![] bcast_S_S2x2x8x1024 main_cst_0
  let main_v6 : IVec S2x2x8x1024 1 := cmpf .olt main_v4 main_v5
  let main_c_1 : IVec S_ 1 := constantI S_ 1 1#1
  let main_v7 : IVec S_ 1 := (fun x v => Host.reduce IntOp.andi x v reducesTo_S2x2x8x1024_S_d0_1_2_3 h_S_) main_v6 main_c_1
  let main_v8 : FVec F S1024x3072 .f32 := (extf .f32 · bitsLt_bf16_f32) main_arg2
  let main_v9 : FVec F S1024x3072 .f32 := Host.absf main_v8
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v3 main_v7
  let main_v14 : IVec S_ 1 := andi main_v13 main_v12
  main_v14
-- ==== Glob.lean ====
abbrev S2x8448x256 : Shape := ⟨3, ![2, 8448, 256]⟩
abbrev S2x33x128x256 : Shape := ⟨4, ![2, 33, 128, 256]⟩
abbrev S2x8448x128 : Shape := ⟨3, ![2, 8448, 128]⟩
abbrev S1x128x256 : Shape := ⟨3, ![1, 128, 256]⟩
abbrev S1x33x128x256 : Shape := ⟨4, ![1, 33, 128, 256]⟩
abbrev S1x8448x128 : Shape := ⟨3, ![1, 8448, 128]⟩
abbrev S256x128 : Shape := ⟨2, ![256, 128]⟩
abbrev S128x256 : Shape := ⟨2, ![128, 256]⟩
abbrev S128x128 : Shape := ⟨2, ![128, 128]⟩
abbrev S128x64 : Shape := ⟨2, ![128, 64]⟩
abbrev S256x64 : Shape := ⟨2, ![256, 64]⟩
abbrev S1x1x64x256 : Shape := ⟨4, ![1, 1, 64, 256]⟩
abbrev S64x256 : Shape := ⟨2, ![64, 256]⟩
abbrev S256x256 : Shape := ⟨2, ![256, 256]⟩
abbrev S256x768 : Shape := ⟨2, ![256, 768]⟩
abbrev S256 : Shape := ⟨1, ![256]⟩
abbrev S256x1 : Shape := ⟨2, ![256, 1]⟩
abbrev S1x768x128 : Shape := ⟨3, ![1, 768, 128]⟩
abbrev S768x128 : Shape := ⟨2, ![768, 128]⟩

abbrev nBuf : Space → Nat
  | .hbm => 4
  | .vmem => 11
  | .smem => 0
  | _ => 0

abbrev bufTy : (tb : Table) → Fin (tcTables nBuf tb) → BufTy
  | .hbm, ⟨0, _⟩ => ⟨S2x8448x256, .bf16⟩
  | .hbm, ⟨1, _⟩ => ⟨S2x33x128x256, .bf16⟩
  | .hbm, ⟨2, _⟩ => ⟨S2x8448x128, .bf16⟩
  | .hbm, ⟨3, _⟩ => ⟨S2x8448x256, .f32⟩
  | .local _ .vmem, ⟨0, _⟩ => ⟨S1x128x256, .bf16⟩
  | .local _ .vmem, ⟨1, _⟩ => ⟨S1x128x256, .bf16⟩
  | .local _ .vmem, ⟨2, _⟩ => ⟨S1x33x128x256, .bf16⟩
  | .local _ .vmem, ⟨3, _⟩ => ⟨S1x33x128x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x128x256, .f32⟩
  | .local _ .vmem, ⟨7, _⟩ => ⟨S1x128x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S2x8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32 : BitVec 32 := 0#32
  let c11_i32 : BitVec 32 := 11#32
  let v18 : BitVec 32 := Scalar.addi c0_i32 c11_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c768_i32 : BitVec 32 := 768#32
  let v56 : BitVec 32 := Scalar.muli arg9 c768_i32
  v56
def k0_off1 (k0_t1 : Fin k0_t1_loop.trips) (c0_i32_38 : BitVec 32) : Fin 4 → Nat :=
  let c0_39 : Index := 0#32
  let c0_i32 : BitVec 32 := 0#32
  let c1_i32 : BitVec 32 := 1#32
  let arg9 : BitVec 32 := Scf.iv c0_i32 c1_i32 k0_t1
  let c3_i32 : BitVec 32 := 3#32
  let v58 : BitVec 32 := Scalar.muli arg9 c3_i32
  let v59 : BitVec 32 := Scalar.addi v58 c0_i32_38
  let v60 : Index := Scalar.indexCast v59
  let c0_40 : Index := 0#32
  let c0_41 : Index := 0#32
  ![0, v60.toNat, 0, 0]
def k0_off2 (k0_t1 : Fin k0_t1_loop.trips) : Fin 3 → Nat :=
  let c0_64 : Index := 0#32
  let c0_i32 : BitVec 32 := 0#32
  let c1_i32 : BitVec 32 := 1#32
  let arg9 : BitVec 32 := Scf.iv c0_i32 c1_i32 k0_t1
  let c768_i32 : BitVec 32 := 768#32
  let v56 : BitVec 32 := Scalar.muli arg9 c768_i32
  let v57 : BitVec 32 := v56
  let v100 : Index := Scalar.indexCast v57
  let c0_65 : Index := 0#32
  ![0, v100.toNat, 0]
@[reducible] def k0_t2_loop : Scf.Loop 32 :=
  let c0_i32_27 : BitVec 32 := 0#32
  let c11_i32_28 : BitVec 32 := 11#32
  let v44 : BitVec 32 := Scalar.addi c0_i32_27 c11_i32_28
  let c1_i32_29 : BitVec 32 := 1#32
  ⟨c0_i32_27, v44, c1_i32_29⟩
def k0_mult2 (k0_t2 : Fin k0_t2_loop.trips) : BitVec 32 :=
  let c0_i32_27 : BitVec 32 := 0#32
  let c1_i32_29 : BitVec 32 := 1#32
  let arg9 : BitVec 32 := Scf.iv c0_i32_27 c1_i32_29 k0_t2
  let c768_i32 : BitVec 32 := 768#32
  let v56 : BitVec 32 := Scalar.muli arg9 c768_i32
  v56
def k0_off3 (k0_t2 : Fin k0_t2_loop.trips) (c0_i32_38 : BitVec 32) : Fin 4 → Nat :=
  let c0_39 : Index := 0#32
  let c0_i32_27 : BitVec 32 := 0#32
  let c1_i32_29 : BitVec 32 := 1#32
  let arg9 : BitVec 32 := Scf.iv c0_i32_27 c1_i32_29 k0_t2
  let c3_i32 : BitVec 32 := 3#32
  let v58 : BitVec 32 := Scalar.muli arg9 c3_i32
  let v59 : BitVec 32 := Scalar.addi v58 c0_i32_38
  let v60 : Index := Scalar.indexCast v59
  let c64 : Index := 64#32
  let c0_40 : Index := 0#32
  ![0, v60.toNat, 64, 0]
def k0_off4 (k0_t2 : Fin k0_t2_loop.trips) : Fin 3 → Nat :=
  let c0_63 : Index := 0#32
  let c0_i32_27 : BitVec 32 := 0#32
  let c1_i32_29 : BitVec 32 := 1#32
  let arg9 : BitVec 32 := Scf.iv c0_i32_27 c1_i32_29 k0_t2
  let c768_i32 : BitVec 32 := 768#32
  let v56 : BitVec 32 := Scalar.muli arg9 c768_i32
  let v57 : BitVec 32 := v56
  let v100 : Index := Scalar.indexCast v57
  let c0_64 : Index := 0#32
  ![0, v100.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x33x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GlobIdeal.lean ====
variable {F : FTy → Type} [FloatOps F] [Named F]
def κ : String → Option EReal := fun
  | "mask" => some ⊥
  | _ => none
-- ==== GlobRefIdeal.lean ====
abbrev S2x8448x256 : Shape := ⟨3, ![2, 8448, 256]⟩
abbrev S2x33x128x256 : Shape := ⟨4, ![2, 33, 128, 256]⟩
abbrev S2x8448x128 : Shape := ⟨3, ![2, 8448, 128]⟩
abbrev S2x8448x2x2x64 : Shape := ⟨5, ![2, 8448, 2, 2, 64]⟩
abbrev S2x33x256x128 : Shape := ⟨4, ![2, 33, 256, 128]⟩
abbrev S2x8448x2x64 : Shape := ⟨4, ![2, 8448, 2, 64]⟩
abbrev S2x2x8448x8448x2 : Shape := ⟨5, ![2, 2, 8448, 8448, 2]⟩
abbrev S2x2x2x8448x8448 : Shape := ⟨5, ![2, 2, 2, 8448, 8448]⟩
abbrev S_ : Shape := ⟨0, ![]⟩
abbrev S2x2x2x8448 : Shape := ⟨4, ![2, 2, 2, 8448]⟩
abbrev S2x2x2x8448x1 : Shape := ⟨5, ![2, 2, 2, 8448, 1]⟩
abbrev S2x2x64x2x8448 : Shape := ⟨5, ![2, 2, 64, 2, 8448]⟩

abbrev nBuf : Space → Nat
  | .hbm => 29
  | .vmem => 0
  | .smem => 0
  | _ => 0

abbrev bufTy : (tb : Table) → Fin (tcTables nBuf tb) → BufTy
  | .hbm, ⟨0, _⟩ => ⟨S2x8448x256, .bf16⟩
  | .hbm, ⟨1, _⟩ => ⟨S2x33x128x256, .bf16⟩
  | .hbm, ⟨2, _⟩ => ⟨S2x8448x128, .bf16⟩
  | .hbm, ⟨3, _⟩ => ⟨S2x8448x256, .f32⟩
  | .hbm, ⟨4, _⟩ => ⟨S2x8448x2x2x64, .f32⟩
  | .hbm, ⟨5, _⟩ => ⟨S2x33x128x256, .f32⟩
  | .hbm, ⟨6, _⟩ => ⟨S2x33x256x128, .f32⟩
  | .hbm, ⟨7, _⟩ => ⟨S2x8448x2x64, .f32⟩
  | .hbm, ⟨8, _⟩ => ⟨S2x8448x128, .f32⟩
  | .hbm, ⟨9, _⟩ => ⟨S2x8448x2x64, .f32⟩
  | .hbm, ⟨10, _⟩ => ⟨S2x2x8448x8448x2, .f32⟩
  | .hbm, ⟨11, _⟩ => ⟨S2x2x2x8448x8448, .f32⟩
  | .hbm, ⟨12, _⟩ => ⟨S_, .f32⟩
  | .hbm, ⟨13, _⟩ => ⟨S2x2x2x8448, .f32⟩
  | .hbm, ⟨14, _⟩ => ⟨S_, .f32⟩
  | .hbm, ⟨15, _⟩ => ⟨S2x2x2x8448, .f32⟩
  | .hbm, ⟨16, _⟩ => ⟨S2x2x2x8448, .f32⟩
  | .hbm, ⟨17, _⟩ => ⟨S2x2x2x8448x1, .f32⟩
  | .hbm, ⟨18, _⟩ => ⟨S2x2x2x8448x8448, .f32⟩
  | .hbm, ⟨19, _⟩ => ⟨S2x2x2x8448x8448, .f32⟩
  | .hbm, ⟨20, _⟩ => ⟨S2x2x2x8448x8448, .f32⟩
  | .hbm, ⟨21, _⟩ => ⟨S_, .f32⟩
  | .hbm, ⟨22, _⟩ => ⟨S2x2x2x8448, .f32⟩
  | .hbm, ⟨23, _⟩ => ⟨S2x2x2x8448x1, .f32⟩
  | .hbm, ⟨24, _⟩ => ⟨S2x2x2x8448x8448, .f32⟩
  | .hbm, ⟨25, _⟩ => ⟨S2x2x2x8448x8448, .f32⟩
  | .hbm, ⟨26, _⟩ => ⟨S2x2x64x2x8448, .f32⟩
  | .hbm, ⟨27, _⟩ => ⟨S2x8448x2x2x64, .f32⟩
  | .hbm, ⟨28, _⟩ => ⟨S2x8448x256, .f32⟩
  | _, _ => ⟨S2x8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Ffn.lean ====
abbrev S2x8192x1024 : Shape := ⟨3, ![2, 8192, 1024]⟩
abbrev S2x2x8x1024 : Shape := ⟨4, ![2, 2, 8, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S1x256x1024 : Shape := ⟨3, ![1, 256, 1024]⟩
abbrev S1x8x1024 : Shape := ⟨3, ![1, 8, 1024]⟩
abbrev S1x1x8x1024 : Shape := ⟨4, ![1, 1, 8, 1024]⟩
abbrev S1x1x1x1024 : Shape := ⟨4, ![1, 1, 1, 1024]⟩
abbrev S256x1024 : Shape := ⟨2, ![256, 1024]⟩
abbrev S8x1024 : Shape := ⟨2, ![8, 1024]⟩
abbrev S272x1024 : Shape := ⟨2, ![272, 1024]⟩
abbrev S1024x256 : Shape := ⟨2, ![1024, 256]⟩
abbrev S272x256 : Shape := ⟨2, ![272, 256]⟩
abbrev S3x256 : Shape := ⟨2, ![3, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x2x8x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S1x256x1024, .f32⟩
  | .local _ .vmem, ⟨15, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S2x8192x1024 : Shape := ⟨3, ![2, 8192, 1024]⟩
abbrev S2x2x8x1024 : Shape := ⟨4, ![2, 2, 8, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S2x1x1x1024 : Shape := ⟨4, ![2, 1, 1, 1024]⟩
abbrev S2x1x1024 : Shape := ⟨3, ![2, 1, 1024]⟩
abbrev S_ : Shape := ⟨0, ![]⟩
abbrev S2x8192x5632 : Shape := ⟨3, ![2, 8192, 5632]⟩
abbrev S2x8194x5632 : Shape := ⟨3, ![2, 8194, 5632]⟩
abbrev S5632 : Shape := ⟨1, ![5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x8x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S2x1x1x1024, .f32⟩
  | .hbm, ⟨9, _⟩ => ⟨S2x1x1024, .f32⟩
  | .hbm, ⟨10, _⟩ => ⟨S2x1x1x1024, .f32⟩
  | .hbm, ⟨11, _⟩ => ⟨S2x1x1024, .f32⟩
  | .hbm, ⟨12, _⟩ => ⟨S2x1x1x1024, .f32⟩
  | .hbm, ⟨13, _⟩ => ⟨S2x1x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S1024x5632, .f32⟩
  | .hbm, ⟨22, _⟩ => ⟨S2x8192x5632, .f32⟩
  | .hbm, ⟨23, _⟩ => ⟨S_, .i32⟩
  | .hbm, ⟨24, _⟩ => ⟨S_, .f32⟩
  | .hbm, ⟨25, _⟩ => ⟨S2x8194x5632, .f32⟩
  | .hbm, ⟨26, _⟩ => ⟨S2x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S2x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S2x8192x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S5632, .f32⟩
  | .hbm, ⟨47, _⟩ => ⟨S1x1x5632, .f32⟩
  | .hbm, ⟨48, _⟩ => ⟨S2x8192x5632, .f32⟩
  | .hbm, ⟨49, _⟩ => ⟨S2x8192x5632, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S_, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2816x1024, .f32⟩
  | .hbm, ⟨63, _⟩ => ⟨S2x8192x1024, .f32⟩
  | .hbm, ⟨64, _⟩ => ⟨S_, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x8192, .f32⟩
  | .hbm, ⟨72, _⟩ => ⟨S2x8192x1, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x8192, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S2x8192x1, .f32⟩
  | .hbm, ⟨91, _⟩ => ⟨S2x8192x1024, .f32⟩
  | .hbm, ⟨92, _⟩ => ⟨S2x8192x1024, .f32⟩
  | .hbm, ⟨93, _⟩ => ⟨S1024, .f32⟩
  | .hbm, ⟨94, _⟩ => ⟨S1x1x1024, .f32⟩
  | .hbm, ⟨95, _⟩ => ⟨S2x8192x1024, .f32⟩
  | .hbm, ⟨96, _⟩ => ⟨S2x8192x1024, .f32⟩
  | .hbm, ⟨97, _⟩ => ⟨S1024, .f32⟩
  | .hbm, ⟨98, _⟩ => ⟨S1x1x1024, .f32⟩
  | .hbm, ⟨99, _⟩ => ⟨S2x8192x1024, .f32⟩
  | .hbm, ⟨100, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_1 : Ref sig .tc := ⟨.hbm, 70, rfl⟩
abbrev main_v50 : Ref sig .tc := ⟨.hbm, 71, rfl⟩
abbrev main_v51 : Ref sig .tc := ⟨.hbm, 72, rfl⟩
abbrev main_cst_2 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_3 : Ref sig .tc := ⟨.hbm, 79, rfl⟩
abbrev main_v57 : Ref sig .tc := ⟨.hbm, 80, rfl⟩
abbrev main_v58 : Ref sig .tc := ⟨.hbm, 81, rfl⟩
abbrev main_cst_4 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== In.lean ====
abbrev S2x8448x1024 : Shape := ⟨3, ![2, 8448, 1024]⟩
abbrev S2x2x8x1024 : Shape := ⟨4, ![2, 2, 8, 1024]⟩
abbrev S1024x3072 : Shape := ⟨2, ![1024, 3072]⟩
abbrev S8192x2x16 : Shape := ⟨3, ![8192, 2, 16]⟩
abbrev S2x64 : Shape := ⟨2, ![2, 64]⟩
abbrev S256x256 : Shape := ⟨2, ![256, 256]⟩
abbrev S_ : Shape := ⟨0, ![]⟩
abbrev S8192x2x1x16 : Shape := ⟨4, ![8192, 2, 1, 16]⟩
abbrev S8192x2x1x2x16 : Shape := ⟨5, ![8192, 2, 1, 2, 16]⟩
abbrev S8192x2x2x16 : Shape := ⟨4, ![8192, 2, 2, 16]⟩
abbrev S8192x64 : Shape := ⟨2, ![8192, 64]⟩
abbrev S256x64 : Shape := ⟨2, ![256, 64]⟩
abbrev S8448x64 : Shape := ⟨2, ![8448, 64]⟩
abbrev S1x8448x1x64 : Shape := ⟨4, ![1, 8448, 1, 64]⟩
abbrev S1x8448x4x64 : Shape := ⟨4, ![1, 8448, 4, 64]⟩
abbrev S8448x256 : Shape := ⟨2, ![8448, 256]⟩
abbrev S1x2x1x64 : Shape := ⟨4, ![1, 2, 1, 64]⟩
abbrev S1x2x4x64 : Shape := ⟨4, ![1, 2, 4, 64]⟩
abbrev S2x256 : Shape := ⟨2, ![2, 256]⟩
abbrev S2x8448x256 : Shape := ⟨3, ![2, 8448, 256]⟩
abbrev S2x128x8448 : Shape := ⟨3, ![2, 128, 8448]⟩
abbrev S2x8448x128 : Shape := ⟨3, ![2, 8448, 128]⟩
abbrev S2x33x128x256 : Shape := ⟨4, ![2, 33, 128, 256]⟩
abbrev S2x8448x1280 : Shape := ⟨3, ![2, 8448, 1280]⟩
abbrev S1x256x1024 : Shape := ⟨3, ![1, 256, 1024]⟩
abbrev S1x1x8x1024 : Shape := ⟨4, ![1, 1, 8, 1024]⟩
abbrev S1x256x256 : Shape := ⟨3, ![1, 256, 256]⟩
abbrev S1x128x256 : Shape := ⟨3, ![1, 128, 256]⟩
abbrev S1x256x128 : Shape := ⟨3, ![1, 256, 128]⟩
abbrev S1x1x128x256 : Shape := ⟨4, ![1, 1, 128, 256]⟩
abbrev S1x256x1280 : Shape := ⟨3, ![1, 256, 1280]⟩
abbrev S1x1x1x1024 : Shape := ⟨4, ![1, 1, 1, 1024]⟩
abbrev S1x1024 : Shape := ⟨2, ![1, 1024]⟩
abbrev S256x1024 : Shape := ⟨2, ![256, 1024]⟩
abbrev S1024x512 : Shape := ⟨2, ![1024, 512]⟩
abbrev S256x512 : Shape := ⟨2, ![256, 512]⟩
abbrev S256x128 : Shape := ⟨2, ![256, 128]⟩
abbrev S128x256 : Shape := ⟨2, ![128, 256]⟩
abbrev S1x256 : Shape := ⟨2, ![1, 256]⟩
abbrev S128x128 : Shape := ⟨2, ![128, 128]⟩
abbrev S1x128 : Shape := ⟨2, ![1, 128]⟩
abbrev S1024x1280 : Shape := ⟨2, ![1024, 1280]⟩
abbrev S256x1280 : Shape := ⟨2, ![256, 1280]⟩
abbrev S1024x768 : Shape := ⟨2, ![1024, 768]⟩
abbrev S256x768 : Shape := ⟨2, ![256, 768]⟩

abbrev nBuf : Space → Nat
  | .hbm => 50
  | .vmem => 31
  | .smem => 0
  | _ => 0

abbrev bufTy : (tb : Table) → Fin (tcTables nBuf tb) → BufTy
  | .hbm, ⟨0, _⟩ => ⟨S2x8448x1024, .f32⟩
  | .hbm, ⟨1, _⟩ => ⟨S2x2x8x1024, .f32⟩
  | .hbm, ⟨2, _⟩ => ⟨S1024x3072, .bf16⟩
  | .hbm, ⟨3, _⟩ => ⟨S8192x2x16, .f32⟩
  | .hbm, ⟨4, _⟩ => ⟨S8192x2x16, .f32⟩
  | .hbm, ⟨5, _⟩ => ⟨S2x64, .f32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .bf16⟩
  | .hbm, ⟨16, _⟩ => ⟨S8192x2x1x16, .f32⟩
  | .hbm, ⟨17, _⟩ => ⟨S8192x2x1x2x16, .f32⟩
  | .hbm, ⟨18, _⟩ => ⟨S8192x2x2x16, .f32⟩
  | .hbm, ⟨19, _⟩ => ⟨S8192x64, .f32⟩
  | .hbm, ⟨20, _⟩ => ⟨S8192x2x16, .f32⟩
  | .hbm, ⟨21, _⟩ => ⟨S8192x2x1x16, .f32⟩
  | .hbm, ⟨22, _⟩ => ⟨S8192x2x1x16, .f32⟩
  | .hbm, ⟨23, _⟩ => ⟨S8192x2x2x16, .f32⟩
  | .hbm, ⟨24, _⟩ => ⟨S8192x64, .f32⟩
  | .hbm, ⟨25, _⟩ => ⟨S_, .f32⟩
  | .hbm, ⟨26, _⟩ => ⟨S256x64, .f32⟩
  | .hbm, ⟨27, _⟩ => ⟨S8448x64, .f32⟩
  | .hbm, ⟨28, _⟩ => ⟨S1x8448x1x64, .f32⟩
  | .hbm, ⟨29, _⟩ => ⟨S1x8448x4x64, .f32⟩
  | .hbm, ⟨30, _⟩ => ⟨S8448x256, .f32⟩
  | .hbm, ⟨31, _⟩ => ⟨S_, .f32⟩
  | .hbm, ⟨32, _⟩ => ⟨S256x64, .f32⟩
  | .hbm, ⟨33, _⟩ => ⟨S8448x64, .f32⟩
  | .hbm, ⟨34, _⟩ => ⟨S1x8448x1x64, .f32⟩
  | .hbm, ⟨35, _⟩ => ⟨S1x8448x4x64, .f32⟩
  | .hbm, ⟨36, _⟩ => ⟨S8448x256, .f32⟩
  | .hbm, ⟨37, _⟩ => ⟨S1x2x1x64, .f32⟩
  | .hbm, ⟨38, _⟩ => ⟨S1x2x4x64, .f32⟩
  | .hbm, ⟨39, _⟩ => ⟨S2x256, .f32⟩
  | .hbm, ⟨40, _⟩ => ⟨S2x8448x256, .bf16⟩
  | .hbm, ⟨41, _⟩ => ⟨S2x128x8448, .bf16⟩
  | .hbm, ⟨42, _⟩ => ⟨S2x8448x128, .bf16⟩
  | .hbm, ⟨43, _⟩ => ⟨S2x8448x256, .bf16⟩
  | .hbm, ⟨44, _⟩ => ⟨S2x33x128x256, .bf16⟩
  | .hbm, ⟨45, _⟩ => ⟨S2x8448x128, .bf16⟩
  | .hbm, ⟨46, _⟩ => ⟨S2x8448x1280, .f32⟩
  | .hbm, ⟨47, _⟩ => ⟨S2x8448x256, .bf16⟩
  | .hbm, ⟨48, _⟩ => ⟨S2x8448x256, .bf16⟩
  | .hbm, ⟨49, _⟩ => ⟨S2x8448x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1024x3072, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S2x256, .f32⟩
  | .local _ .vmem, ⟨10, _⟩ => ⟨S256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x256, .bf16⟩
  | .local _ .vmem, ⟨18, _⟩ => ⟨S1x256x256, .bf16⟩
  | .local _ .vmem, ⟨19, _⟩ => ⟨S1x1x128x256, .bf16⟩
  | .local _ .vmem, ⟨20, _⟩ => ⟨S1x1x128x256, .bf16⟩
  | .local _ .vmem, ⟨21, _⟩ => ⟨S1x256x128, .bf16⟩
  | .local _ .vmem, ⟨22, _⟩ => ⟨S1x256x128, .bf16⟩
  | .local _ .vmem, ⟨23, _⟩ => ⟨S1x256x1280, .f32⟩
  | .local _ .vmem, ⟨24, _⟩ => ⟨S1x256x1280, .f32⟩
  | .local _ .vmem, ⟨25, _⟩ => ⟨S1x256x256, .bf16⟩
  | .local _ .vmem, ⟨26, _⟩ => ⟨S1x256x256, .bf16⟩
  | .local _ .vmem, ⟨27, _⟩ => ⟨S1x256x256, .bf16⟩
  | .local _ .vmem, ⟨28, _⟩ => ⟨S1x256x256, .bf16⟩
  | .local _ .vmem, ⟨29, _⟩ => ⟨S1x256x256, .bf16⟩
  | .local _ .vmem, ⟨30, _⟩ => ⟨S1x256x256, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev main_v30_5 : Ref sig .tc := ⟨.hbm, 45, rfl⟩
abbrev main_v30_6 : Ref sig .tc := ⟨.hbm, 46, rfl⟩
abbrev main_v30_7 : Ref sig .tc := ⟨.hbm, 47, rfl⟩
abbrev main_v30_8 : Ref sig .tc := ⟨.hbm, 48, rfl⟩
abbrev main_v30_9 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InRefIdeal.lean ====
abbrev S2x8448x1024 : Shape := ⟨3, ![2, 8448, 1024]⟩
abbrev S2x2x8x1024 : Shape := ⟨4, ![2, 2, 8, 1024]⟩
abbrev S1024x3072 : Shape := ⟨2, ![1024, 3072]⟩
abbrev S8192x2x16 : Shape := ⟨3, ![8192, 2, 16]⟩
abbrev S2x64 : Shape := ⟨2, ![2, 64]⟩
abbrev S8448 : Shape := ⟨1, ![8448]⟩
abbrev S8448x1x1 : Shape := ⟨3, ![8448, 1, 1]⟩
abbrev S_ : Shape := ⟨0, ![]⟩
abbrev S2x1x8x1024 : Shape := ⟨4, ![2, 1, 8, 1024]⟩
abbrev S2x8x1024 : Shape := ⟨3, ![2, 8, 1024]⟩
abbrev S2x8448x8x1024 : Shape := ⟨4, ![2, 8448, 8, 1024]⟩
abbrev S2x8448x1x1024 : Shape := ⟨4, ![2, 8448, 1, 1024]⟩
abbrev S2x8448x3072 : Shape := ⟨3, ![2, 8448, 3072]⟩
abbrev S2x8448x256 : Shape := ⟨3, ![2, 8448, 256]⟩
abbrev S2x8448x4x64 : Shape := ⟨4, ![2, 8448, 4, 64]⟩
abbrev S1x64 : Shape := ⟨2, ![1, 64]⟩
abbrev S64 : Shape := ⟨1, ![64]⟩
abbrev S2x8448x4 : Shape := ⟨3, ![2, 8448, 4]⟩
abbrev S2x8448x4x1 : Shape := ⟨4, ![2, 8448, 4, 1]⟩
abbrev S1x1x1x64 : Shape := ⟨4, ![1, 1, 1, 64]⟩
abbrev S2x8448x128 : Shape := ⟨3, ![2, 8448, 128]⟩
abbrev S2x8448x2x64 : Shape := ⟨4, ![2, 8448, 2, 64]⟩
abbrev S2x8448x2 : Shape := ⟨3, ![2, 8448, 2]⟩
abbrev S2x8448x2x1 : Shape := ⟨4, ![2, 8448, 2, 1]⟩
abbrev S2x8448x384 : Shape := ⟨3, ![2, 8448, 384]⟩
abbrev S2x8448x6x64 : Shape := ⟨4, ![2, 8448, 6, 64]⟩
abbrev S2x8448x12x64 : Shape := ⟨4, ![2, 8448, 12, 64]⟩
abbrev S2x8192x12x64 : Shape := ⟨4, ![2, 8192, 12, 64]⟩
abbrev S2x8192x24x2x16 : Shape := ⟨5, ![2, 8192, 24, 2, 16]⟩
abbrev S2x8192x24x1x16 : Shape := ⟨5, ![2, 8192, 24, 1, 16]⟩
abbrev S2x8192x24x16 : Shape := ⟨4, ![2, 8192, 24, 16]⟩
abbrev S8192x1x2x16 : Shape := ⟨4, ![8192, 1, 2, 16]⟩
abbrev S8192x12x2x16 : Shape := ⟨4, ![8192, 12, 2, 16]⟩
abbrev S8192x24x16 : Shape := ⟨3, ![8192, 24, 16]⟩
abbrev S1x8192x24x16 : Shape := ⟨4, ![1, 8192, 24, 16]⟩
abbrev S2x256x12x64 : Shape := ⟨4, ![2, 256, 12, 64]⟩
abbrev S2x128x8448 : Shape := ⟨3, ![2, 128, 8448]⟩
abbrev S2x33x256x128 : Shape := ⟨4, ![2, 33, 256, 128]⟩
abbrev S2x33x128x256 : Shape := ⟨4, ![2, 33, 128, 256]⟩
abbrev S2x8448x1280 : Shape := ⟨3, ![2, 8448, 1280]⟩

abbrev nBuf : Space → Nat
  | .hbm => 141
  | .vmem => 0
  | .smem => 0
  | _ => 0

abbrev hbmTy0_0 (i : Nat) : BufTy := match i % 128 with
  | 0 => ⟨S2x8448x1024, .f32⟩
  | 1 => ⟨S2x2x8x1024, .f32⟩
  | 2 => ⟨S1024x3072, .bf16⟩
  | 3 => ⟨S8192x2x16, .f32⟩
  | 4 => ⟨S8192x2x16, .f32⟩
  | 5 => ⟨S2x64, .f32⟩
  | 6 => ⟨S8448, .i32⟩
  | 7 => ⟨S8448x1x1, .i32⟩
  | 8 => ⟨S_, .i32⟩
  | 9 => ⟨S8448x1x1, .i32⟩
  | 10 => ⟨S8448x1x1, .i1⟩
  | 11 => ⟨S2x1x8x1024, .f32⟩
  | 12 => ⟨S2x8x1024, .f32⟩
  | 13 => ⟨S2x1x8x1024, .f32⟩
  | 14 => ⟨S2x1x8x1024, .f32⟩
  | 15 => ⟨S2x8x1024, .f32⟩
  | 16 => ⟨S2x1x8x1024, .f32⟩
  | 17 => ⟨S2x8448x8x1024, .i1⟩
  | 18 => ⟨S2x8448x8x1024, .f32⟩
  | 19 => ⟨S2x8448x8x1024, .f32⟩
  | 20 => ⟨S2x8448x8x1024, .f32⟩
  | 21 => ⟨S2x8448x1x1024, .f32⟩
  | 22 => ⟨S2x8448x1024, .f32⟩
  | 23 => ⟨S_, .f32⟩
  | 24 => ⟨S2x8448x1024, .f32⟩
  | 25 => ⟨S2x8448x1024, .f32⟩
  | 26 => ⟨S2x8448x1024, .f32⟩
  | 27 => ⟨S2x8448x1x1024, .f32⟩
  | 28 => ⟨S2x8448x1024, .f32⟩
  | 29 => ⟨S2x8448x1024, .f32⟩
  | 30 => ⟨S1024x3072, .f32⟩
  | 31 => ⟨S2x8448x3072, .f32⟩
  | 32 => ⟨S2x8448x256, .f32⟩
  | 33 => ⟨S2x8448x4x64, .f32⟩
  | 34 => ⟨S1x64, .f32⟩
  | 35 => ⟨S64, .f32⟩
  | 36 => ⟨S2x8448x4x64, .f32⟩
  | 37 => ⟨S_, .f32⟩
  | 38 => ⟨S2x8448x4, .f32⟩
  | 39 => ⟨S2x8448x4x1, .f32⟩
  | 40 => ⟨S_, .f32⟩
  | 41 => ⟨S2x8448x4x1, .f32⟩
  | 42 => ⟨S2x8448x4x1, .f32⟩
  | 43 => ⟨S_, .f32⟩
  | 44 => ⟨S2x8448x4x1, .f32⟩
  | 45 => ⟨S2x8448x4x1, .f32⟩
  | 46 => ⟨S2x8448x4x1, .f32⟩
  | 47 => ⟨S2x8448x4x64, .f32⟩
  | 48 => ⟨S2x8448x4x64, .f32⟩
  | 49 => ⟨S1x1x1x64, .f32⟩
  | 50 => ⟨S2x8448x4x64, .f32⟩
  | 51 => ⟨S2x8448x4x64, .f32⟩
  | 52 => ⟨S2x8448x128, .f32⟩
  | 53 => ⟨S2x8448x2x64, .f32⟩
  | 54 => ⟨S1x64, .f32⟩
  | 55 => ⟨S64, .f32⟩
  | 56 => ⟨S2x8448x2x64, .f32⟩
  | 57 => ⟨S_, .f32⟩
  | 58 => ⟨S2x8448x2, .f32⟩
  | 59 => ⟨S2x8448x2x1, .f32⟩
  | 60 => ⟨S_, .f32⟩
  | 61 => ⟨S2x8448x2x1, .f32⟩
  | 62 => ⟨S2x8448x2x1, .f32⟩
  | 63 => ⟨S_, .f32⟩
  | 64 => ⟨S2x8448x2x1, .f32⟩
  | 65 => ⟨S2x8448x2x1, .f32⟩
  | 66 => ⟨S2x8448x2x1, .f32⟩
  | 67 => ⟨S2x8448x2x64, .f32⟩
  | 68 => ⟨S2x8448x2x64, .f32⟩
  | 69 => ⟨S1x1x1x64, .f32⟩
  | 70 => ⟨S2x8448x2x64, .f32⟩
  | 71 => ⟨S2x8448x2x64, .f32⟩
  | 72 => ⟨S2x8448x384, .f32⟩
  | 73 => ⟨S2x8448x6x64, .f32⟩
  | 74 => ⟨S2x8448x12x64, .f32⟩
  | 75 => ⟨S2x8192x12x64, .f32⟩
  | 76 => ⟨S2x8192x24x2x16, .f32⟩
  | 77 => ⟨S2x8192x24x1x16, .f32⟩
  | 78 => ⟨S2x8192x24x16, .f32⟩
  | 79 => ⟨S2x8192x24x1x16, .f32⟩
  | 80 => ⟨S2x8192x24x16, .f32⟩
  | 81 => ⟨S8192x1x2x16, .f32⟩
  | 82 => ⟨S8192x12x2x16, .f32⟩
  | 83 => ⟨S8192x24x16, .f32⟩
  | 84 => ⟨S8192x1x2x16, .f32⟩
  | 85 => ⟨S8192x12x2x16, .f32⟩
  | 86 => ⟨S8192x24x16, .f32⟩
  | 87 => ⟨S1x8192x24x16, .f32⟩
  | 88 => ⟨S2x8192x24x16, .f32⟩
  | 89 => ⟨S2x8192x24x16, .f32⟩
  | 90 => ⟨S1x8192x24x16, .f32⟩
  | 91 => ⟨S2x8192x24x16, .f32⟩
  | 92 => ⟨S2x8192x24x16, .f32⟩
  | 93 => ⟨S2x8192x24x16, .f32⟩
  | 94 => ⟨S1x8192x24x16, .f32⟩
  | 95 => ⟨S2x8192x24x16, .f32⟩
  | 96 => ⟨S2x8192x24x16, .f32⟩
  | 97 => ⟨S1x8192x24x16, .f32⟩
  | 98 => ⟨S2x8192x24x16, .f32⟩
  | 99 => ⟨S2x8192x24x16, .f32⟩
  | 100 => ⟨S2x8192x24x16, .f32⟩
  | 101 => ⟨S2x8192x24x1x16, .f32⟩
  | 102 => ⟨S2x8192x24x1x16, .f32⟩
  | 103 => ⟨S2x8192x24x2x16, .f32⟩
  | 104 => ⟨S2x8192x12x64, .f32⟩
  | 105 => ⟨S2x256x12x64, .f32⟩
  | 106 => ⟨S2x8448x12x64, .f32⟩
  | 107 => ⟨S2x8448x4x64, .f32⟩
  | 108 => ⟨S2x8448x2x64, .f32⟩
  | 109 => ⟨S2x8448x4x64, .f32⟩
  | 110 => ⟨S2x8448x2x64, .f32⟩
  | 111 => ⟨S2x8448x256, .f32⟩
  | 112 => ⟨S_, .f32⟩
  | 113 => ⟨S2x8448x256, .f32⟩
  | 114 => ⟨S2x8448x256, .f32⟩
  | 115 => ⟨S2x8448x128, .f32⟩
  | 116 => ⟨S2x128x8448, .f32⟩
  | 117 => ⟨S2x8448x128, .f32⟩
  | 118 => ⟨S2x8448x256, .f32⟩
  | 119 => ⟨S_, .f32⟩
  | 120 => ⟨S2x8448x256, .f32⟩
  | 121 => ⟨S2x8448x256, .f32⟩
  | 122 => ⟨S2x33x256x128, .f32⟩
  | 123 => ⟨S2x33x128x256, .f32⟩
  | 124 => ⟨S2x8448x128, .f32⟩
  | 125 => ⟨S2x8448x1280, .f32⟩
  | 126 => ⟨S2x8448x256, .f32⟩
  | 127 => ⟨S_, .f32⟩
  | _ => ⟨S2x8448x1024, .f32⟩

abbrev hbmTy0_1 (i : Nat) : BufTy := match i % 128 with
  | 0 => ⟨S2x8448x256, .f32⟩
  | 1 => ⟨S2x8448x256, .f32⟩
  | 2 => ⟨S2x8448x256, .f32⟩
  | 3 => ⟨S2x8448x256, .f32⟩
  | 4 => ⟨S2x8448x256, .bf16⟩
  | 5 => ⟨S2x128x8448, .bf16⟩
  | 6 => ⟨S2x8448x128, .bf16⟩
  | 7 => ⟨S2x8448x256, .bf16⟩
  | 8 => ⟨S2x33x128x256, .bf16⟩
  | 9 => ⟨S2x8448x128, .bf16⟩
  | 10 => ⟨S2x8448x256, .bf16⟩
  | 11 => ⟨S2x8448x256, .bf16⟩
  | 12 => ⟨S2x8448x256, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_6 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_7 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_8 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩

abbrev nD : Nat := 1
abbrev τ : Topo := Topo.v7x

variable {F : FTy → Type} [FloatOps F]
-- ==== Proof.GlobFrame.lean ====
module

public import proofs.«01_k».proof.Defs
public import proofs.«01_k».proof.Proof.Gen.Glob.Frame
public import proofs.«01_k».proof.Proof.Gen.GlobIdeal.Frame
public import proofs.«01_k».proof.Proof.Gen.GlobRefIdeal.Run
public import Idealize.ShloMosaic.Lib.Quiescent

@[expose] public section

noncomputable section

namespace Cert.GlobFrame

open Idealize.ShloMosaic Idealize.ShloMosaic.TcCoe Idealize.SL.Sem

/-- The attention's reference runs, leaves its arguments as they were, and has no counter to leave nonzero. -/
theorem frame_ref : Cert.quiescent_GlobRefIdeal (hGlobRefIdeal := Cert.GlobRefIdeal.Gen.facts) := by
  intro m ρ _
  exact (θ_run Cert.GlobRefIdeal.defs _ _).mono
    (fun r h => ⟨fun c => (h c).2, sem_eq_zero_of_no_sems (by decide) r.2⟩)
    (Cert.GlobRefIdeal.Value.run (F := Ideal) m ρ)

/-- The start of the running maximum, a large negative constant, is taken for minus infinity. -/
theorem preserves : Cert.preserves_Glob_GlobIdeal :=
  IdealRules.named_const.statement Cert.GlobIdeal.κ "mask" .f32 0xF149F2CA#32 ⊥ rfl

end Cert.GlobFrame

end
-- ==== Proof.FfnBlock.lean ====
module

public import proofs.«01_k».proof.Proof.Gen.FfnIdeal.Value
public import Idealize.ShloMosaic.Lib.Pointwise
public import Idealize.ShloMosaic.Lib.IdealHost

@[expose] public section

set_option backward.proofsInPublic true

noncomputable section

namespace Cert.FfnBlock

open Cert.FfnIdeal Cert.FfnIdeal.Gen Idealize.ShloMosaic

variable {F : FTy → Type} [FloatOps F]

/-- The up projection of the 272 staged rows onto 256 columns. -/
def up (H : FVec F S272x1024 .bf16) (w : Vec F S1024x256 .bf16) : FVec F S272x256 .f32 :=
  matmul dot_S272x1024_S1024x256_S272x256_1_0_0_1_n_n none H w (constant S272x256 .f32 0x00000000#32)

/-- The three taps of the convolution along the rows, of 256 columns of the projected rows. -/
def taps (U : FVec F S272x256 .f32) (w : Vec F S3x256 .f32) (b : Vec F S1x256 .f32) : FVec F S256x256 .f32 :=
  addf (addf (addf
    (mulf (extractStridedSlice S256x256 ![8, 0] (dynamicRotate 0 1#32 none U rotates_S272x256_d0) slices_S272x256_o8_0_S256x256)
      (broadcastTo S256x256 (extractStridedSlice S1x256 ![0, 0] w slices_S3x256_o0_0_S1x256) broadcasts_S1x256_S256x256))
    (mulf (extractStridedSlice S256x256 ![8, 0] U slices_S272x256_o8_0_S256x256)
      (broadcastTo S256x256 (extractStridedSlice S1x256 ![1, 0] w slices_S3x256_o1_0_S1x256) broadcasts_S1x256_S256x256)))
    (mulf (extractStridedSlice S256x256 ![8, 0] (dynamicRotate 0 271#32 none U rotates_S272x256_d0) slices_S272x256_o8_0_S256x256)
      (broadcastTo S256x256 (extractStridedSlice S1x256 ![2, 0] w slices_S3x256_o2_0_S1x256) broadcasts_S1x256_S256x256)))
    (broadcastTo S256x256 b broadcasts_S1x256_S256x256)

/-- The gate: the first half through `z / (1 + exp (-z))`, times the second half. -/
def gated (a g : FVec F S256x256 .f32) : FVec F S256x256 .bf16 :=
  truncf .bf16 (mulf (mulf a (divf (broadcast S256x256 (Scalar.ofBits .f32 0x3F800000#32))
    (addf (broadcast S256x256 (Scalar.ofBits .f32 0x3F800000#32))
      (exp (subf (broadcast S256x256 (Scalar.ofBits .f32 0x00000000#32)) a))))) g) bitsLt_bf16_f32

/-- The 256 columns from `o` on of the convolved projection. -/
def conv (H : FVec F S272x1024 .bf16) (x4 : Vec F S1024x5632 .bf16) (x5 : Vec F S3x5632 .f32) (x6 : Vec F S1x5632 .f32)
    (o : Nat) (h : o + 256 ≤ 5632) : FVec F S256x256 .f32 :=
  taps (up H (View.ld x4 (Rect.unit (s := S1024x5632) ![0, o] S1024x256.size (fun a => by fin_cases a <;> simp <;> omega))))
    (View.ld x5 (Rect.unit (s := S3x5632) ![0, o] S3x256.size (fun a => by fin_cases a <;> simp <;> omega)))
    (View.ld x6 (Rect.unit (s := S1x5632) ![0, o] S1x256.size (fun a => by fin_cases a <;> simp <;> omega)))

/-- One step of the sum over the hidden units: the 256 units from `o` on, taken down. -/
def step (H : FVec F S272x1024 .bf16) (x4 : Vec F S1024x5632 .bf16) (x5 : Vec F S3x5632 .f32) (x6 : Vec F S1x5632 .f32)
    (x7 : Vec F S2816x1024 .bf16) (o : Nat) (h : o + 256 ≤ 2816) (acc : FVec F S256x1024 .f32) : FVec F S256x1024 .f32 :=
  addf acc (matmul dot_S256x256_S256x1024_S256x1024_1_0_0_1_n_n none
    (gated (conv H x4 x5 x6 o (by omega)) (conv H x4 x5 x6 (2816 + o) (by omega)))
    (View.ld x7 (Rect.unit (s := S2816x1024) ![o, 0] S256x1024.size (fun a => by fin_cases a <;> simp <;> omega)))
    (constant S256x1024 .f32 0x00000000#32))

/-- The residual sum before its normalisation. -/
def resid (g : Vec F S1x1x1x1024 .f32) (x : Vec F S1x256x1024 .f32) (acc : FVec F S256x1024 .f32) : FVec F S256x1024 .f32 :=
  addf (mulf (broadcast S256x1024 (Scalar.ofBits .f32 0x3FB504F3#32)) (k0_pay5 x))
    (mulf (broadcastTo S256x1024 (k0_pay4 g) broadcasts_S1x1024_S256x1024) acc)

/-- The mean of each row. -/
def rowMean (y : FVec F S256x1024 .f32) : FVec F S256x1 .f32 :=
  divf (shapeCast S256x1 (multiReduction .add [1] S256 y 0x00000000#32 reduces_S256x1024_S256 (.inl rfl) rfl) shapeCasts_S256_S256x1)
    (broadcast S256x1 (Scalar.ofBits .f32 0x44800000#32))

/-- The rows less their means. -/
def centred (y : FVec F S256x1024 .f32) : FVec F S256x1024 .f32 :=
  subf y (broadcastTo S256x1024 (rowMean y) broadcasts_S256x1_S256x1024)

/-- The normalised rows. -/
def normed (y : FVec F S256x1024 .f32) : FVec F S256x1024 .f32 :=
  mulf (centred y) (broadcastTo S256x1024 (rsqrt (addf (rowMean (mulf (centred y) (centred y)))
    (broadcast S256x1 (Scalar.ofBits .f32 0x358637BD#32)))) broadcasts_S256x1_S256x1024)

set_option maxRecDepth 65536 in
/-- A point's block, as eleven steps of the sum over the hidden units and a normalisation. -/
theorem out_eq (i : grid0.Coords) (x0 : Vec F S1x256x1024 .f32) (x1 : Vec F S1x8x1024 .f32) (x2 : Vec F S1x8x1024 .f32) (x3 : Vec F S1x1x8x1024 .f32) (x4 : Vec F S1024x5632 .bf16) (x5 : Vec F S3x5632 .f32) (x6 : Vec F S1x5632 .f32) (x7 : Vec F S2816x1024 .bf16) (x8 : Vec F S1x1024 .f32) (x9 : Vec F S1x1024 .f32) :
    out0_10 i x0 x1 x2 x3 x4 x5 x6 x7 x8 x9 =
      View.canon [⟨r0_3, k0_pay1 (View.ld x8 r0_82) (View.ld x9 r0_82) (normed (resid (View.ld x3 r0_2) (View.ld x0 r0_3)
        (let H := k0_pay65 i x0 x1 x2 x3 x4 x5 x6 x7 x8 x9
         let s := step H x4 x5 x6 x7
         s 2560 (by omega) (s 2304 (by omega) (s 2048 (by omega) (s 1792 (by omega) (s 1536 (by omega) (s 1280 (by omega)
          (s 1024 (by omega) (s 768 (by omega) (s 512 (by omega) (s 256 (by omega) (s 0 (by omega)
            (broadcast S256x1024 (Scalar.ofBits .f32 0x00000000#32)))))))))))))))⟩] := by
  rfl

end Cert.FfnBlock

end
-- ==== Proof.FfnSpec.lean ====
module

public import Idealize.ShloMosaic.Lib.Pointwise
public import Idealize.ShloMosaic.Lib.IdealHost

@[expose] public section

set_option backward.proofsInPublic true

noncomputable section

namespace Cert.FfnSpec

open Idealize.ShloMosaic

/-- An array of extended reals of the given sizes. -/
abbrev Arr (s : Shape) := s.Idx → EReal

variable (h : Arr ⟨3, ![2, 8192, 1024]⟩) (md : Arr ⟨4, ![2, 2, 8, 1024]⟩) (wu : Arr ⟨2, ![1024, 5632]⟩)
  (cw : Arr ⟨2, ![3, 5632]⟩) (cb : Arr ⟨2, ![1, 5632]⟩) (wd : Arr ⟨2, ![2816, 1024]⟩)
  (lg lb : Arr ⟨2, ![1, 1024]⟩)

/-- The modulated row. -/
def hm (b : Fin 2) (p : Fin 8192) (k : Fin 1024) : EReal :=
  h (ix3 b p k) * (1 + md (ix4 b 0 4 k)) + md (ix4 b 0 3 k)

/-- The up projection. -/
def proj (b : Fin 2) (p : Fin 8192) (c : Fin 5632) : EReal := ∑ k, hm h md b p k * wu (ix2 k c)

/-- The up projection with a row of zeros before and after: row `q` of the padded sequence. -/
def padded (b : Fin 2) (q : ℕ) (c : Fin 5632) : EReal :=
  if hq : 1 ≤ q ∧ q ≤ 8192 then proj h md wu b ⟨q - 1, by omega⟩ c else 0

/-- The convolution of three taps along the sequence. -/
def convd (b : Fin 2) (p : ℕ) (c : Fin 5632) : EReal :=
  padded h md wu b p c * cw (ix2 0 c) + padded h md wu b (p + 1) c * cw (ix2 1 c)
    + padded h md wu b (p + 2) c * cw (ix2 2 c) + cb (ix2 0 c)

/-- The gated hidden unit `k`. -/
def act (b : Fin 2) (p : ℕ) (k : Fin 2816) : EReal :=
  convd h md wu cw cb b p ⟨k.val, by omega⟩
    * Ideal.div 1 (1 + Ideal.exp (-convd h md wu cw cb b p ⟨k.val, by omega⟩))
    * convd h md wu cw cb b p ⟨2816 + k.val, by omega⟩

/-- The down projection. -/
def down (b : Fin 2) (p : ℕ) (n : Fin 1024) : EReal := ∑ k, act h md wu cw cb b p k * wd (ix2 k n)

/-- The residual sum. -/
def res (b : Fin 2) (p : Fin 8192) (n : Fin 1024) : EReal :=
  Ideal.ofBits FTy.f32 0x3FB504F3#32 * h (ix3 b p n) + md (ix4 b 0 5 n) * down h md wu cw cb wd b p n

/-- A row less its mean. -/
def centre (y : Fin 1024 → EReal) (n : Fin 1024) : EReal := y n - Ideal.div (∑ k, y k) (Ideal.ofBits FTy.f32 0x44800000#32)

/-- A row's layer normalisation, without gain and bias. -/
def normRow (y : Fin 1024 → EReal) (n : Fin 1024) : EReal :=
  centre y n * Ideal.rsqrt (Ideal.div (∑ k, centre y k * centre y k) (Ideal.ofBits FTy.f32 0x44800000#32)
    + Ideal.ofBits FTy.f32 0x358637BD#32)

/-- The feed-forward layer's result. -/
def out (b : Fin 2) (p : Fin 8192) (n : Fin 1024) : EReal :=
  normRow (res h md wu cw cb wd b p) n * lg (ix2 0 n) + lb (ix2 0 n)

/-- A sum over 2816 units taken in eleven runs of 256. -/
theorem sum_runs (f : Fin 2816 → EReal) : ∑ k, f k =
    ∑ t : Fin 11, ∑ x : Fin 256, f ⟨256 * t.val + x.val, by omega⟩ := by
  rw [Fin.sum_univ_tiles 11 256 rfl f]
  exact Finset.sum_congr rfl fun t _ => Finset.sum_congr rfl fun x _ => congrArg f (Fin.ext (by simp; omega))

/-- A sum of eleven terms, added one after the other from zero. -/
theorem sum_eleven (g : Fin 11 → EReal) :
    ∑ t, g t = 0 + g 0 + g 1 + g 2 + g 3 + g 4 + g 5 + g 6 + g 7 + g 8 + g 9 + g 10 := by
  simp only [Fin.sum_univ_castSucc, Fin.sum_univ_zero]
  rfl

end Cert.FfnSpec

end
-- ==== Proof.FfnKernel.lean ====
module

public import proofs.«01_k».proof.Proof.FfnBlock
public import proofs.«01_k».proof.Proof.FfnSpec

@[expose] public section

set_option backward.proofsInPublic true

noncomputable section

namespace Cert.FfnBlock

open Cert.FfnIdeal Cert.FfnIdeal.Gen Idealize.ShloMosaic Cert.FfnSpec

/-- The flags of the two halo rows: row before is there unless the tile is the first, row after unless it is the last. -/
theorem flags (j : Fin 32) :
    Scalar.andi (Scalar.cmpi .ne (BitVec.ofNat 32 j.val) 0#32) (Scalar.cmpi .ne (BitVec.ofNat 32 j.val) 32#32)
        = (if j.val = 0 then 0#1 else 1#1)
    ∧ Scalar.andi (Scalar.cmpi .ne (BitVec.ofNat 32 j.val) 31#32) (Scalar.cmpi .ne (BitVec.ofNat 32 j.val) 31#32)
        = (if j.val = 31 then 0#1 else 1#1) := by
  revert j
  decide

/-- The convolution of one run of 256 columns, element by element. -/
theorem conv_apply (H : FVec Ideal S272x1024 .bf16) (x4 : Vec Ideal S1024x5632 .bf16) (x5 : Vec Ideal S3x5632 .f32)
    (x6 : Vec Ideal S1x5632 .f32) (o : Nat) (h : o + 256 ≤ 5632) (r c : Fin 256) :
    conv H x4 x5 x6 o h (ix2 r c)
      = (∑ k, H (ix2 ⟨7 + r.val, by omega⟩ k) * x4 (ix2 k ⟨o + c.val, by omega⟩)) * x5 (ix2 0 ⟨o + c.val, by omega⟩)
        + (∑ k, H (ix2 ⟨8 + r.val, by omega⟩ k) * x4 (ix2 k ⟨o + c.val, by omega⟩)) * x5 (ix2 1 ⟨o + c.val, by omega⟩)
        + (∑ k, H (ix2 ⟨9 + r.val, by omega⟩ k) * x4 (ix2 k ⟨o + c.val, by omega⟩)) * x5 (ix2 2 ⟨o + c.val, by omega⟩)
        + x6 (ix2 0 ⟨o + c.val, by omega⟩) := by
  pointwise [conv, taps, up]
  have e1 : (⟨(8 + r.val + 272 - 1) % 272, Nat.mod_lt _ (by omega)⟩ : Fin 272) = ⟨7 + r.val, by omega⟩ :=
    Fin.ext (by show (8 + r.val + 272 - 1) % 272 = 7 + r.val; omega)
  have e2 : (⟨(8 + r.val + 272 - 271) % 272, Nat.mod_lt _ (by omega)⟩ : Fin 272) = ⟨9 + r.val, by omega⟩ :=
    Fin.ext (by show (8 + r.val + 272 - 271) % 272 = 9 + r.val; omega)
  rw [e1, e2]

/-- One step of the sum over the hidden units, element by element. -/
theorem step_apply (H : FVec Ideal S272x1024 .bf16) (x4 : Vec Ideal S1024x5632 .bf16) (x5 : Vec Ideal S3x5632 .f32)
    (x6 : Vec Ideal S1x5632 .f32) (x7 : Vec Ideal S2816x1024 .bf16) (o : Nat) (h : o + 256 ≤ 2816)
    (acc : FVec Ideal S256x1024 .f32) (r : Fin 256) (n : Fin 1024) :
    step H x4 x5 x6 x7 o h acc (ix2 r n) = acc (ix2 r n) + ∑ x : Fin 256,
      conv H x4 x5 x6 o (by omega) (ix2 r x) * Ideal.div 1 (1 + Ideal.exp (-conv H x4 x5 x6 o (by omega) (ix2 r x)))
        * conv H x4 x5 x6 (2816 + o) (by omega) (ix2 r x) * x7 (ix2 ⟨o + x.val, by omega⟩ n) := by
  pointwise [step, gated]
  simp only [zero_sub]

/-- The normalised rows, element by element. -/
theorem normed_apply (y : FVec Ideal S256x1024 .f32) (r : Fin 256) (n : Fin 1024) :
    normed y (ix2 r n) = normRow (fun k => y (ix2 r k)) n := by
  pointwise [normed, centred, rowMean]
  rfl

section block

variable (h : Arr ⟨3, ![2, 8192, 1024]⟩) (md : Arr ⟨4, ![2, 2, 8, 1024]⟩)
  (x4 : Arr ⟨2, ![1024, 5632]⟩) (x5 : Arr ⟨2, ![3, 5632]⟩) (x6 : Arr ⟨2, ![1, 5632]⟩) (x7 : Arr ⟨2, ![2816, 1024]⟩)
  (x8 x9 : Arr ⟨2, ![1, 1024]⟩)
variable (i : grid0.Coords) (b : Fin 2) (j : Fin 32) (hj : (i 1).val = j.val)
  (x0 : Vec Ideal S1x256x1024 .f32) (x1 x2 : Vec Ideal S1x8x1024 .f32) (x3 : Vec Ideal S1x1x8x1024 .f32)
  (h0 : ∀ (r : Fin 256) (p : Fin 8192), p.val = 256 * j.val + r.val → ∀ k, x0 (ix3 0 r k) = h (ix3 b p k))
  (h1 : ∀ p : Fin 8192, p.val + 1 = 256 * j.val → ∀ k, x1 (ix3 0 7 k) = h (ix3 b p k))
  (h2 : ∀ p : Fin 8192, p.val = 256 * j.val + 256 → ∀ k, x2 (ix3 0 0 k) = h (ix3 b p k))
  (h3 : ∀ q k, x3 (ix4 0 0 q k) = md (ix4 b 0 q k))
include hj h0 h1 h2 h3

/-- The staged rows 7 to 264, projected up, are rows `256 j` to `256 j + 257` of the padded projection. -/
theorem row_eq (a : Fin 272) (ha : 7 ≤ a.val) (ha' : a.val ≤ 264) (c : Fin 5632) :
    ∑ k, k0_pay65 (F := Ideal) i x0 x1 x2 x3 x4 x5 x6 x7 x8 x9 (ix2 a k) * x4 (ix2 k c)
      = padded h md x4 b (256 * j.val + (a.val - 7)) c := by
  obtain ⟨f1, f2⟩ := flags j
  have e : ∀ k, k0_pay65 (F := Ideal) i x0 x1 x2 x3 x4 x5 x6 x7 x8 x9 (ix2 a k)
      = if hq : 1 ≤ 256 * j.val + (a.val - 7) ∧ 256 * j.val + (a.val - 7) ≤ 8192 then
          hm h md b ⟨256 * j.val + (a.val - 7) - 1, by omega⟩ k else 0 := by
    intro k
    pointwise [k0_pay65, k0_pay61, k0_pay62, k0_pay63, k0_pay64, k0_pay9, k0_pay2, k0_pay3, k0_pay7, k0_pay8, k0_pay5, k0_pay6]
    rw [hj, f1, f2, h3, h3]
    by_cases c1 : a.val < 8
    · rw [dif_pos c1]
      have ea : (⟨a.val, by omega⟩ : Fin 8) = 7 := Fin.ext (by show a.val = 7; omega)
      by_cases cj : j.val = 0
      · rw [if_pos cj, dif_neg (by omega)]
        rfl
      · rw [if_neg cj, dif_pos (by omega), ea,
          h1 ⟨256 * j.val + (a.val - 7) - 1, by omega⟩ (by show 256 * j.val + (a.val - 7) - 1 + 1 = 256 * j.val; omega)]
        rfl
    · rw [dif_neg c1]
      by_cases c2 : a.val - 8 < 256
      · rw [dif_pos c2, dif_pos (by omega), h0 _ ⟨256 * j.val + (a.val - 7) - 1, by omega⟩
          (by show 256 * j.val + (a.val - 7) - 1 = 256 * j.val + (a.val - 8); omega)]
        rfl
      · rw [dif_neg c2]
        have ea : (⟨a.val - 8 - 256, by omega⟩ : Fin 8) = 0 := Fin.ext (by show a.val - 8 - 256 = 0; omega)
        by_cases cj : j.val = 31
        · rw [if_pos cj, dif_neg (by omega)]
          rfl
        · rw [if_neg cj, dif_pos (by omega), ea, h2 ⟨256 * j.val + (a.val - 7) - 1, by omega⟩
            (by show 256 * j.val + (a.val - 7) - 1 = 256 * j.val + 256; omega)]
          rfl
  simp only [e]
  unfold padded
  by_cases hq : 1 ≤ 256 * j.val + (a.val - 7) ∧ 256 * j.val + (a.val - 7) ≤ 8192
  · simp only [dif_pos hq]
    rfl
  · simp only [dif_neg hq, zero_mul, Finset.sum_const_zero]

/-- The kernel's convolution is the padded sequence's. -/
theorem conv_eq (o : Nat) (ho : o + 256 ≤ 5632) (r c : Fin 256) :
    conv (F := Ideal) (k0_pay65 i x0 x1 x2 x3 x4 x5 x6 x7 x8 x9) x4 x5 x6 o ho (ix2 r c)
      = convd h md x4 x5 x6 b (256 * j.val + r.val) ⟨o + c.val, by omega⟩ := by
  rw [conv_apply]
  have R := row_eq h md x4 x5 x6 x7 x8 x9 i b j hj x0 x1 x2 x3 h0 h1 h2 h3
  rw [R ⟨7 + r.val, by omega⟩ (by simp) (by simp; omega), R ⟨8 + r.val, by omega⟩ (by simp; omega) (by simp; omega),
    R ⟨9 + r.val, by omega⟩ (by simp; omega) (by simp; omega)]
  unfold convd
  have e0 : 256 * j.val + (7 + r.val - 7) = 256 * j.val + r.val := by omega
  have e1 : 256 * j.val + (8 + r.val - 7) = 256 * j.val + r.val + 1 := by omega
  have e2 : 256 * j.val + (9 + r.val - 7) = 256 * j.val + r.val + 2 := by omega
  simp only [e0, e1, e2]

/-- One step adds the run of 256 hidden units from `o` on. -/
theorem step_eq (t : Fin 11) (o : Nat) (ho : o + 256 ≤ 2816) (hot : o = 256 * t.val) (acc : FVec Ideal S256x1024 .f32)
    (r : Fin 256) (n : Fin 1024) :
    step (F := Ideal) (k0_pay65 i x0 x1 x2 x3 x4 x5 x6 x7 x8 x9) x4 x5 x6 x7 o ho acc (ix2 r n)
      = acc (ix2 r n) + ∑ x : Fin 256, act h md x4 x5 x6 b (256 * j.val + r.val) ⟨256 * t.val + x.val, by omega⟩
          * x7 (ix2 ⟨256 * t.val + x.val, by omega⟩ n) := by
  subst hot
  rw [step_apply]
  simp only [conv_eq h md x4 x5 x6 x7 x8 x9 i b j hj x0 x1 x2 x3 h0 h1 h2 h3]
  simp only [Nat.add_assoc, act]

/-- A point's block is the layer's result at the point's rows. -/
theorem block_eq (r : Fin 256) (n : Fin 1024) (p : Fin 8192) (hp : p.val = 256 * j.val + r.val) :
    out0_10 (F := Ideal) i x0 x1 x2 x3 x4 x5 x6 x7 x8 x9 (ix3 0 r n)
      = out h md x4 x5 x6 x7 x8 x9 b p n := by
  rw [out_eq, View.canon_unit_zero (by funext a; fin_cases a <;> rfl)]
  pointwise [k0_pay1]
  rw [normed_apply]
  unfold out
  congr 2
  refine congrArg (fun y => normRow y n) (funext fun k => ?_)
  pointwise [resid, k0_pay5, k0_pay4]
  have S := step_eq h md x4 x5 x6 x7 x8 x9 i b j hj x0 x1 x2 x3 h0 h1 h2 h3
  rw [S 10 2560 (by omega) rfl, S 9 2304 (by omega) rfl, S 8 2048 (by omega) rfl, S 7 1792 (by omega) rfl, S 6 1536 (by omega) rfl, S 5 1280 (by omega) rfl, S 4 1024 (by omega) rfl, S 3 768 (by omega) rfl,
    S 2 512 (by omega) rfl, S 1 256 (by omega) rfl, S 0 0 (by omega) rfl, h0 r p hp, h3]
  unfold res down
  rw [hp]
  rw [sum_runs, sum_eleven]
  rfl

end block

end Cert.FfnBlock

end
-- ==== Proof.FfnFinal.lean ====
module

public import proofs.«01_k».proof.Proof.FfnKernel

@[expose] public section

set_option backward.proofsInPublic true

noncomputable section

namespace Cert.FfnBlock

open Cert.FfnIdeal Cert.FfnIdeal.Gen Idealize.ShloMosaic Idealize.ShloMosaic.TcCoe Idealize.SL.Sem Cert.FfnSpec
open Idealize.ShloMosaic.Pipeline (Dat)

variable (m : (ℓ : Loc nD τ sig) → Buf (Elt Ideal) ℓ) (c : Dev nD)

/-- The grid point's batch. -/
abbrev pb (t : Fin cfg0.N) : Fin 2 := ⟨(grid0.coords t 0).val, (grid0.coords t 0).isLt⟩
/-- The grid point's tile of rows. -/
abbrev pj (t : Fin cfg0.N) : Fin 32 := ⟨(grid0.coords t 1).val, (grid0.coords t 1).isLt⟩

/-- The block indices of the windows that move, at every grid point. -/
theorem idx_facts : ∀ t : Fin cfg0.N,
    (win0_0.index t 0 = (pb t).val ∧ win0_0.index t 1 = (pj t).val ∧ win0_0.index t 2 = 0)
    ∧ (win0_1.index t 0 = (pb t).val ∧ (1 ≤ (pj t).val → win0_1.index t 1 * 8 + 7 = 256 * (pj t).val - 1) ∧ win0_1.index t 2 = 0)
    ∧ (win0_2.index t 0 = (pb t).val ∧ ((pj t).val < 31 → win0_2.index t 1 * 8 = 256 * (pj t).val + 256) ∧ win0_2.index t 2 = 0)
    ∧ (win0_3.index t 0 = (pb t).val ∧ win0_3.index t 1 = 0 ∧ win0_3.index t 2 = 0 ∧ win0_3.index t 3 = 0)
    ∧ (win0_10.index t 0 = (pb t).val ∧ win0_10.index t 1 = (pj t).val ∧ win0_10.index t 2 = 0) :=
  (by decide +kernel : ∀ t : Fin grid0.N, _)

/-- The block indices of the windows that hold a whole array. -/
theorem idx_whole : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) :=
  (by decide +kernel : ∀ t : Fin grid0.N, _)

/-- Every batch and tile is some grid point's. -/
theorem point : ∀ (b : Fin 2) (j : Fin 32), ∃ t : Fin cfg0.N, pb t = b ∧ pj t = j :=
  (by decide +kernel : ∀ (b : Fin 2) (j : Fin 32), ∃ t : Fin grid0.N, _)

/-- The result of the layer, as contents of the result array. -/
def result : Buf (Elt Ideal) ((c : Thread nD τ).loc main_v0) := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- Window 4’s block is the whole array. -/
theorem blk4 (t : Fin cfg0.N) : iblk m c 4 t = m ((c : Thread nD τ).loc main_arg2) := by
  obtain ⟨⟨a, b⟩, -⟩ := idx_whole t
  funext y
  unfold iblk
  rw [View.read_apply]
  show m (c.tc.loc main_arg2) _ = m (c.tc.loc main_arg2) _
  congr 1
  funext k
  apply Fin.ext
  match k with
  | ⟨0, _⟩ => show win0_4.index t 0 * 1024 + 1 * (y 0).val = (y 0).val; rw [a]; omega
  | ⟨1, _⟩ => show win0_4.index t 1 * 5632 + 1 * (y 1).val = (y 1).val; rw [b]; omega

/-- Window 5’s block is the whole array. -/
theorem blk5 (t : Fin cfg0.N) : iblk m c 5 t = m ((c : Thread nD τ).loc main_arg3) := by
  obtain ⟨-, ⟨a, b⟩, -⟩ := idx_whole t
  funext y
  unfold iblk
  rw [View.read_apply]
  show m (c.tc.loc main_arg3) _ = m (c.tc.loc main_arg3) _
  congr 1
  funext k
  apply Fin.ext
  match k with
  | ⟨0, _⟩ => show win0_5.index t 0 * 3 + 1 * (y 0).val = (y 0).val; rw [a]; omega
  | ⟨1, _⟩ => show win0_5.index t 1 * 5632 + 1 * (y 1).val = (y 1).val; rw [b]; omega

/-- Window 6’s block is the whole array. -/
theorem blk6 (t : Fin cfg0.N) : iblk m c 6 t = m ((c : Thread nD τ).loc main_arg4) := by
  obtain ⟨-, -, ⟨a, b⟩, -⟩ := idx_whole t
  funext y
  unfold iblk
  rw [View.read_apply]
  show m (c.tc.loc main_arg4) _ = m (c.tc.loc main_arg4) _
  congr 1
  funext k
  apply Fin.ext
  match k with
  | ⟨0, _⟩ => show win0_6.index t 0 * 1 + 1 * (y 0).val = (y 0).val; rw [a]; omega
  | ⟨1, _⟩ => show win0_6.index t 1 * 5632 + 1 * (y 1).val = (y 1).val; rw [b]; omega

/-- Window 7’s block is the whole array. -/
theorem blk7 (t : Fin cfg0.N) : iblk m c 7 t = m ((c : Thread nD τ).loc main_arg5) := by
  obtain ⟨-, -, -, ⟨a, b⟩, -⟩ := idx_whole t
  funext y
  unfold iblk
  rw [View.read_apply]
  show m (c.tc.loc main_arg5) _ = m (c.tc.loc main_arg5) _
  congr 1
  funext k
  apply Fin.ext
  match k with
  | ⟨0, _⟩ => show win0_7.index t 0 * 2816 + 1 * (y 0).val = (y 0).val; rw [a]; omega
  | ⟨1, _⟩ => show win0_7.index t 1 * 1024 + 1 * (y 1).val = (y 1).val; rw [b]; omega

/-- Window 8’s block is the whole array. -/
theorem blk8 (t : Fin cfg0.N) : iblk m c 8 t = m ((c : Thread nD τ).loc main_arg6) := by
  obtain ⟨-, -, -, -, ⟨a, b⟩, -⟩ := idx_whole t
  funext y
  unfold iblk
  rw [View.read_apply]
  show m (c.tc.loc main_arg6) _ = m (c.tc.loc main_arg6) _
  congr 1
  funext k
  apply Fin.ext
  match k with
  | ⟨0, _⟩ => show win0_8.index t 0 * 1 + 1 * (y 0).val = (y 0).val; rw [a]; omega
  | ⟨1, _⟩ => show win0_8.index t 1 * 1024 + 1 * (y 1).val = (y 1).val; rw [b]; omega

/-- Window 9’s block is the whole array. -/
theorem blk9 (t : Fin cfg0.N) : iblk m c 9 t = m ((c : Thread nD τ).loc main_arg7) := by
  obtain ⟨-, -, -, -, -, a, b⟩ := idx_whole t
  funext y
  unfold iblk
  rw [View.read_apply]
  show m (c.tc.loc main_arg7) _ = m (c.tc.loc main_arg7) _
  congr 1
  funext k
  apply Fin.ext
  match k with
  | ⟨0, _⟩ => show win0_9.index t 0 * 1 + 1 * (y 0).val = (y 0).val; rw [a]; omega
  | ⟨1, _⟩ => show win0_9.index t 1 * 1024 + 1 * (y 1).val = (y 1).val; rw [b]; omega

/-- The tile’s rows. -/
theorem blk0 (t : Fin cfg0.N) (r : Fin 256) (p : Fin 8192) (hp : p.val = 256 * (pj t).val + r.val)
    (k : Fin 1024) : iblk m c 0 t (ix3 0 r k) = m ((c : Thread nD τ).loc main_arg0) (ix3 (pb t) p k) := by
  obtain ⟨⟨a, b, d⟩, -⟩ := idx_facts t
  unfold iblk
  rw [View.read_apply]
  show m (c.tc.loc main_arg0) _ = m (c.tc.loc main_arg0) _
  congr 1
  funext x
  apply Fin.ext
  match x with
  | ⟨0, _⟩ => show win0_0.index t 0 * 1 + 1 * 0 = (pb t).val; rw [a]; omega
  | ⟨1, _⟩ => show win0_0.index t 1 * 256 + 1 * r.val = p.val; rw [b]; omega
  | ⟨2, _⟩ => show win0_0.index t 2 * 1024 + 1 * k.val = k.val; rw [d]; omega

/-- The row before the tile. -/
theorem blk1 (t : Fin cfg0.N) (p : Fin 8192) (hp : p.val + 1 = 256 * (pj t).val) (k : Fin 1024) :
    iblk m c 1 t (ix3 0 7 k) = m ((c : Thread nD τ).loc main_arg0) (ix3 (pb t) p k) := by
  obtain ⟨-, ⟨a, b, d⟩, -⟩ := idx_facts t
  unfold iblk
  rw [View.read_apply]
  show m (c.tc.loc main_arg0) _ = m (c.tc.loc main_arg0) _
  congr 1
  funext x
  apply Fin.ext
  match x with
  | ⟨0, _⟩ => show win0_1.index t 0 * 1 + 1 * 0 = (pb t).val; rw [a]; omega
  | ⟨1, _⟩ => show win0_1.index t 1 * 8 + 1 * 7 = p.val; have := b (by omega); omega
  | ⟨2, _⟩ => show win0_1.index t 2 * 1024 + 1 * k.val = k.val; rw [d]; omega

/-- The row after the tile. -/
theorem blk2 (t : Fin cfg0.N) (p : Fin 8192) (hp : p.val = 256 * (pj t).val + 256) (k : Fin 1024) :
    iblk m c 2 t (ix3 0 0 k) = m ((c : Thread nD τ).loc main_arg0) (ix3 (pb t) p k) := by
  obtain ⟨-, -, ⟨a, b, d⟩, -⟩ := idx_facts t
  unfold iblk
  rw [View.read_apply]
  show m (c.tc.loc main_arg0) _ = m (c.tc.loc main_arg0) _
  congr 1
  funext x
  apply Fin.ext
  match x with
  | ⟨0, _⟩ => show win0_2.index t 0 * 1 + 1 * 0 = (pb t).val; rw [a]; omega
  | ⟨1, _⟩ => show win0_2.index t 1 * 8 + 1 * 0 = p.val; have := b (by omega); omega
  | ⟨2, _⟩ => show win0_2.index t 2 * 1024 + 1 * k.val = k.val; rw [d]; omega

/-- The batch’s modulation rows. -/
theorem blk3 (t : Fin cfg0.N) (q : Fin 8) (k : Fin 1024) : iblk m c 3 t (ix4 0 0 q k) =
    m ((c : Thread nD τ).loc main_arg1) (ix4 (pb t) 0 q k) := by
  obtain ⟨-, -, -, ⟨a, b, d, e⟩, -⟩ := idx_facts t
  unfold iblk
  rw [View.read_apply]
  show m (c.tc.loc main_arg1) _ = m (c.tc.loc main_arg1) _
  congr 1
  funext x
  apply Fin.ext
  match x with
  | ⟨0, _⟩ => show win0_3.index t 0 * 1 + 1 * 0 = (pb t).val; rw [a]; omega
  | ⟨1, _⟩ => show win0_3.index t 1 * 1 + 1 * 0 = 0; rw [b]
  | ⟨2, _⟩ => show win0_3.index t 2 * 8 + 1 * q.val = q.val; rw [d]; omega
  | ⟨3, _⟩ => show win0_3.index t 3 * 1024 + 1 * k.val = k.val; rw [e]; omega

/-- What a grid point writes back is its block of the layer’s result. -/
theorem flushed_eq (t : Fin cfg0.N) :
    (dats m 0 c).flushed 10 t = ((cfg0.win 10).blk t).view.read (Elt Ideal) (result m c) := by
  rw [Cert.FfnIdeal.Value.flushed10]
  funext y
  rw [View.read_apply]
  show out0_10 (grid0.coords t) _ _ _ _ _ _ _ _ _ _ y = result m c _
  rw [blk4, blk5, blk6, blk7, blk8, blk9]
  obtain ⟨r, n, rfl⟩ : ∃ (r : Fin 256) (n : Fin 1024), y = (ix3 (0 : Fin 1) r n : S1x256x1024.Idx) := ⟨y 1, y 2, by
    funext a
    match a with
    | ⟨0, _⟩ => exact Subsingleton.elim (α := Fin 1) _ _
    | ⟨1, _⟩ => rfl
    | ⟨2, _⟩ => rfl⟩
  obtain ⟨-, -, -, -, a, b, d⟩ := idx_facts t
  refine (block_eq (m ((c : Thread nD τ).loc main_arg0)) (m ((c : Thread nD τ).loc main_arg1)) _ _ _ _ _ _
    (grid0.coords t) (pb t) (pj t) rfl _ _ _ _ (blk0 m c t) (blk1 m c t) (blk2 m c t) (blk3 m c t) r n
    ⟨256 * (pj t).val + r.val, by omega⟩ rfl).trans ?_
  unfold result
  congr 1
  · apply Fin.ext
    show (pb t).val = win0_10.index t 0 * 1 + 1 * 0
    rw [a]; omega
  · apply Fin.ext
    show 256 * (pj t).val + r.val = win0_10.index t 1 * 256 + 1 * r.val
    rw [b]; omega
  · apply Fin.ext
    show n.val = win0_10.index t 2 * 1024 + 1 * n.val
    rw [d]; omega

/-- The result array ends holding the layer’s result. -/
theorem final : (dats m 0 c).arrAt 10 cfg0.N = result m c :=
  (dats m 0 c).arrAt_eq_of_cover 10 (result m c) (fun t _ => flushed_eq m c t) fun i => by
    obtain ⟨t, h1, h2⟩ := point (i 0) ⟨(i 1).val / 256, by have : (i 1).val < 8192 := (i 1).isLt; omega⟩
    refine ⟨t, flush0_10 t, ?_⟩
    obtain ⟨-, -, -, -, a, b, d⟩ := idx_facts t
    have e1 := congrArg Fin.val h1
    have e2 := congrArg Fin.val h2
    show i ∈ ((View.whole main_v0).slice (win0_10.rect t)).set
    rw [View.set_slice_whole, Rect.mem_set_unit]
    intro x
    have k1 : (i 1).val < 8192 := (i 1).isLt
    have k2 : (i 2).val < 1024 := (i 2).isLt
    match x with
    | ⟨0, _⟩ =>
      show win0_10.index t 0 * 1 ≤ (i 0).val ∧ (i 0).val < win0_10.index t 0 * 1 + 1
      rw [a]; dsimp only at e1 ⊢; omega
    | ⟨1, _⟩ =>
      show win0_10.index t 1 * 256 ≤ (i 1).val ∧ (i 1).val < win0_10.index t 1 * 256 + 256
      rw [b]; dsimp only at e2 ⊢; omega
    | ⟨2, _⟩ =>
      show win0_10.index t 2 * 1024 ≤ (i 2).val ∧ (i 2).val < win0_10.index t 2 * 1024 + 1024
      rw [d]; omega

end Cert.FfnBlock

end
-- ==== Proof.FfnHost.lean ====
module

public import proofs.«01_k».proof.Proof.Gen.FfnRefIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.FfnHost

open Cert.FfnRefIdeal Cert.FfnRefIdeal.Gen Idealize.ShloMosaic Idealize.ShloMosaic.TcCoe Idealize.SL.Sem Idealize.ShloMosaic.StableHlo

variable {F : FTy → Type} [FloatOps F]

-- %0 = stablehlo.slice %arg1 [0:2, 0:1, 3:4, 0:1024] : (tensor<2x2x8x1024xf32>) -> tensor<2x1x1x1024xf32>
def val_main_v0 (x1 : (⟨S2x2x8x1024, .f32⟩ : BufTy).Contents (Elt F)) : (⟨S2x1x1x1024, .f32⟩ : BufTy).Contents (Elt F) :=
  extractStridedSlice S2x1x1x1024 ![0, 0, 3, 0] (x1) slices_S2x2x8x1024_S2x1x1x1024_0_0_3_0
-- %1 = stablehlo.reshape %0 : (tensor<2x1x1x1024xf32>) -> tensor<2x1x1024xf32>
def val_main_v1 (x1 : (⟨S2x2x8x1024, .f32⟩ : BufTy).Contents (Elt F)) : (⟨S2x1x1024, .f32⟩ : BufTy).Contents (Elt F) :=
  shapeCast _ (val_main_v0 (F := F) x1) shapeCasts_S2x1x1x1024_S2x1x1024
-- %2 = stablehlo.slice %arg1 [0:2, 0:1, 4:5, 0:1024] : (tensor<2x2x8x1024xf32>) -> tensor<2x1x1x1024xf32>
def val_main_v2 (x1 : (⟨S2x2x8x1024, .f32⟩ : BufTy).Contents (Elt F)) : (⟨S2x1x1x1024, .f32⟩ : BufTy).Contents (Elt F) :=
  extractStridedSlice S2x1x1x1024 ![0, 0, 4, 0] (x1) slices_S2x2x8x1024_S2x1x1x1024_0_0_4_0
-- %3 = stablehlo.reshape %2 : (tensor<2x1x1x1024xf32>) -> tensor<2x1x1024xf32>
def val_main_v3 (x1 : (⟨S2x2x8x1024, .f32⟩ : BufTy).Contents (Elt F)) : (⟨S2x1x1024, .f32⟩ : BufTy).Contents (Elt F) :=
  shapeCast _ (val_main_v2 (F := F) x1) shapeCasts_S2x1x1x1024_S2x1x1024
-- %4 = stablehlo.slice %arg1 [0:2, 0:1, 5:6, 0:1024] : (tensor<2x2x8x1024xf32>) -> tensor<2x1x1x1024xf32>
def val_main_v4 (x1 : (⟨S2x2x8x1024, .f32⟩ : BufTy).Contents (Elt F)) : (⟨S2x1x1x1024, .f32⟩ : BufTy).Contents (Elt F) :=
  extractStridedSlice S2x1x1x1024 ![0, 0, 5, 0] (x1) slices_S2x2x8x1024_S2x1x1x1024_0_0_5_0
-- %5 = stablehlo.reshape %4 : (tensor<2x1x1x1024xf32>) -> tensor<2x1x1024xf32>
def val_main_v5 (x1 : (⟨S2x2x8x1024, .f32⟩ : BufTy).Contents (Elt F)) : (⟨S2x1x1024, .f32⟩ : BufTy).Contents (Elt F) :=
  shapeCast _ (val_main_v4 (F := F) x1) shapeCasts_S2x1x1x1024_S2x1x1024
-- %cst = stablehlo.constant dense<1.000000e+00> : tensor<f32>
def val_main_cst : (⟨S_, .f32⟩ : BufTy).Contents (Elt F) :=
  constant S_ .f32 0x3F800000#32
-- %6 = stablehlo.broadcast_in_dim %cst, dims = [] : (tensor<f32>) -> tensor<2x1x1024xf32>
def val_main_v6 : (⟨S2x1x1024, .f32⟩ : BufTy).Contents (Elt F) :=
  broadcastInDim S2x1x1024 ![] bcast_S_S2x1x1024 (val_main_cst (F := F))
-- %7 = stablehlo.add %6, %3 : tensor<2x1x1024xf32>
def val_main_v7 (x1 : (⟨S2x2x8x1024, .f32⟩ : BufTy).Contents (Elt F)) : (⟨S2x1x1024, .f32⟩ : BufTy).Contents (Elt F) :=
  addf (val_main_v6 (F := F)) (val_main_v3 (F := F) x1)
-- %8 = stablehlo.broadcast_in_dim %7, dims = [0, 1, 2] : (tensor<2x1x1024xf32>) -> tensor<2x8192x1024xf32>
def val_main_v8 (x1 : (⟨S2x2x8x1024, .f32⟩ : BufTy).Contents (Elt F)) : (⟨S2x8192x1024, .f32⟩ : BufTy).Contents (Elt F) :=
  broadcastInDim S2x8192x1024 ![0, 1, 2] bcast_S2x1x1024_S2x8192x1024_0_1_2 (val_main_v7 (F := F) x1)
-- %9 = stablehlo.multiply %arg0, %8 : tensor<2x8192x1024xf32>
def val_main_v9 (x0 : (⟨S2x8192x1024, .f32⟩ : BufTy).Contents (Elt F)) (x1 : (⟨S2x2x8x1024, .f32⟩ : BufTy).Contents (Elt F)) : (⟨S2x8192x1024, .f32⟩ : BufTy).Contents (Elt F) :=
  mulf (x0) (val_main_v8 (F := F) x1)
-- %10 = stablehlo.broadcast_in_dim %1, dims = [0, 1, 2] : (tensor<2x1x1024xf32>) -> tensor<2x8192x1024xf32>
def val_main_v10 (x1 : (⟨S2x2x8x1024, .f32⟩ : BufTy).Contents (Elt F)) : (⟨S2x8192x1024, .f32⟩ : BufTy).Contents (Elt F) :=
  broadcastInDim S2x8192x1024 ![0, 1, 2] bcast_S2x1x1024_S2x8192x1024_0_1_2 (val_main_v1 (F := F) x1)
-- %11 = stablehlo.add %9, %10 : tensor<2x8192x1024xf32>
def val_main_v11 (x0 : (⟨S2x8192x1024, .f32⟩ : BufTy).Contents (Elt F)) (x1 : (⟨S2x2x8x1024, .f32⟩ : BufTy).Contents (Elt F)) : (⟨S2x8192x1024, .f32⟩ : BufTy).Contents (Elt F) :=
  addf (val_main_v9 (F := F) x0 x1) (val_main_v10 (F := F) x1)
-- %12 = stablehlo.convert %arg2 : (tensor<1024x5632xbf16>) -> tensor<1024x5632xf32>
def val_main_v12 (x2 : (⟨S1024x5632, .bf16⟩ : BufTy).Contents (Elt F)) : (⟨S1024x5632, .f32⟩ : BufTy).Contents (Elt F) :=
  extf .f32 (x2) bitsLt_bf16_f32
-- %13 = stablehlo.dot_general %11, %12, contracting_dims = [2] x [0], precision = [DEFAULT, DEFAULT] : (tensor<2x8192x1024xf32>, tensor<1024x5632xf32>) -> tensor<2x8192x5632xf32>
def val_main_v13 (x0 : (⟨S2x8192x1024, .f32⟩ : BufTy).Contents (Elt F)) (x1 : (⟨S2x2x8x1024, .f32⟩ : BufTy).Contents (Elt F)) (x2 : (⟨S1024x5632, .bf16⟩ : BufTy).Contents (Elt F)) : (⟨S2x8192x5632, .f32⟩ : BufTy).Contents (Elt F) :=
  Host.dotGeneral dot_S2x8192x1024_S1024x5632_S2x8192x5632_2_0_01_1_n_n none (val_main_v11 (F := F) x0 x1) (val_main_v12 (F := F) x2)
/-- Stated at `F := Ideal`, where the host's `dot_general` is this sum; at a bit-exact instance it is an opaque function of its operands. -/
-- %c = stablehlo.constant dense<0> : tensor<i32>
def val_main_c : (⟨S_, .i32⟩ : BufTy).Contents (Elt F) :=
  constantI S_ 32 0#32
def val_main_call0_v0 : (⟨S_, .f32⟩ : BufTy).Contents (Elt F) :=
  sitofp .f32 (val_main_c (F := F))
-- %14 = func.call @_pad(…) (record main_call0) result 0: @_pad's %1 = stablehlo.pad %arg0, %0, low = [0, 1, 0], high = [0, 1, 0], interior = [0, 0, 0] : (tensor<2x8192x5632xf32>, tensor<f32>) -> tensor<2x8194x5632xf32>
def val_main_v14 (x0 : (⟨S2x8192x1024, .f32⟩ : BufTy).Contents (Elt F)) (x1 : (⟨S2x2x8x1024, .f32⟩ : BufTy).Contents (Elt F)) (x2 : (⟨S1024x5632, .bf16⟩ : BufTy).Contents (Elt F)) : (⟨S2x8194x5632, .f32⟩ : BufTy).Contents (Elt F) :=
  pad S2x8194x5632 ![0, 1, 0] ![0, 1, 0] ![0, 0, 0] (val_main_v13 (F := F) x0 x1 x2) (val_main_call0_v0 (F := F)) pads_S2x8192x5632_S2x8194x5632_000_110_000 h_S_

-- %15 = stablehlo.slice %14 [0:2, 0:8192, 0:5632] : (tensor<2x8194x5632xf32>) -> tensor<2x8192x5632xf32>
def val_main_v15 (x0 : (⟨S2x8192x1024, .f32⟩ : BufTy).Contents (Elt F)) (x1 : (⟨S2x2x8x1024, .f32⟩ : BufTy).Contents (Elt F)) (x2 : (⟨S1024x5632, .bf16⟩ : BufTy).Contents (Elt F)) : (⟨S2x8192x5632, .f32⟩ : BufTy).Contents (Elt F) :=
  extractStridedSlice S2x8192x5632 ![0, 0, 0] (val_main_v14 (F := F) x0 x1 x2) slices_S2x8194x5632_S2x8192x5632_0_0_0
-- %16 = stablehlo.slice %arg3 [0:1, 0:5632] : (tensor<3x5632xf32>) -> tensor<1x5632xf32>
def val_main_v16 (x3 : (⟨S3x5632, .f32⟩ : BufTy).Contents (Elt F)) : (⟨S1x5632, .f32⟩ : BufTy).Contents (Elt F) :=
  extractStridedSlice S1x5632 ![0, 0] (x3) slices_S3x5632_S1x5632_0_0
-- %17 = stablehlo.reshape %16 : (tensor<1x5632xf32>) -> tensor<5632xf32>
def val_main_v17 (x3 : (⟨S3x5632, .f32⟩ : BufTy).Contents (Elt F)) : (⟨S5632, .f32⟩ : BufTy).Contents (Elt F) :=
  shapeCast _ (val_main_v16 (F := F) x3) shapeCasts_S1x5632_S5632
-- %18 = stablehlo.broadcast_in_dim %17, dims = [2] : (tensor<5632xf32>) -> tensor<1x1x5632xf32>
def val_main_v18 (x3 : (⟨S3x5632, .f32⟩ : BufTy).Contents (Elt F)) : (⟨S1x1x5632, .f32⟩ : BufTy).Contents (Elt F) :=
  broadcastInDim S1x1x5632 ![2] bcast_S5632_S1x1x5632_2 (val_main_v17 (F := F) x3)
-- %19 = stablehlo.broadcast_in_dim %18, dims = [0, 1, 2] : (tensor<1x1x5632xf32>) -> tensor<2x8192x5632xf32>
def val_main_v19 (x3 : (⟨S3x5632, .f32⟩ : BufTy).Contents (Elt F)) : (⟨S2x8192x5632, .f32⟩ : BufTy).Contents (Elt F) :=
  broadcastInDim S2x8192x5632 ![0, 1, 2] bcast_S1x1x5632_S2x8192x5632_0_1_2 (val_main_v18 (F := F) x3)
-- %20 = stablehlo.multiply %15, %19 : tensor<2x8192x5632xf32>
def val_main_v20 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) : (⟨S2x8192x5632, .f32⟩ : BufTy).Contents (Elt F) :=
  mulf (val_main_v15 (F := F) x0 x1 x2) (val_main_v19 (F := F) x3)
-- %21 = stablehlo.slice %14 [0:2, 1:8193, 0:5632] : (tensor<2x8194x5632xf32>) -> tensor<2x8192x5632xf32>
def val_main_v21 (x0 : (⟨S2x8192x1024, .f32⟩ : BufTy).Contents (Elt F)) (x1 : (⟨S2x2x8x1024, .f32⟩ : BufTy).Contents (Elt F)) (x2 : (⟨S1024x5632, .bf16⟩ : BufTy).Contents (Elt F)) : (⟨S2x8192x5632, .f32⟩ : BufTy).Contents (Elt F) :=
  extractStridedSlice S2x8192x5632 ![0, 1, 0] (val_main_v14 (F := F) x0 x1 x2) slices_S2x8194x5632_S2x8192x5632_0_1_0
-- %22 = stablehlo.slice %arg3 [1:2, 0:5632] : (tensor<3x5632xf32>) -> tensor<1x5632xf32>
def val_main_v22 (x3 : (⟨S3x5632, .f32⟩ : BufTy).Contents (Elt F)) : (⟨S1x5632, .f32⟩ : BufTy).Contents (Elt F) :=
  extractStridedSlice S1x5632 ![1, 0] (x3) slices_S3x5632_S1x5632_1_0
-- %23 = stablehlo.reshape %22 : (tensor<1x5632xf32>) -> tensor<5632xf32>
def val_main_v23 (x3 : (⟨S3x5632, .f32⟩ : BufTy).Contents (Elt F)) : (⟨S5632, .f32⟩ : BufTy).Contents (Elt F) :=
  shapeCast _ (val_main_v22 (F := F) x3) shapeCasts_S1x5632_S5632
-- %24 = stablehlo.broadcast_in_dim %23, dims = [2] : (tensor<5632xf32>) -> tensor<1x1x5632xf32>
def val_main_v24 (x3 : (⟨S3x5632, .f32⟩ : BufTy).Contents (Elt F)) : (⟨S1x1x5632, .f32⟩ : BufTy).Contents (Elt F) :=
  broadcastInDim S1x1x5632 ![2] bcast_S5632_S1x1x5632_2 (val_main_v23 (F := F) x3)
-- %25 = stablehlo.broadcast_in_dim %24, dims = [0, 1, 2] : (tensor<1x1x5632xf32>) -> tensor<2x8192x5632xf32>
def val_main_v25 (x3 : (⟨S3x5632, .f32⟩ : BufTy).Contents (Elt F)) : (⟨S2x8192x5632, .f32⟩ : BufTy).Contents (Elt F) :=
  broadcastInDim S2x8192x5632 ![0, 1, 2] bcast_S1x1x5632_S2x8192x5632_0_1_2 (val_main_v24 (F := F) x3)
-- %26 = stablehlo.multiply %21, %25 : tensor<2x8192x5632xf32>
def val_main_v26 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) : (⟨S2x8192x5632, .f32⟩ : BufTy).Contents (Elt F) :=
  mulf (val_main_v21 (F := F) x0 x1 x2) (val_main_v25 (F := F) x3)
-- %27 = stablehlo.add %20, %26 : tensor<2x8192x5632xf32>
def val_main_v27 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) : (⟨S2x8192x5632, .f32⟩ : BufTy).Contents (Elt F) :=
  addf (val_main_v20 (F := F) x0 x1 x2 x3) (val_main_v26 (F := F) x0 x1 x2 x3)
-- %28 = stablehlo.slice %14 [0:2, 2:8194, 0:5632] : (tensor<2x8194x5632xf32>) -> tensor<2x8192x5632xf32>
def val_main_v28 (x0 : (⟨S2x8192x1024, .f32⟩ : BufTy).Contents (Elt F)) (x1 : (⟨S2x2x8x1024, .f32⟩ : BufTy).Contents (Elt F)) (x2 : (⟨S1024x5632, .bf16⟩ : BufTy).Contents (Elt F)) : (⟨S2x8192x5632, .f32⟩ : BufTy).Contents (Elt F) :=
  extractStridedSlice S2x8192x5632 ![0, 2, 0] (val_main_v14 (F := F) x0 x1 x2) slices_S2x8194x5632_S2x8192x5632_0_2_0
-- %29 = stablehlo.slice %arg3 [2:3, 0:5632] : (tensor<3x5632xf32>) -> tensor<1x5632xf32>
def val_main_v29 (x3 : (⟨S3x5632, .f32⟩ : BufTy).Contents (Elt F)) : (⟨S1x5632, .f32⟩ : BufTy).Contents (Elt F) :=
  extractStridedSlice S1x5632 ![2, 0] (x3) slices_S3x5632_S1x5632_2_0
-- %30 = stablehlo.reshape %29 : (tensor<1x5632xf32>) -> tensor<5632xf32>
def val_main_v30 (x3 : (⟨S3x5632, .f32⟩ : BufTy).Contents (Elt F)) : (⟨S5632, .f32⟩ : BufTy).Contents (Elt F) :=
  shapeCast _ (val_main_v29 (F := F) x3) shapeCasts_S1x5632_S5632
-- %31 = stablehlo.broadcast_in_dim %30, dims = [2] : (tensor<5632xf32>) -> tensor<1x1x5632xf32>
def val_main_v31 (x3 : (⟨S3x5632, .f32⟩ : BufTy).Contents (Elt F)) : (⟨S1x1x5632, .f32⟩ : BufTy).Contents (Elt F) :=
  broadcastInDim S1x1x5632 ![2] bcast_S5632_S1x1x5632_2 (val_main_v30 (F := F) x3)
-- %32 = stablehlo.broadcast_in_dim %31, dims = [0, 1, 2] : (tensor<1x1x5632xf32>) -> tensor<2x8192x5632xf32>
def val_main_v32 (x3 : (⟨S3x5632, .f32⟩ : BufTy).Contents (Elt F)) : (⟨S2x8192x5632, .f32⟩ : BufTy).Contents (Elt F) :=
  broadcastInDim S2x8192x5632 ![0, 1, 2] bcast_S1x1x5632_S2x8192x5632_0_1_2 (val_main_v31 (F := F) x3)
-- %33 = stablehlo.multiply %28, %32 : tensor<2x8192x5632xf32>
def val_main_v33 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) : (⟨S2x8192x5632, .f32⟩ : BufTy).Contents (Elt F) :=
  mulf (val_main_v28 (F := F) x0 x1 x2) (val_main_v32 (F := F) x3)
-- %34 = stablehlo.add %27, %33 : tensor<2x8192x5632xf32>
def val_main_v34 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) : (⟨S2x8192x5632, .f32⟩ : BufTy).Contents (Elt F) :=
  addf (val_main_v27 (F := F) x0 x1 x2 x3) (val_main_v33 (F := F) x0 x1 x2 x3)
-- %35 = stablehlo.reshape %arg4 : (tensor<1x5632xf32>) -> tensor<5632xf32>
def val_main_v35 (x4 : (⟨S1x5632, .f32⟩ : BufTy).Contents (Elt F)) : (⟨S5632, .f32⟩ : BufTy).Contents (Elt F) :=
  shapeCast _ (x4) shapeCasts_S1x5632_S5632
-- %36 = stablehlo.broadcast_in_dim %35, dims = [2] : (tensor<5632xf32>) -> tensor<1x1x5632xf32>
def val_main_v36 (x4 : (⟨S1x5632, .f32⟩ : BufTy).Contents (Elt F)) : (⟨S1x1x5632, .f32⟩ : BufTy).Contents (Elt F) :=
  broadcastInDim S1x1x5632 ![2] bcast_S5632_S1x1x5632_2 (val_main_v35 (F := F) x4)
-- %37 = stablehlo.broadcast_in_dim %36, dims = [0, 1, 2] : (tensor<1x1x5632xf32>) -> tensor<2x8192x5632xf32>
def val_main_v37 (x4 : (⟨S1x5632, .f32⟩ : BufTy).Contents (Elt F)) : (⟨S2x8192x5632, .f32⟩ : BufTy).Contents (Elt F) :=
  broadcastInDim S2x8192x5632 ![0, 1, 2] bcast_S1x1x5632_S2x8192x5632_0_1_2 (val_main_v36 (F := F) x4)
-- %38 = stablehlo.add %34, %37 : tensor<2x8192x5632xf32>
def val_main_v38 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x5632, .f32⟩ : BufTy).Contents (Elt F) :=
  addf (val_main_v34 (F := F) x0 x1 x2 x3) (val_main_v37 (F := F) x4)
-- %39 = stablehlo.slice %38 [0:2, 0:8192, 0:2816] : (tensor<2x8192x5632xf32>) -> tensor<2x8192x2816xf32>
def val_main_v39 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  extractStridedSlice S2x8192x2816 ![0, 0, 0] (val_main_v38 (F := F) x0 x1 x2 x3 x4) slices_S2x8192x5632_S2x8192x2816_0_0_0
-- %40 = stablehlo.slice %38 [0:2, 0:8192, 2816:5632] : (tensor<2x8192x5632xf32>) -> tensor<2x8192x2816xf32>
def val_main_v40 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  extractStridedSlice S2x8192x2816 ![0, 0, 2816] (val_main_v38 (F := F) x0 x1 x2 x3 x4) slices_S2x8192x5632_S2x8192x2816_0_0_2816
def val_main_call1_v0 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  Host.negf (val_main_v39 (F := F) x0 x1 x2 x3 x4)
def val_main_call1_v1 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  Host.exp (val_main_call1_v0 (F := F) x0 x1 x2 x3 x4)
def val_main_call1_cst : (⟨S_, .f32⟩ : BufTy).Contents (Elt F) :=
  constant S_ .f32 0x3F800000#32
def val_main_call1_v2 : (⟨S2x8192x2816, .f32⟩ : BufTy).Contents (Elt F) :=
  broadcastInDim S2x8192x2816 ![] bcast_S_S2x8192x2816 (val_main_call1_cst (F := F))
def val_main_call1_v3 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  addf (val_main_call1_v2 (F := F)) (val_main_call1_v1 (F := F) x0 x1 x2 x3 x4)
def val_main_call1_cst_0 : (⟨S_, .f32⟩ : BufTy).Contents (Elt F) :=
  constant S_ .f32 0x3F800000#32
def val_main_call1_v4 : (⟨S2x8192x2816, .f32⟩ : BufTy).Contents (Elt F) :=
  broadcastInDim S2x8192x2816 ![] bcast_S_S2x8192x2816 (val_main_call1_cst_0 (F := F))
def val_main_call1_v5 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  Host.divf (val_main_call1_v4 (F := F)) (val_main_call1_v3 (F := F) x0 x1 x2 x3 x4)
-- %41 = func.call @silu(…) (record main_call1) result 0: @silu's %6 = stablehlo.multiply %arg0, %5 : tensor<2x8192x2816xf32>
def val_main_v41 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  mulf (val_main_v39 (F := F) x0 x1 x2 x3 x4) (val_main_call1_v5 (F := F) x0 x1 x2 x3 x4)
-- %42 = stablehlo.multiply %41, %40 : tensor<2x8192x2816xf32>
def val_main_v42 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) : (⟨S2x8192x2816, .f32⟩ : BufTy).Contents (Elt F) :=
  mulf (val_main_v41 (F := F) x0 x1 x2 x3 x4) (val_main_v40 (F := F) x0 x1 x2 x3 x4)
-- %43 = stablehlo.convert %arg5 : (tensor<2816x1024xbf16>) -> tensor<2816x1024xf32>
def val_main_v43 (x5 : (⟨S2816x1024, .bf16⟩ : BufTy).Contents (Elt F)) : (⟨S2816x1024, .f32⟩ : BufTy).Contents (Elt F) :=
  extf .f32 (x5) bitsLt_bf16_f32
-- %44 = stablehlo.dot_general %42, %43, contracting_dims = [2] x [0], precision = [DEFAULT, DEFAULT] : (tensor<2x8192x2816xf32>, tensor<2816x1024xf32>) -> tensor<2x8192x1024xf32>
def val_main_v44 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  Host.dotGeneral dot_S2x8192x2816_S2816x1024_S2x8192x1024_2_0_01_1_n_n none (val_main_v42 (F := F) x0 x1 x2 x3 x4) (val_main_v43 (F := F) x5)
/-- Stated at `F := Ideal`, where the host's `dot_general` is this sum; at a bit-exact instance it is an opaque function of its operands. -/
-- %cst_0 = stablehlo.constant dense<1.41421354> : tensor<f32>
def val_main_cst_0 : (⟨S_, .f32⟩ : BufTy).Contents (Elt F) :=
  constant S_ .f32 0x3FB504F3#32
-- %45 = stablehlo.broadcast_in_dim %cst_0, dims = [] : (tensor<f32>) -> tensor<2x8192x1024xf32>
def val_main_v45 : (⟨S2x8192x1024, .f32⟩ : BufTy).Contents (Elt F) :=
  broadcastInDim S2x8192x1024 ![] bcast_S_S2x8192x1024 (val_main_cst_0 (F := F))
-- %46 = stablehlo.multiply %45, %arg0 : tensor<2x8192x1024xf32>
def val_main_v46 (x0 : (⟨S2x8192x1024, .f32⟩ : BufTy).Contents (Elt F)) : (⟨S2x8192x1024, .f32⟩ : BufTy).Contents (Elt F) :=
  mulf (val_main_v45 (F := F)) (x0)
-- %47 = stablehlo.broadcast_in_dim %5, dims = [0, 1, 2] : (tensor<2x1x1024xf32>) -> tensor<2x8192x1024xf32>
def val_main_v47 (x1 : (⟨S2x2x8x1024, .f32⟩ : BufTy).Contents (Elt F)) : (⟨S2x8192x1024, .f32⟩ : BufTy).Contents (Elt F) :=
  broadcastInDim S2x8192x1024 ![0, 1, 2] bcast_S2x1x1024_S2x8192x1024_0_1_2 (val_main_v5 (F := F) x1)
-- %48 = stablehlo.multiply %47, %44 : tensor<2x8192x1024xf32>
def val_main_v48 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  mulf (val_main_v47 (F := F) x1) (val_main_v44 (F := F) x0 x1 x2 x3 x4 x5)
-- %49 = stablehlo.add %46, %48 : tensor<2x8192x1024xf32>
def val_main_v49 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  addf (val_main_v46 (F := F) x0) (val_main_v48 (F := F) x0 x1 x2 x3 x4 x5)
-- %cst_1 = stablehlo.constant dense<0.000000e+00> : tensor<f32>
def val_main_cst_1 : (⟨S_, .f32⟩ : BufTy).Contents (Elt F) :=
  constant S_ .f32 0x00000000#32
-- %50 = stablehlo.reduce(%49 init: %cst_1) applies stablehlo.add across dimensions = [2] : (tensor<2x8192x1024xf32>, tensor<f32>) -> tensor<2x8192xf32> {
def val_main_v50 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192, .f32⟩ : BufTy).Contents (Elt F) :=
  Host.reduceAdd (val_main_v49 (F := F) x0 x1 x2 x3 x4 x5) (val_main_cst_1 (F := F)) reducesTo_S2x8192x1024_S2x8192_d2 h_S_
/-- Stated at `F := Ideal`, where the host's float sum is this sum; at a bit-exact instance it is an opaque function of its operand. -/
-- %51 = stablehlo.broadcast_in_dim %50, dims = [0, 1] : (tensor<2x8192xf32>) -> tensor<2x8192x1xf32>
def val_main_v51 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1, .f32⟩ : BufTy).Contents (Elt F) :=
  broadcastInDim S2x8192x1 ![0, 1] bcast_S2x8192_S2x8192x1_0_1 (val_main_v50 (F := F) x0 x1 x2 x3 x4 x5)
-- %cst_2 = stablehlo.constant dense<1.024000e+03> : tensor<f32>
def val_main_cst_2 : (⟨S_, .f32⟩ : BufTy).Contents (Elt F) :=
  constant S_ .f32 0x44800000#32
-- %52 = stablehlo.broadcast_in_dim %cst_2, dims = [] : (tensor<f32>) -> tensor<2x8192x1xf32>
def val_main_v52 : (⟨S2x8192x1, .f32⟩ : BufTy).Contents (Elt F) :=
  broadcastInDim S2x8192x1 ![] bcast_S_S2x8192x1 (val_main_cst_2 (F := F))
-- %53 = stablehlo.divide %51, %52 : tensor<2x8192x1xf32>
def val_main_v53 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1, .f32⟩ : BufTy).Contents (Elt F) :=
  Host.divf (val_main_v51 (F := F) x0 x1 x2 x3 x4 x5) (val_main_v52 (F := F))
-- %54 = stablehlo.broadcast_in_dim %53, dims = [0, 1, 2] : (tensor<2x8192x1xf32>) -> tensor<2x8192x1024xf32>
def val_main_v54 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  broadcastInDim S2x8192x1024 ![0, 1, 2] bcast_S2x8192x1_S2x8192x1024_0_1_2 (val_main_v53 (F := F) x0 x1 x2 x3 x4 x5)
-- %55 = stablehlo.subtract %49, %54 : tensor<2x8192x1024xf32>
def val_main_v55 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  subf (val_main_v49 (F := F) x0 x1 x2 x3 x4 x5) (val_main_v54 (F := F) x0 x1 x2 x3 x4 x5)
-- %56 = chlo.square %55 : tensor<2x8192x1024xf32> -> tensor<2x8192x1024xf32>
def val_main_v56 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  mulf (val_main_v55 (F := F) x0 x1 x2 x3 x4 x5) (val_main_v55 (F := F) x0 x1 x2 x3 x4 x5)
-- %cst_3 = stablehlo.constant dense<0.000000e+00> : tensor<f32>
def val_main_cst_3 : (⟨S_, .f32⟩ : BufTy).Contents (Elt F) :=
  constant S_ .f32 0x00000000#32
-- %57 = stablehlo.reduce(%56 init: %cst_3) applies stablehlo.add across dimensions = [2] : (tensor<2x8192x1024xf32>, tensor<f32>) -> tensor<2x8192xf32> {
def val_main_v57 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192, .f32⟩ : BufTy).Contents (Elt F) :=
  Host.reduceAdd (val_main_v56 (F := F) x0 x1 x2 x3 x4 x5) (val_main_cst_3 (F := F)) reducesTo_S2x8192x1024_S2x8192_d2 h_S_
/-- Stated at `F := Ideal`, where the host's float sum is this sum; at a bit-exact instance it is an opaque function of its operand. -/
-- %58 = stablehlo.broadcast_in_dim %57, dims = [0, 1] : (tensor<2x8192xf32>) -> tensor<2x8192x1xf32>
def val_main_v58 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1, .f32⟩ : BufTy).Contents (Elt F) :=
  broadcastInDim S2x8192x1 ![0, 1] bcast_S2x8192_S2x8192x1_0_1 (val_main_v57 (F := F) x0 x1 x2 x3 x4 x5)
-- %cst_4 = stablehlo.constant dense<1.024000e+03> : tensor<f32>
def val_main_cst_4 : (⟨S_, .f32⟩ : BufTy).Contents (Elt F) :=
  constant S_ .f32 0x44800000#32
-- %59 = stablehlo.broadcast_in_dim %cst_4, dims = [] : (tensor<f32>) -> tensor<2x8192x1xf32>
def val_main_v59 : (⟨S2x8192x1, .f32⟩ : BufTy).Contents (Elt F) :=
  broadcastInDim S2x8192x1 ![] bcast_S_S2x8192x1 (val_main_cst_4 (F := F))
-- %60 = stablehlo.divide %58, %59 : tensor<2x8192x1xf32>
def val_main_v60 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1, .f32⟩ : BufTy).Contents (Elt F) :=
  Host.divf (val_main_v58 (F := F) x0 x1 x2 x3 x4 x5) (val_main_v59 (F := F))
-- %61 = stablehlo.broadcast_in_dim %53, dims = [0, 1, 2] : (tensor<2x8192x1xf32>) -> tensor<2x8192x1024xf32>
def val_main_v61 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  broadcastInDim S2x8192x1024 ![0, 1, 2] bcast_S2x8192x1_S2x8192x1024_0_1_2 (val_main_v53 (F := F) x0 x1 x2 x3 x4 x5)
-- %62 = stablehlo.subtract %49, %61 : tensor<2x8192x1024xf32>
def val_main_v62 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  subf (val_main_v49 (F := F) x0 x1 x2 x3 x4 x5) (val_main_v61 (F := F) x0 x1 x2 x3 x4 x5)
-- %cst_5 = stablehlo.constant dense<9.99999997E-7> : tensor<f32>
def val_main_cst_5 : (⟨S_, .f32⟩ : BufTy).Contents (Elt F) :=
  constant S_ .f32 0x358637BD#32
-- %63 = stablehlo.broadcast_in_dim %cst_5, dims = [] : (tensor<f32>) -> tensor<2x8192x1xf32>
def val_main_v63 : (⟨S2x8192x1, .f32⟩ : BufTy).Contents (Elt F) :=
  broadcastInDim S2x8192x1 ![] bcast_S_S2x8192x1 (val_main_cst_5 (F := F))
-- %64 = stablehlo.add %60, %63 : tensor<2x8192x1xf32>
def val_main_v64 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1, .f32⟩ : BufTy).Contents (Elt F) :=
  addf (val_main_v60 (F := F) x0 x1 x2 x3 x4 x5) (val_main_v63 (F := F))
-- %65 = stablehlo.rsqrt %64 : tensor<2x8192x1xf32>
def val_main_v65 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1, .f32⟩ : BufTy).Contents (Elt F) :=
  Host.rsqrt (val_main_v64 (F := F) x0 x1 x2 x3 x4 x5)
-- %66 = stablehlo.broadcast_in_dim %65, dims = [0, 1, 2] : (tensor<2x8192x1xf32>) -> tensor<2x8192x1024xf32>
def val_main_v66 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  broadcastInDim S2x8192x1024 ![0, 1, 2] bcast_S2x8192x1_S2x8192x1024_0_1_2 (val_main_v65 (F := F) x0 x1 x2 x3 x4 x5)
-- %67 = stablehlo.multiply %62, %66 : tensor<2x8192x1024xf32>
def val_main_v67 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) : (⟨S2x8192x1024, .f32⟩ : BufTy).Contents (Elt F) :=
  mulf (val_main_v62 (F := F) x0 x1 x2 x3 x4 x5) (val_main_v66 (F := F) x0 x1 x2 x3 x4 x5)
-- %68 = stablehlo.reshape %arg6 : (tensor<1x1024xf32>) -> tensor<1024xf32>
def val_main_v68 (x6 : (⟨S1x1024, .f32⟩ : BufTy).Contents (Elt F)) : (⟨S1024, .f32⟩ : BufTy).Contents (Elt F) :=
  shapeCast _ (x6) shapeCasts_S1x1024_S1024
-- %69 = stablehlo.broadcast_in_dim %68, dims = [2] : (tensor<1024xf32>) -> tensor<1x1x1024xf32>
def val_main_v69 (x6 : (⟨S1x1024, .f32⟩ : BufTy).Contents (Elt F)) : (⟨S1x1x1024, .f32⟩ : BufTy).Contents (Elt F) :=
  broadcastInDim S1x1x1024 ![2] bcast_S1024_S1x1x1024_2 (val_main_v68 (F := F) x6)
-- %70 = stablehlo.broadcast_in_dim %69, dims = [0, 1, 2] : (tensor<1x1x1024xf32>) -> tensor<2x8192x1024xf32>
def val_main_v70 (x6 : (⟨S1x1024, .f32⟩ : BufTy).Contents (Elt F)) : (⟨S2x8192x1024, .f32⟩ : BufTy).Contents (Elt F) :=
  broadcastInDim S2x8192x1024 ![0, 1, 2] bcast_S1x1x1024_S2x8192x1024_0_1_2 (val_main_v69 (F := F) x6)
-- %71 = stablehlo.multiply %67, %70 : tensor<2x8192x1024xf32>
def val_main_v71 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) (x6 : (⟨S1x1024, .f32⟩ : BufTy).Contents (Elt F)) : (⟨S2x8192x1024, .f32⟩ : BufTy).Contents (Elt F) :=
  mulf (val_main_v67 (F := F) x0 x1 x2 x3 x4 x5) (val_main_v70 (F := F) x6)
-- %72 = stablehlo.reshape %arg7 : (tensor<1x1024xf32>) -> tensor<1024xf32>
def val_main_v72 (x7 : (⟨S1x1024, .f32⟩ : BufTy).Contents (Elt F)) : (⟨S1024, .f32⟩ : BufTy).Contents (Elt F) :=
  shapeCast _ (x7) shapeCasts_S1x1024_S1024
-- %73 = stablehlo.broadcast_in_dim %72, dims = [2] : (tensor<1024xf32>) -> tensor<1x1x1024xf32>
def val_main_v73 (x7 : (⟨S1x1024, .f32⟩ : BufTy).Contents (Elt F)) : (⟨S1x1x1024, .f32⟩ : BufTy).Contents (Elt F) :=
  broadcastInDim S1x1x1024 ![2] bcast_S1024_S1x1x1024_2 (val_main_v72 (F := F) x7)
-- %74 = stablehlo.broadcast_in_dim %73, dims = [0, 1, 2] : (tensor<1x1x1024xf32>) -> tensor<2x8192x1024xf32>
def val_main_v74 (x7 : (⟨S1x1024, .f32⟩ : BufTy).Contents (Elt F)) : (⟨S2x8192x1024, .f32⟩ : BufTy).Contents (Elt F) :=
  broadcastInDim S2x8192x1024 ![0, 1, 2] bcast_S1x1x1024_S2x8192x1024_0_1_2 (val_main_v73 (F := F) x7)
-- %75 = stablehlo.add %71, %74 : tensor<2x8192x1024xf32>
def val_main_v75 (x0 : (⟨S2x8192x1024, .f32⟩ : BufTy).Contents (Elt F)) (x1 : (⟨S2x2x8x1024, .f32⟩ : BufTy).Contents (Elt F)) (x2 : (⟨S1024x5632, .bf16⟩ : BufTy).Contents (Elt F)) (x3 : (⟨S3x5632, .f32⟩ : BufTy).Contents (Elt F)) (x4 : (⟨S1x5632, .f32⟩ : BufTy).Contents (Elt F)) (x5 : (⟨S2816x1024, .bf16⟩ : BufTy).Contents (Elt F)) (x6 x7 : (⟨S1x1024, .f32⟩ : BufTy).Contents (Elt F)) : (⟨S2x8192x1024, .f32⟩ : BufTy).Contents (Elt F) :=
  addf (val_main_v71 (F := F) x0 x1 x2 x3 x4 x5 x6) (val_main_v74 (F := F) x7)
-- ==== Proof.FfnRef.lean ====
module
public import proofs.«01_k».proof.Proof.FfnHost
public import proofs.«01_k».proof.Proof.FfnSpec
@[expose] public section
set_option backward.proofsInPublic true
noncomputable section
namespace Cert.FfnHost
open Cert.FfnRefIdeal Cert.FfnRefIdeal.Gen Idealize.ShloMosaic Cert.FfnSpec
variable (h : Arr ⟨3, ![2, 8192, 1024]⟩) (md : Arr ⟨4, ![2, 2, 8, 1024]⟩) (wu : Arr ⟨2, ![1024, 5632]⟩)
  (cw : Arr ⟨2, ![3, 5632]⟩) (cb : Arr ⟨2, ![1, 5632]⟩) (wd : Arr ⟨2, ![2816, 1024]⟩)
  (lg lb : Arr ⟨2, ![1, 1024]⟩)

/-- The reference’s up projection. -/
theorem v13_apply (b : Fin 2) (p : Fin 8192) (c : Fin 5632) :
    val_main_v13 (F := Ideal) h md wu (ix3 b p c) = proj h md wu b p c := by
  pointwise [val_main_v0, val_main_v1, val_main_v2, val_main_v3, val_main_cst, val_main_v6, val_main_v7, val_main_v8, val_main_v9, val_main_v10, val_main_v11, val_main_v12, val_main_v13]
  rfl
/-- The reference’s padded up projection. -/
theorem v14_apply (b : Fin 2) (q : Fin 8194) (c : Fin 5632) :
    val_main_v14 (F := Ideal) h md wu (ix3 b q c) = padded h md wu b q c := by
  pointwise [val_main_c, val_main_call0_v0, val_main_v14]
  unfold padded
  by_cases hq : 1 ≤ q.val ∧ q.val ≤ 8192
  · rw [dif_pos hq, dif_pos ⟨hq.1, by omega⟩]
    exact v13_apply h md wu b _ c
  · rw [dif_neg hq, dif_neg (by omega)]
    show (((0#32 : BitVec 32).toInt : ℝ) : EReal) = 0
    simp
/-- The reference’s convolution. -/
theorem v38_apply (b : Fin 2) (p : Fin 8192) (c : Fin 5632) :
    val_main_v38 (F := Ideal) h md wu cw cb (ix3 b p c) = convd h md wu cw cb b p c := by
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38]
  simp only [v14_apply, Nat.add_comm 1, Nat.add_comm 2]
  rfl
/-- The reference’s down projection. -/
theorem v44_apply (b : Fin 2) (p : Fin 8192) (n : Fin 1024) :
    val_main_v44 (F := Ideal) h md wu cw cb wd (ix3 b p n) = down h md wu cw cb wd b p n := by
  pointwise [val_main_v39, val_main_v40, val_main_v41, val_main_v42, val_main_v43, val_main_v44, val_main_call1_v0, val_main_call1_v1, val_main_call1_v2, val_main_call1_v3, val_main_call1_v4, val_main_call1_v5, val_main_call1_cst, val_main_call1_cst_0]
  simp only [v38_apply]
  rfl
/-- The reference’s residual sum. -/
theorem v49_apply (b : Fin 2) (p : Fin 8192) (n : Fin 1024) :
    val_main_v49 (F := Ideal) h md wu cw cb wd (ix3 b p n) = res h md wu cw cb wd b p n := by
  pointwise [val_main_v4, val_main_v5, val_main_cst_0, val_main_v45, val_main_v46, val_main_v47, val_main_v48, val_main_v49]
  simp only [v44_apply]
  rfl
/-- The reference’s result, element by element. -/
theorem v75_apply (b : Fin 2) (p : Fin 8192) (n : Fin 1024) :
    val_main_v75 (F := Ideal) h md wu cw cb wd lg lb (ix3 b p n) = out h md wu cw cb wd lg lb b p n := by
  pointwise [val_main_cst_1, val_main_v50, val_main_v51, val_main_cst_2, val_main_v52, val_main_v53, val_main_v54, val_main_v55, val_main_v56, val_main_cst_3, val_main_v57, val_main_v58, val_main_cst_4, val_main_v59, val_main_v60, val_main_v61, val_main_v62, val_main_cst_5, val_main_v63, val_main_v64, val_main_v65, val_main_v66, val_main_v67, val_main_v68, val_main_v69, val_main_v70, val_main_v71, val_main_v72, val_main_v73, val_main_v74, val_main_v75]
  simp only [v49_apply]
  rfl
end Cert.FfnHost
end
-- ==== Proof.FfnHostRun.lean ====
module

public import proofs.«01_k».proof.Proof.FfnHost
public import proofs.«01_k».proof.Proof.Gen.GlobRefIdeal.Run
public import Idealize.ShloMosaic.Lib.StableHlo.Run

@[expose] public section

noncomputable section

namespace Cert.FfnHostRun

open Cert.FfnHost Cert.FfnRefIdeal Cert.FfnRefIdeal.Gen Idealize.ShloMosaic Idealize.ShloMosaic.TcCoe Idealize.SL.Sem Idealize.ShloMosaic.StableHlo

variable {F : FTy → Type} [FloatOps F]

/-- @main's 93 operations, in order (a called function's operations stand in its call's place, spelt `TRef.…`). -/
abbrev ops : List (HloOp τ sig (Elt F)) :=
  [ unary main_arg1 main_v0 ((extractStridedSlice S2x1x1x1024 ![0, 0, 3, 0] · slices_S2x2x8x1024_S2x1x1x1024_0_0_3_0) : (⟨S2x2x8x1024, .f32⟩ : BufTy).Contents (Elt F) → (⟨S2x1x1x1024, .f32⟩ : BufTy).Contents (Elt F)),
    reshape main_v0 main_v1 (rfl : (.f32 : EltTy) = .f32) shapeCasts_S2x1x1x1024_S2x1x1024,
    unary main_arg1 main_v2 ((extractStridedSlice S2x1x1x1024 ![0, 0, 4, 0] · slices_S2x2x8x1024_S2x1x1x1024_0_0_4_0) : (⟨S2x2x8x1024, .f32⟩ : BufTy).Contents (Elt F) → (⟨S2x1x1x1024, .f32⟩ : BufTy).Contents (Elt F)),
    reshape main_v2 main_v3 (rfl : (.f32 : EltTy) = .f32) shapeCasts_S2x1x1x1024_S2x1x1024,
    unary main_arg1 main_v4 ((extractStridedSlice S2x1x1x1024 ![0, 0, 5, 0] · slices_S2x2x8x1024_S2x1x1x1024_0_0_5_0) : (⟨S2x2x8x1024, .f32⟩ : BufTy).Contents (Elt F) → (⟨S2x1x1x1024, .f32⟩ : BufTy).Contents (Elt F)),
    reshape main_v4 main_v5 (rfl : (.f32 : EltTy) = .f32) shapeCasts_S2x1x1x1024_S2x1x1024,
    nullary main_cst (constant S_ .f32 0x3F800000#32),
    unary main_cst main_v6 (broadcastInDim S2x1x1024 ![] bcast_S_S2x1x1024 : (⟨S_, .f32⟩ : BufTy).Contents (Elt F) → (⟨S2x1x1024, .f32⟩ : BufTy).Contents (Elt F)),
    binary main_v6 main_v3 main_v7 (addf : (⟨S2x1x1024, .f32⟩ : BufTy).Contents (Elt F) → (⟨S2x1x1024, .f32⟩ : BufTy).Contents (Elt F) → (⟨S2x1x1024, .f32⟩ : BufTy).Contents (Elt F)),
    unary main_v7 main_v8 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_arg0 main_v8 main_v9 (mulf : (⟨S2x8192x1024, .f32⟩ : BufTy).Contents (Elt F) → (⟨S2x8192x1024, .f32⟩ : BufTy).Contents (Elt F) → (⟨S2x8192x1024, .f32⟩ : BufTy).Contents (Elt F)),
    unary main_v1 main_v10 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v9 main_v10 main_v11 (addf : (⟨S2x8192x1024, .f32⟩ : BufTy).Contents (Elt F) → (⟨S2x8192x1024, .f32⟩ : BufTy).Contents (Elt F) → (⟨S2x8192x1024, .f32⟩ : BufTy).Contents (Elt F)),
    unary main_arg2 main_v12 ((extf .f32 · bitsLt_bf16_f32) : (⟨S1024x5632, .bf16⟩ : BufTy).Contents (Elt F) → (⟨S1024x5632, .f32⟩ : BufTy).Contents (Elt F)),
    binary main_v11 main_v12 main_v13 ((fun l r => Host.dotGeneral dot_S2x8192x1024_S1024x5632_S2x8192x5632_2_0_01_1_n_n none l r) : (⟨S2x8192x1024, .f32⟩ : BufTy).Contents (Elt F) → (⟨S1024x5632, .f32⟩ : BufTy).Contents (Elt F) → (⟨S2x8192x5632, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x8192x5632, .f32⟩) main_v13) (TRef.of (T := ⟨S_, .f32⟩) main_call0_v0) (TRef.of (T := ⟨S2x8194x5632, .f32⟩) main_v14) (fun x v => pad S2x8194x5632 ![0, 1, 0] ![0, 1, 0] ![0, 0, 0] x v pads_S2x8192x5632_S2x8194x5632_000_110_000 h_S_),
    unary main_v14 main_v15 ((extractStridedSlice S2x8192x5632 ![0, 0, 0] · slices_S2x8194x5632_S2x8192x5632_0_0_0) : (⟨S2x8194x5632, .f32⟩ : BufTy).Contents (Elt F) → (⟨S2x8192x5632, .f32⟩ : BufTy).Contents (Elt F)),
    unary main_arg3 main_v16 ((extractStridedSlice S1x5632 ![0, 0] · slices_S3x5632_S1x5632_0_0) : (⟨S3x5632, .f32⟩ : BufTy).Contents (Elt F) → (⟨S1x5632, .f32⟩ : BufTy).Contents (Elt F)),
    reshape main_v16 main_v17 (rfl : (.f32 : EltTy) = .f32) shapeCasts_S1x5632_S5632,
    unary main_v17 main_v18 (broadcastInDim S1x1x5632 ![2] bcast_S5632_S1x1x5632_2 : (⟨S5632, .f32⟩ : BufTy).Contents (Elt F) → (⟨S1x1x5632, .f32⟩ : BufTy).Contents (Elt F)),
    unary main_v18 main_v19 (broadcastInDim S2x8192x5632 ![0, 1, 2] bcast_S1x1x5632_S2x8192x5632_0_1_2 : (⟨S1x1x5632, .f32⟩ : BufTy).Contents (Elt F) → (⟨S2x8192x5632, .f32⟩ : BufTy).Contents (Elt F)),
    binary main_v15 main_v19 main_v20 (mulf : (⟨S2x8192x5632, .f32⟩ : BufTy).Contents (Elt F) → (⟨S2x8192x5632, .f32⟩ : BufTy).Contents (Elt F) → (⟨S2x8192x5632, .f32⟩ : BufTy).Contents (Elt F)),
    unary main_v14 main_v21 ((extractStridedSlice S2x8192x5632 ![0, 1, 0] · slices_S2x8194x5632_S2x8192x5632_0_1_0) : (⟨S2x8194x5632, .f32⟩ : BufTy).Contents (Elt F) → (⟨S2x8192x5632, .f32⟩ : BufTy).Contents (Elt F)),
    unary main_arg3 main_v22 ((extractStridedSlice S1x5632 ![1, 0] · slices_S3x5632_S1x5632_1_0) : (⟨S3x5632, .f32⟩ : BufTy).Contents (Elt F) → (⟨S1x5632, .f32⟩ : BufTy).Contents (Elt F)),
    reshape main_v22 main_v23 (rfl : (.f32 : EltTy) = .f32) shapeCasts_S1x5632_S5632,
    unary main_v23 main_v24 (broadcastInDim S1x1x5632 ![2] bcast_S5632_S1x1x5632_2 : (⟨S5632, .f32⟩ : BufTy).Contents (Elt F) → (⟨S1x1x5632, .f32⟩ : BufTy).Contents (Elt F)),
    unary main_v24 main_v25 (broadcastInDim S2x8192x5632 ![0, 1, 2] bcast_S1x1x5632_S2x8192x5632_0_1_2 : (⟨S1x1x5632, .f32⟩ : BufTy).Contents (Elt F) → (⟨S2x8192x5632, .f32⟩ : BufTy).Contents (Elt F)),
    binary main_v21 main_v25 main_v26 (mulf : (⟨S2x8192x5632, .f32⟩ : BufTy).Contents (Elt F) → (⟨S2x8192x5632, .f32⟩ : BufTy).Contents (Elt F) → (⟨S2x8192x5632, .f32⟩ : BufTy).Contents (Elt F)),
    binary main_v20 main_v26 main_v27 (addf : (⟨S2x8192x5632, .f32⟩ : BufTy).Contents (Elt F) → (⟨S2x8192x5632, .f32⟩ : BufTy).Contents (Elt F) → (⟨S2x8192x5632, .f32⟩ : BufTy).Contents (Elt F)),
    unary main_v14 main_v28 ((extractStridedSlice S2x8192x5632 ![0, 2, 0] · slices_S2x8194x5632_S2x8192x5632_0_2_0) : (⟨S2x8194x5632, .f32⟩ : BufTy).Contents (Elt F) → (⟨S2x8192x5632, .f32⟩ : BufTy).Contents (Elt F)),
    unary main_arg3 main_v29 ((extractStridedSlice S1x5632 ![2, 0] · slices_S3x5632_S1x5632_2_0) : (⟨S3x5632, .f32⟩ : BufTy).Contents (Elt F) → (⟨S1x5632, .f32⟩ : BufTy).Contents (Elt F)),
    reshape main_v29 main_v30 (rfl : (.f32 : EltTy) = .f32) shapeCasts_S1x5632_S5632,
    unary main_v30 main_v31 (broadcastInDim S1x1x5632 ![2] bcast_S5632_S1x1x5632_2 : (⟨S5632, .f32⟩ : BufTy).Contents (Elt F) → (⟨S1x1x5632, .f32⟩ : BufTy).Contents (Elt F)),
    unary main_v31 main_v32 (broadcastInDim S2x8192x5632 ![0, 1, 2] bcast_S1x1x5632_S2x8192x5632_0_1_2 : (⟨S1x1x5632, .f32⟩ : BufTy).Contents (Elt F) → (⟨S2x8192x5632, .f32⟩ : BufTy).Contents (Elt F)),
    binary main_v28 main_v32 main_v33 (mulf : (⟨S2x8192x5632, .f32⟩ : BufTy).Contents (Elt F) → (⟨S2x8192x5632, .f32⟩ : BufTy).Contents (Elt F) → (⟨S2x8192x5632, .f32⟩ : BufTy).Contents (Elt F)),
    binary main_v27 main_v33 main_v34 (addf : (⟨S2x8192x5632, .f32⟩ : BufTy).Contents (Elt F) → (⟨S2x8192x5632, .f32⟩ : BufTy).Contents (Elt F) → (⟨S2x8192x5632, .f32⟩ : BufTy).Contents (Elt F)),
    reshape main_arg4 main_v35 (rfl : (.f32 : EltTy) = .f32) shapeCasts_S1x5632_S5632,
    unary main_v35 main_v36 (broadcastInDim S1x1x5632 ![2] bcast_S5632_S1x1x5632_2 : (⟨S5632, .f32⟩ : BufTy).Contents (Elt F) → (⟨S1x1x5632, .f32⟩ : BufTy).Contents (Elt F)),
    unary main_v36 main_v37 (broadcastInDim S2x8192x5632 ![0, 1, 2] bcast_S1x1x5632_S2x8192x5632_0_1_2 : (⟨S1x1x5632, .f32⟩ : BufTy).Contents (Elt F) → (⟨S2x8192x5632, .f32⟩ : BufTy).Contents (Elt F)),
    binary main_v34 main_v37 main_v38 (addf : (⟨S2x8192x5632, .f32⟩ : BufTy).Contents (Elt F) → (⟨S2x8192x5632, .f32⟩ : BufTy).Contents (Elt F) → (⟨S2x8192x5632, .f32⟩ : BufTy).Contents (Elt F)),
    unary main_v38 main_v39 ((extractStridedSlice S2x8192x2816 ![0, 0, 0] · slices_S2x8192x5632_S2x8192x2816_0_0_0) : (⟨S2x8192x5632, .f32⟩ : BufTy).Contents (Elt F) → (⟨S2x8192x2816, .f32⟩ : BufTy).Contents (Elt F)),
    unary main_v38 main_v40 ((extractStridedSlice S2x8192x2816 ![0, 0, 2816] · slices_S2x8192x5632_S2x8192x2816_0_0_2816) : (⟨S2x8192x5632, .f32⟩ : BufTy).Contents (Elt F) → (⟨S2x8192x2816, .f32⟩ : BufTy).Contents (Elt F)),
    TRef.unary (TRef.of (T := ⟨S2x8192x2816, .f32⟩) main_v39) (TRef.of (T := ⟨S2x8192x2816, .f32⟩) main_call1_v0) Host.negf,
    TRef.unary (TRef.of (T := ⟨S2x8192x2816, .f32⟩) main_call1_v0) (TRef.of (T := ⟨S2x8192x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S2x8192x2816, .f32⟩) main_call1_v2) (broadcastInDim S2x8192x2816 ![] bcast_S_S2x8192x2816),
    TRef.binary (TRef.of (T := ⟨S2x8192x2816, .f32⟩) main_call1_v2) (TRef.of (T := ⟨S2x8192x2816, .f32⟩) main_call1_v1) (TRef.of (T := ⟨S2x8192x2816, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S2x8192x2816, .f32⟩) main_call1_v4) (broadcastInDim S2x8192x2816 ![] bcast_S_S2x8192x2816),
    TRef.binary (TRef.of (T := ⟨S2x8192x2816, .f32⟩) main_call1_v4) (TRef.of (T := ⟨S2x8192x2816, .f32⟩) main_call1_v3) (TRef.of (T := ⟨S2x8192x2816, .f32⟩) main_call1_v5) Host.divf,
    TRef.binary (TRef.of (T := ⟨S2x8192x2816, .f32⟩) main_v39) (TRef.of (T := ⟨S2x8192x2816, .f32⟩) main_call1_v5) (TRef.of (T := ⟨S2x8192x2816, .f32⟩) main_v41) mulf,
    binary main_v41 main_v40 main_v42 (mulf : (⟨S2x8192x2816, .f32⟩ : BufTy).Contents (Elt F) → (⟨S2x8192x2816, .f32⟩ : BufTy).Contents (Elt F) → (⟨S2x8192x2816, .f32⟩ : BufTy).Contents (Elt F)),
    unary main_arg5 main_v43 ((extf .f32 · bitsLt_bf16_f32) : (⟨S2816x1024, .bf16⟩ : BufTy).Contents (Elt F) → (⟨S2816x1024, .f32⟩ : BufTy).Contents (Elt F)),
    binary main_v42 main_v43 main_v44 ((fun l r => Host.dotGeneral dot_S2x8192x2816_S2816x1024_S2x8192x1024_2_0_01_1_n_n none l r) : (⟨S2x8192x2816, .f32⟩ : BufTy).Contents (Elt F) → (⟨S2816x1024, .f32⟩ : BufTy).Contents (Elt F) → (⟨S2x8192x1024, .f32⟩ : BufTy).Contents (Elt F)),
    nullary main_cst_0 (constant S_ .f32 0x3FB504F3#32),
    unary main_cst_0 main_v45 (broadcastInDim S2x8192x1024 ![] bcast_S_S2x8192x1024 : (⟨S_, .f32⟩ : BufTy).Contents (Elt F) → (⟨S2x8192x1024, .f32⟩ : BufTy).Contents (Elt F)),
    binary main_v45 main_arg0 main_v46 (mulf : (⟨S2x8192x1024, .f32⟩ : BufTy).Contents (Elt F) → (⟨S2x8192x1024, .f32⟩ : BufTy).Contents (Elt F) → (⟨S2x8192x1024, .f32⟩ : BufTy).Contents (Elt F)),
    unary main_v5 main_v47 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v47 main_v44 main_v48 (mulf : (⟨S2x8192x1024, .f32⟩ : BufTy).Contents (Elt F) → (⟨S2x8192x1024, .f32⟩ : BufTy).Contents (Elt F) → (⟨S2x8192x1024, .f32⟩ : BufTy).Contents (Elt F)),
    binary main_v46 main_v48 main_v49 (addf : (⟨S2x8192x1024, .f32⟩ : BufTy).Contents (Elt F) → (⟨S2x8192x1024, .f32⟩ : BufTy).Contents (Elt F) → (⟨S2x8192x1024, .f32⟩ : BufTy).Contents (Elt F)),
    nullary main_cst_1 (constant S_ .f32 0x00000000#32),
    binary main_v49 main_cst_1 main_v50 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v50 main_v51 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_2 (constant S_ .f32 0x44800000#32),
    unary main_cst_2 main_v52 (broadcastInDim S2x8192x1 ![] bcast_S_S2x8192x1 : (⟨S_, .f32⟩ : BufTy).Contents (Elt F) → (⟨S2x8192x1, .f32⟩ : BufTy).Contents (Elt F)),
    binary main_v51 main_v52 main_v53 (Host.divf : (⟨S2x8192x1, .f32⟩ : BufTy).Contents (Elt F) → (⟨S2x8192x1, .f32⟩ : BufTy).Contents (Elt F) → (⟨S2x8192x1, .f32⟩ : BufTy).Contents (Elt F)),
    unary main_v53 main_v54 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v49 main_v54 main_v55 (subf : (⟨S2x8192x1024, .f32⟩ : BufTy).Contents (Elt F) → (⟨S2x8192x1024, .f32⟩ : BufTy).Contents (Elt F) → (⟨S2x8192x1024, .f32⟩ : BufTy).Contents (Elt F)),
    binary main_v55 main_v55 main_v56 (mulf : (⟨S2x8192x1024, .f32⟩ : BufTy).Contents (Elt F) → (⟨S2x8192x1024, .f32⟩ : BufTy).Contents (Elt F) → (⟨S2x8192x1024, .f32⟩ : BufTy).Contents (Elt F)),
    nullary main_cst_3 (constant S_ .f32 0x00000000#32),
    binary main_v56 main_cst_3 main_v57 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v57 main_v58 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_4 (constant S_ .f32 0x44800000#32),
    unary main_cst_4 main_v59 (broadcastInDim S2x8192x1 ![] bcast_S_S2x8192x1 : (⟨S_, .f32⟩ : BufTy).Contents (Elt F) → (⟨S2x8192x1, .f32⟩ : BufTy).Contents (Elt F)),
    binary main_v58 main_v59 main_v60 (Host.divf : (⟨S2x8192x1, .f32⟩ : BufTy).Contents (Elt F) → (⟨S2x8192x1, .f32⟩ : BufTy).Contents (Elt F) → (⟨S2x8192x1, .f32⟩ : BufTy).Contents (Elt F)),
    unary main_v53 main_v61 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v49 main_v61 main_v62 (subf : (⟨S2x8192x1024, .f32⟩ : BufTy).Contents (Elt F) → (⟨S2x8192x1024, .f32⟩ : BufTy).Contents (Elt F) → (⟨S2x8192x1024, .f32⟩ : BufTy).Contents (Elt F)),
    nullary main_cst_5 (constant S_ .f32 0x358637BD#32),
    unary main_cst_5 main_v63 (broadcastInDim S2x8192x1 ![] bcast_S_S2x8192x1 : (⟨S_, .f32⟩ : BufTy).Contents (Elt F) → (⟨S2x8192x1, .f32⟩ : BufTy).Contents (Elt F)),
    binary main_v60 main_v63 main_v64 (addf : (⟨S2x8192x1, .f32⟩ : BufTy).Contents (Elt F) → (⟨S2x8192x1, .f32⟩ : BufTy).Contents (Elt F) → (⟨S2x8192x1, .f32⟩ : BufTy).Contents (Elt F)),
    unary main_v64 main_v65 (Host.rsqrt : (⟨S2x8192x1, .f32⟩ : BufTy).Contents (Elt F) → (⟨S2x8192x1, .f32⟩ : BufTy).Contents (Elt F)),
    unary main_v65 main_v66 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v62 main_v66 main_v67 (mulf : (⟨S2x8192x1024, .f32⟩ : BufTy).Contents (Elt F) → (⟨S2x8192x1024, .f32⟩ : BufTy).Contents (Elt F) → (⟨S2x8192x1024, .f32⟩ : BufTy).Contents (Elt F)),
    reshape main_arg6 main_v68 (rfl : (.f32 : EltTy) = .f32) shapeCasts_S1x1024_S1024,
    unary main_v68 main_v69 (broadcastInDim S1x1x1024 ![2] bcast_S1024_S1x1x1024_2 : (⟨S1024, .f32⟩ : BufTy).Contents (Elt F) → (⟨S1x1x1024, .f32⟩ : BufTy).Contents (Elt F)),
    unary main_v69 main_v70 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v67 main_v70 main_v71 (mulf : (⟨S2x8192x1024, .f32⟩ : BufTy).Contents (Elt F) → (⟨S2x8192x1024, .f32⟩ : BufTy).Contents (Elt F) → (⟨S2x8192x1024, .f32⟩ : BufTy).Contents (Elt F)),
    reshape main_arg7 main_v72 (rfl : (.f32 : EltTy) = .f32) shapeCasts_S1x1024_S1024,
    unary main_v72 main_v73 (broadcastInDim S1x1x1024 ![2] bcast_S1024_S1x1x1024_2 : (⟨S1024, .f32⟩ : BufTy).Contents (Elt F) → (⟨S1x1x1024, .f32⟩ : BufTy).Contents (Elt F)),
    unary main_v73 main_v74 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v71 main_v74 main_v75 (addf : (⟨S2x8192x1024, .f32⟩ : BufTy).Contents (Elt F) → (⟨S2x8192x1024, .f32⟩ : BufTy).Contents (Elt F) → (⟨S2x8192x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., reshape_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., reshape_bufs_sub .., unary_bufs_sub .., unary_bufs_sub .., binary_bufs_sub ..⟩

set_option maxRecDepth 8192 in
set_option maxHeartbeats 37200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v75).trans (by simp only [ops, TRef.binary, TRef.nullary, TRef.unary, TRef.toBuf, TRef.ofBuf, cast_eq]; after_results_simp <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.FfnHostRun

end
-- ==== Proof.FfnClaim.lean ====
module

public import proofs.«01_k».proof.Defs
public import proofs.«01_k».proof.Proof.FfnFinal
public import proofs.«01_k».proof.Proof.FfnRef
public import proofs.«01_k».proof.Proof.FfnHostRun
public import proofs.«01_k».proof.Proof.Gen.FfnIdeal.Value
public import Idealize.ShloMosaic.Lib.Quiescent

@[expose] public section

noncomputable section

namespace Cert.FfnClaim

open Idealize.ShloMosaic Idealize.ShloMosaic.TcCoe Idealize.SL.Sem

/-- The reference runs, leaves its arguments as they were, and has no counter to leave nonzero. -/
theorem frame_ref : Cert.quiescent_FfnRefIdeal (hFfnRefIdeal := Cert.FfnRefIdeal.Gen.facts) := by
  intro m ρ _
  exact (θ_run Cert.FfnRefIdeal.defs _ _).mono
    (fun r h => ⟨fun c => (h c).2, sem_eq_zero_of_no_sems (by decide) r.2⟩)
    (Cert.FfnHostRun.run (F := Ideal) m ρ)

/-- The kernel and the reference end with the same result array: both hold the layer’s result of the arguments. -/
theorem algebraic : Cert.algebraic_FfnIdeal_FfnRefIdeal (hFfnIdeal := Cert.FfnIdeal.Gen.facts)
    (hFfnRefIdeal := Cert.FfnRefIdeal.Gen.facts) := by
  intro m ρ m' ρ' _ hagree
  refine ⟨fun c => Cert.FfnBlock.result m c, ?_, ?_⟩
  · exact (θ_run Cert.FfnIdeal.defs _ _).mono
      (fun r h c => ⟨(h c).1.trans (Cert.FfnBlock.final m c), (h c).2⟩)
      (Cert.FfnIdeal.Value.run_blocks (F := Ideal) m ρ)
  · refine (θ_run Cert.FfnRefIdeal.defs _ _).mono (fun r h c => ⟨(h c).1.trans ?_, (h c).2⟩)
      (Cert.FfnHostRun.run (F := Ideal) m' ρ')
    obtain ⟨h0, h1, h2, h3, h4, h5, h6, h7⟩ := hagree c
    rw [h0, h1, h2, h3, h4, h5, h6, h7]
    funext i
    obtain ⟨b, p, n, rfl⟩ : ∃ (b : Fin 2) (p : Fin 8192) (n : Fin 1024), i = ix3 b p n :=
      ⟨i 0, i 1, i 2, by funext x; match x with | 0 => rfl | 1 => rfl | 2 => rfl⟩
    exact Cert.FfnHost.v75_apply _ _ _ _ _ _ _ _ b p n

end Cert.FfnClaim

end
-- ==== Proof.GlobLoop.lean ====
module

public import proofs.«01_k».proof.Proof.Gen.GlobIdeal.Value
public import Idealize.ShloMosaic.Lib.Pipeline.Value
public import Idealize.ShloMosaic.Lib.VecWindow
public import Idealize.ShloMosaic.Lib.Pointwise
public import Idealize.ShloMosaic.Lib.Tactic

@[expose] public section

set_option backward.proofsInPublic true
set_option maxRecDepth 65536

noncomputable section

namespace Cert.GlobBlock

open Cert.GlobIdeal Cert.GlobIdeal.Gen Idealize.ShloMosaic Idealize.ShloMosaic.TcCoe Idealize.SL.Sem

variable {F : FTy → Type} [FloatOps F] [Named F]

/-- The three running arrays: the maximum, the sum of the weights, the weighted sum of the values. -/
structure St (F : FTy → Type) where
  /-- The running maximum. -/
  m : Vec F S256x128 .f32
  /-- The running sum of the weights. -/
  l : Vec F S256x128 .f32
  /-- The running weighted sum of the values. -/
  a : Vec F S256x128 .f32

/-- The arrays before the first trip. -/
def start : St F := ⟨k0_pay20, k0_pay21, k0_pay22⟩

/-- One trip, with the stacked queries, three blocks of transposed keys and one block of values. -/
def step (q : FVec F S256x64 .bf16) (K : Fin 3 → Vec F S1x1x64x256 .bf16) (W : Vec F S1x768x128 .bf16) (s : St F) : St F :=
  ⟨k0_pay25 (k0_pay10 q (K 0) (K 1) (K 2) s.m),
    k0_pay23 (k0_pay12 q (K 0) (K 1) (K 2) s.m) (k0_pay13 q (K 0) (K 1) (K 2) s.m s.l),
    k0_pay24 (k0_pay11 q (K 0) (K 1) (K 2) s.m) (k0_pay12 q (K 0) (K 1) (K 2) s.m) s.a W⟩

/-- Block `3 n + r` of the transposed keys, of key head `h`. -/
def keys (x1 : Vec F S1x33x128x256 .bf16) (h : Fin 2) (n : ℕ) (r : Fin 3) : Vec F S1x1x64x256 .bf16 := fun y =>
  x1 (ix4 (0 : Fin 1) (⟨(3 * n + r.val) % 33, Nat.mod_lt _ (by decide)⟩ : Fin 33)
    (⟨64 * h.val + (y 2).val, by have : (y 2).val < 64 := (y 2).isLt; have := h.isLt; omega⟩ : Fin 128) (y 3 : Fin 256))

/-- Rows `768 n …` of the values. -/
def vals (x2 : Vec F S1x8448x128 .bf16) (n : ℕ) : Vec F S1x768x128 .bf16 := fun y =>
  x2 (ix3 (0 : Fin 1) (⟨(768 * n + (y 1).val) % 8448, Nat.mod_lt _ (by decide)⟩ : Fin 8448) (y 2 : Fin 128))

/-- The arrays after `n` trips, of key head `h`. -/
def after (q : FVec F S256x64 .bf16) (x1 : Vec F S1x33x128x256 .bf16) (x2 : Vec F S1x8448x128 .bf16) (h : Fin 2) : ℕ → St F
  | 0 => start
  | n + 1 => step q (keys x1 h n) (vals x2 n) (after q x1 x2 h n)

/-- Where a trip over key head 0 reads its keys. -/
theorem off1_eq : ∀ (k : Fin k0_t1_loop.trips) (r : Fin 3), k.val < 11 ∧ k0_off1 k (BitVec.ofNat 32 r.val) = ![0, 3 * k.val + r.val, 0, 0] := by
  decide +kernel

/-- Where a trip over key head 0 reads its values. -/
theorem off2_eq : ∀ (k : Fin k0_t1_loop.trips), k0_off2 k = ![0, 768 * k.val, 0] := by
  decide +kernel

/-- Where a trip over key head 1 reads its keys. -/
theorem off3_eq : ∀ (k : Fin k0_t2_loop.trips) (r : Fin 3), k.val < 11 ∧ k0_off3 k (BitVec.ofNat 32 r.val) = ![0, 3 * k.val + r.val, 64, 0] := by
  decide +kernel

/-- Where a trip over key head 1 reads its values. -/
theorem off4_eq : ∀ (k : Fin k0_t2_loop.trips), k0_off4 k = ![0, 768 * k.val, 0] := by
  decide +kernel

/-- The loop over key head 0 makes eleven trips. -/
theorem trips1 : k0_t1_loop.trips = 11 := by decide +kernel
/-- The loop over key head 1 makes eleven trips. -/
theorem trips2 : k0_t2_loop.trips = 11 := by decide +kernel

/-- A load of a block of keys is the block of keys. -/
theorem ld_keys (x1 : Vec F S1x33x128x256 .bf16) (h : Fin 2) (n : ℕ) (hn : n < 11) (r : Fin 3) {off : Fin 4 → ℕ}
    (e : off = ![0, 3 * n + r.val, 64 * h.val, 0]) (inb : ∀ a, off a + S1x1x64x256.size a ≤ S1x33x128x256.size a) :
    View.ld x1 (Rect.unit (s := S1x33x128x256) off S1x1x64x256.size inb) = keys x1 h n r := by
  subst e
  funext y
  refine congrArg x1 (funext fun a => Fin.ext ?_)
  have e0 : (y 0).val < 1 := (y 0).isLt
  have e1 : (y 1).val < 1 := (y 1).isLt
  have := r.isLt
  match a with
  | ⟨0, _⟩ => show 0 + 1 * (y 0).val = 0; omega
  | ⟨1, _⟩ => show 3 * n + r.val + 1 * (y 1).val = (3 * n + r.val) % 33; omega
  | ⟨2, _⟩ => show 64 * h.val + 1 * (y 2).val = 64 * h.val + (y 2).val; omega
  | ⟨3, _⟩ => show 0 + 1 * (y 3).val = (y 3).val; omega

/-- A load of a block of values is the block of values. -/
theorem ld_vals (x2 : Vec F S1x8448x128 .bf16) (n : ℕ) (hn : n < 11) {off : Fin 3 → ℕ}
    (e : off = ![0, 768 * n, 0]) (inb : ∀ a, off a + S1x768x128.size a ≤ S1x8448x128.size a) :
    View.ld x2 (Rect.unit (s := S1x8448x128) off S1x768x128.size inb) = vals x2 n := by
  subst e
  funext y
  refine congrArg x2 (funext fun a => Fin.ext ?_)
  have e0 : (y 0).val < 1 := (y 0).isLt
  have e1 : (y 1).val < 768 := (y 1).isLt
  match a with
  | ⟨0, _⟩ => show 0 + 1 * (y 0).val = 0; omega
  | ⟨1, _⟩ => show 768 * n + 1 * (y 1).val = (768 * n + (y 1).val) % 8448; omega
  | ⟨2, _⟩ => show 0 + 1 * (y 2).val = (y 2).val; omega

/-- What a trip over key head 0 stores, from the contents that it finds. -/
theorem trip1_eq (𝒱 : Variants) (c : Dev nD) (bd : Option 𝒱.V) (i : grid0.Coords) (arg2 : Memref sig .tc .vmem S1x128x256 .bf16) (harg2 : arg2.IsWhole) (arg3 : Memref sig .tc .vmem S1x33x128x256 .bf16) (harg3 : arg3.IsWhole) (arg4 : Memref sig .tc .vmem S1x8448x128 .bf16) (harg4 : arg4.IsWhole)
    (arg5 : Memref sig .tc .vmem S1x128x256 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
    (v0 : Vec F S1x128x256 .bf16) (X_arg3 : BufTy.Contents (Elt F) arg3.view.ty) (X_arg4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 v0 X_arg3 X_arg4 k f6 f7 f8 =
      let s := step (k0_pay19 v0)
        (fun r => View.readAt (Elt F) arg3.view (Rect.unit (s := S1x33x128x256) (k0_off1 k (BitVec.ofNat 32 r.val)) S1x1x64x256.size (k0_off1_inb k r)).toLoadRect X_arg3)
        (View.readAt (Elt F) arg4.view (Rect.unit (s := S1x8448x128) (k0_off2 k) S1x768x128.size (k0_off2_inb k)).toLoadRect X_arg4)
        ⟨(View.readAt (Elt F) arg6.view (Rect.unit (s := S256x128) ![0, 0] S256x128.size inb_S256x128_S256x128_0_0).toLoadRect f6), (View.readAt (Elt F) arg7.view (Rect.unit (s := S256x128) ![0, 0] S256x128.size inb_S256x128_S256x128_0_0).toLoadRect f7), (View.readAt (Elt F) arg8.view (Rect.unit (s := S256x128) ![0, 0] S256x128.size inb_S256x128_S256x128_0_0).toLoadRect f8)⟩
      ([⟨Rect.unit (s := S256x128) ![0, 0] S256x128.size inb_S256x128_S256x128_0_0, s.m⟩],
        [⟨Rect.unit (s := S256x128) ![0, 0] S256x128.size inb_S256x128_S256x128_0_0, s.l⟩],
        [⟨Rect.unit (s := S256x128) ![0, 0] S256x128.size inb_S256x128_S256x128_0_0, s.a⟩]) := by
  unfold tripL_k0_t1 trip_k0_t1
  rfl

/-- The three arrays after `n` trips over key head 0, from contents that hold the start. -/
theorem loop1_eq (𝒱 : Variants) (c : Dev nD) (bd : Option 𝒱.V) (i : grid0.Coords) (arg2 : Memref sig .tc .vmem S1x128x256 .bf16) (harg2 : arg2.IsWhole) (arg3 : Memref sig .tc .vmem S1x33x128x256 .bf16) (harg3 : arg3.IsWhole) (arg4 : Memref sig .tc .vmem S1x8448x128 .bf16) (harg4 : arg4.IsWhole)
    (arg5 : Memref sig .tc .vmem S1x128x256 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
    (v0 : Vec F S1x128x256 .bf16) (x1 : Vec F S1x33x128x256 .bf16) (x2 : Vec F S1x8448x128 .bf16)
    (G6 : BufTy.Contents (Elt F) arg6.view.ty) (G7 : BufTy.Contents (Elt F) arg7.view.ty) (G8 : BufTy.Contents (Elt F) arg8.view.ty)
    (h6 : arg6.view.read (Elt F) G6 = k0_pay20) (h7 : arg7.view.read (Elt F) G7 = k0_pay21) (h8 : arg8.view.read (Elt F) G8 = k0_pay22) :
    ∀ n, n ≤ 11 →
      arg6.view.read (Elt F) (arg6.view.writes (Elt F) G6 (pb_k0_t1 (F := F) 𝒱 c bd i arg2 harg2 arg3 harg3 arg4 harg4 arg5 harg5 arg6 harg6 arg7 harg7 arg8 harg8 v0 (harg3.unread x1) (harg4.unread x2) G6 G7 G8 n).1) = (after (k0_pay19 v0) x1 x2 0 n).m
      ∧ arg7.view.read (Elt F) (arg7.view.writes (Elt F) G7 (pb_k0_t1 (F := F) 𝒱 c bd i arg2 harg2 arg3 harg3 arg4 harg4 arg5 harg5 arg6 harg6 arg7 harg7 arg8 harg8 v0 (harg3.unread x1) (harg4.unread x2) G6 G7 G8 n).2.1) = (after (k0_pay19 v0) x1 x2 0 n).l
      ∧ arg8.view.read (Elt F) (arg8.view.writes (Elt F) G8 (pb_k0_t1 (F := F) 𝒱 c bd i arg2 harg2 arg3 harg3 arg4 harg4 arg5 harg5 arg6 harg6 arg7 harg7 arg8 harg8 v0 (harg3.unread x1) (harg4.unread x2) G6 G7 G8 n).2.2) = (after (k0_pay19 v0) x1 x2 0 n).a
  | 0, _ => ⟨h6, h7, h8⟩
  | n + 1, hn => by
    obtain ⟨e6, e7, e8⟩ := loop1_eq 𝒱 c bd i arg2 harg2 arg3 harg3 arg4 harg4 arg5 harg5 arg6 harg6 arg7 harg7 arg8 harg8 v0 x1 x2 G6 G7 G8 h6 h7 h8 n (by omega)
    have hk : n < k0_t1_loop.trips := by rw [trips1]; omega
    have s : pb_k0_t1 (F := F) 𝒱 c bd i arg2 harg2 arg3 harg3 arg4 harg4 arg5 harg5 arg6 harg6 arg7 harg7 arg8 harg8 v0 (harg3.unread x1) (harg4.unread x2) G6 G7 G8 (n + 1) = _ := pb_k0_t1_succ (F := F) 𝒱 c bd i arg2 harg2 arg3 harg3 arg4 harg4 arg5 harg5 arg6 harg6 arg7 harg7 arg8 harg8 v0 (harg3.unread x1) (harg4.unread x2) G6 G7 G8 ⟨n, hk⟩
    rw [s, trip1_eq, View.readAt_full, View.readAt_full, View.readAt_full, e6, e7, e8]
    simp only [View.readAt_eq_ld, harg3.read_unread, harg4.read_unread]
    have ek : (fun r : Fin 3 => View.ld x1 (Rect.unit (s := S1x33x128x256) (k0_off1 ⟨n, hk⟩ (BitVec.ofNat 32 r.val)) S1x1x64x256.size (k0_off1_inb ⟨n, hk⟩ r))) = keys x1 0 n :=
      funext fun r => ld_keys x1 0 n (by omega) r (off1_eq ⟨n, hk⟩ r).2 _
    have ev : View.ld x2 (Rect.unit (s := S1x8448x128) (k0_off2 ⟨n, hk⟩) S1x768x128.size (k0_off2_inb ⟨n, hk⟩)) = vals x2 n :=
      ld_vals x2 n (by omega) (off2_eq ⟨n, hk⟩) _
    refine ⟨(View.read_writes_full _ _ _ _ _).trans ?_, (View.read_writes_full _ _ _ _ _).trans ?_, (View.read_writes_full _ _ _ _ _).trans ?_⟩ <;>
      (first | rw [ek, ev] | erw [ek, ev]) <;> rfl

/-- What a trip over key head 1 stores, from the contents that it finds. -/
theorem trip2_eq (𝒱 : Variants) (c : Dev nD) (bd : Option 𝒱.V) (i : grid0.Coords) (arg2 : Memref sig .tc .vmem S1x128x256 .bf16) (harg2 : arg2.IsWhole) (arg3 : Memref sig .tc .vmem S1x33x128x256 .bf16) (harg3 : arg3.IsWhole) (arg4 : Memref sig .tc .vmem S1x8448x128 .bf16) (harg4 : arg4.IsWhole)
    (arg5 : Memref sig .tc .vmem S1x128x256 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
    (v29 : FVec F S128x64 .bf16) (v30 : FVec F S128x64 .bf16) (X_arg3 : BufTy.Contents (Elt F) arg3.view.ty) (X_arg4 : BufTy.Contents (Elt F) arg4.view.ty) (k : Fin k0_t2_loop.trips)
    (f6 : BufTy.Contents (Elt F) arg6.view.ty) (f7 : BufTy.Contents (Elt F) arg7.view.ty) (f8 : BufTy.Contents (Elt F) arg8.view.ty) :
    tripL_k0_t2 (F := F) 𝒱 c bd i arg2 harg2 arg3 harg3 arg4 harg4 arg5 harg5 arg6 harg6 arg7 harg7 arg8 harg8 v29 v30 X_arg3 X_arg4 k f6 f7 f8 =
      let s := step (k0_pay1 v29 v30)
        (fun r => View.readAt (Elt F) arg3.view (Rect.unit (s := S1x33x128x256) (k0_off3 k (BitVec.ofNat 32 r.val)) S1x1x64x256.size (k0_off3_inb k r)).toLoadRect X_arg3)
        (View.readAt (Elt F) arg4.view (Rect.unit (s := S1x8448x128) (k0_off4 k) S1x768x128.size (k0_off4_inb k)).toLoadRect X_arg4)
        ⟨(View.readAt (Elt F) arg6.view (Rect.unit (s := S256x128) ![0, 0] S256x128.size inb_S256x128_S256x128_0_0).toLoadRect f6), (View.readAt (Elt F) arg7.view (Rect.unit (s := S256x128) ![0, 0] S256x128.size inb_S256x128_S256x128_0_0).toLoadRect f7), (View.readAt (Elt F) arg8.view (Rect.unit (s := S256x128) ![0, 0] S256x128.size inb_S256x128_S256x128_0_0).toLoadRect f8)⟩
      ([⟨Rect.unit (s := S256x128) ![0, 0] S256x128.size inb_S256x128_S256x128_0_0, s.m⟩],
        [⟨Rect.unit (s := S256x128) ![0, 0] S256x128.size inb_S256x128_S256x128_0_0, s.l⟩],
        [⟨Rect.unit (s := S256x128) ![0, 0] S256x128.size inb_S256x128_S256x128_0_0, s.a⟩]) := by
  unfold tripL_k0_t2 trip_k0_t2
  rfl

/-- The three arrays after `n` trips over key head 1, from contents that hold the start. -/
theorem loop2_eq (𝒱 : Variants) (c : Dev nD) (bd : Option 𝒱.V) (i : grid0.Coords) (arg2 : Memref sig .tc .vmem S1x128x256 .bf16) (harg2 : arg2.IsWhole) (arg3 : Memref sig .tc .vmem S1x33x128x256 .bf16) (harg3 : arg3.IsWhole) (arg4 : Memref sig .tc .vmem S1x8448x128 .bf16) (harg4 : arg4.IsWhole)
    (arg5 : Memref sig .tc .vmem S1x128x256 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
    (v29 : FVec F S128x64 .bf16) (v30 : FVec F S128x64 .bf16) (x1 : Vec F S1x33x128x256 .bf16) (x2 : Vec F S1x8448x128 .bf16)
    (G6 : BufTy.Contents (Elt F) arg6.view.ty) (G7 : BufTy.Contents (Elt F) arg7.view.ty) (G8 : BufTy.Contents (Elt F) arg8.view.ty)
    (h6 : arg6.view.read (Elt F) G6 = k0_pay20) (h7 : arg7.view.read (Elt F) G7 = k0_pay21) (h8 : arg8.view.read (Elt F) G8 = k0_pay22) :
    ∀ n, n ≤ 11 →
      arg6.view.read (Elt F) (arg6.view.writes (Elt F) G6 (pb_k0_t2 (F := F) 𝒱 c bd i arg2 harg2 arg3 harg3 arg4 harg4 arg5 harg5 arg6 harg6 arg7 harg7 arg8 harg8 v29 v30 (harg3.unread x1) (harg4.unread x2) G6 G7 G8 n).1) = (after (k0_pay1 v29 v30) x1 x2 1 n).m
      ∧ arg7.view.read (Elt F) (arg7.view.writes (Elt F) G7 (pb_k0_t2 (F := F) 𝒱 c bd i arg2 harg2 arg3 harg3 arg4 harg4 arg5 harg5 arg6 harg6 arg7 harg7 arg8 harg8 v29 v30 (harg3.unread x1) (harg4.unread x2) G6 G7 G8 n).2.1) = (after (k0_pay1 v29 v30) x1 x2 1 n).l
      ∧ arg8.view.read (Elt F) (arg8.view.writes (Elt F) G8 (pb_k0_t2 (F := F) 𝒱 c bd i arg2 harg2 arg3 harg3 arg4 harg4 arg5 harg5 arg6 harg6 arg7 harg7 arg8 harg8 v29 v30 (harg3.unread x1) (harg4.unread x2) G6 G7 G8 n).2.2) = (after (k0_pay1 v29 v30) x1 x2 1 n).a
  | 0, _ => ⟨h6, h7, h8⟩
  | n + 1, hn => by
    obtain ⟨e6, e7, e8⟩ := loop2_eq 𝒱 c bd i arg2 harg2 arg3 harg3 arg4 harg4 arg5 harg5 arg6 harg6 arg7 harg7 arg8 harg8 v29 v30 x1 x2 G6 G7 G8 h6 h7 h8 n (by omega)
    have hk : n < k0_t2_loop.trips := by rw [trips2]; omega
    have s : pb_k0_t2 (F := F) 𝒱 c bd i arg2 harg2 arg3 harg3 arg4 harg4 arg5 harg5 arg6 harg6 arg7 harg7 arg8 harg8 v29 v30 (harg3.unread x1) (harg4.unread x2) G6 G7 G8 (n + 1) = _ := pb_k0_t2_succ (F := F) 𝒱 c bd i arg2 harg2 arg3 harg3 arg4 harg4 arg5 harg5 arg6 harg6 arg7 harg7 arg8 harg8 v29 v30 (harg3.unread x1) (harg4.unread x2) G6 G7 G8 ⟨n, hk⟩
    rw [s, trip2_eq, View.readAt_full, View.readAt_full, View.readAt_full, e6, e7, e8]
    simp only [View.readAt_eq_ld, harg3.read_unread, harg4.read_unread]
    have ek : (fun r : Fin 3 => View.ld x1 (Rect.unit (s := S1x33x128x256) (k0_off3 ⟨n, hk⟩ (BitVec.ofNat 32 r.val)) S1x1x64x256.size (k0_off3_inb ⟨n, hk⟩ r))) = keys x1 1 n :=
      funext fun r => ld_keys x1 1 n (by omega) r (off3_eq ⟨n, hk⟩ r).2 _
    have ev : View.ld x2 (Rect.unit (s := S1x8448x128) (k0_off4 ⟨n, hk⟩) S1x768x128.size (k0_off4_inb ⟨n, hk⟩)) = vals x2 n :=
      ld_vals x2 n (by omega) (off4_eq ⟨n, hk⟩) _
    refine ⟨(View.read_writes_full _ _ _ _ _).trans ?_, (View.read_writes_full _ _ _ _ _).trans ?_, (View.read_writes_full _ _ _ _ _).trans ?_⟩ <;>
      (first | rw [ek, ev] | erw [ek, ev]) <;> rfl

/-- A load of a whole array over stores reads what the stores leave. -/
theorem cov_full (v : View sig .tc .vmem S256x128 .f32) (L : List (View.Piece (Elt F) S256x128 .f32)) :
    v.readCov L (Rect.unit (s := S256x128) ![0, 0] ![256, 128] inb_S256x128_S256x128_0_0).toLoadRect
      = v.read (Elt F) (v.writes (Elt F) v.junk L) := View.readAt_full v _ _

/-- The finished block, from the queries’ block, the keys and the values. -/
def block (x0 : Vec F S1x128x256 .bf16) (x1 : Vec F S1x33x128x256 .bf16) (x2 : Vec F S1x8448x128 .bf16) : Vec F S1x128x256 .f32 :=
  let s := after (k0_pay19 x0) x1 x2 0 11
  let t := after (k0_pay1 (k0_pay30 x0) (k0_pay31 x0)) x1 x2 1 11
  k0_pay8 (k0_pay27 s.a s.l) (k0_pay28 s.a s.l) t.a t.l

/-- What the body leaves in the result's block. -/
theorem out_eq (c : Dev nD) (i : grid0.Coords) (arg2 : Memref sig .tc .vmem S1x128x256 .bf16) (harg2 : arg2.IsWhole) (arg3 : Memref sig .tc .vmem S1x33x128x256 .bf16) (harg3 : arg3.IsWhole) (arg4 : Memref sig .tc .vmem S1x8448x128 .bf16) (harg4 : arg4.IsWhole)
    (arg5 : Memref sig .tc .vmem S1x128x256 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
    (x0 : Vec F S1x128x256 .bf16) (x1 : Vec F S1x33x128x256 .bf16) (x2 : Vec F S1x8448x128 .bf16) :
    out0_A_3 c i arg2 harg2 arg3 harg3 arg4 harg4 arg5 harg5 arg6 harg6 arg7 harg7 arg8 harg8 x0 x1 x2 = block x0 x1 x2 := by
  unfold out0_A_3
  rw [View.read_writes_eq_canon _ _ _ (cover0_A_3 c i arg2 harg2 arg3 harg3 arg4 harg4 arg5 harg5 arg6 harg6 arg7 harg7 arg8 harg8 x0 x1 x2)]
  have hz : (![0, 0, 0] : Fin 3 → Nat) = fun _ => 0 := funext fun a => by fin_cases a <;> rfl
  have hq : View.readAt (Elt F) arg2.view (Rect.unit (s := S1x128x256) ![0, 0, 0] S1x128x256.size inb_S1x128x256_S1x128x256_0_0_0).toLoadRect (harg2.unread x0) = x0 := by
    rw [View.readAt_full, harg2.read_unread]
  unfold kernelRun0_A
  dsimp only
  rw [View.canon_unit_zero hz]
  sl_unfold_words
  have ht : Scf.trips (0#32) (Scalar.addi 0#32 11#32) 1#32 = 11 := by decide +kernel
  simp only [hq, ht, cov_full, View.writes_append]
  have r1 := loop1_eq Variants.none c none i arg2 harg2 arg3 harg3 arg4 harg4 arg5 harg5 arg6 harg6 arg7 harg7 arg8 harg8 x0 x1 x2
    (arg6.view.writes (Elt F) arg6.view.junk [⟨Rect.unit (s := S256x128) ![0, 0] S256x128.size inb_S256x128_S256x128_0_0, k0_pay20⟩])
    (arg7.view.writes (Elt F) arg7.view.junk [⟨Rect.unit (s := S256x128) ![0, 0] S256x128.size inb_S256x128_S256x128_0_0, k0_pay21⟩])
    (arg8.view.writes (Elt F) arg8.view.junk [⟨Rect.unit (s := S256x128) ![0, 0] S256x128.size inb_S256x128_S256x128_0_0, k0_pay22⟩])
    (View.read_writes_full _ _ _ _ _) (View.read_writes_full _ _ _ _ _) (View.read_writes_full _ _ _ _ _) 11 le_rfl
  have r2 := fun L6 L7 L8 => loop2_eq Variants.none c none i arg2 harg2 arg3 harg3 arg4 harg4 arg5 harg5 arg6 harg6 arg7 harg7 arg8 harg8 (k0_pay30 x0) (k0_pay31 x0) x1 x2
    (arg6.view.writes (Elt F) arg6.view.junk (⟨Rect.unit (s := S256x128) ![0, 0] S256x128.size inb_S256x128_S256x128_0_0, k0_pay2⟩ :: L6))
    (arg7.view.writes (Elt F) arg7.view.junk (⟨Rect.unit (s := S256x128) ![0, 0] S256x128.size inb_S256x128_S256x128_0_0, k0_pay3⟩ :: L7))
    (arg8.view.writes (Elt F) arg8.view.junk (⟨Rect.unit (s := S256x128) ![0, 0] S256x128.size inb_S256x128_S256x128_0_0, k0_pay4⟩ :: L8))
    (View.read_writes_full _ _ _ _ _) (View.read_writes_full _ _ _ _ _) (View.read_writes_full _ _ _ _ _) 11 le_rfl
  unfold block
  exact congr (congr (congr (congrArg k0_pay8 (congr (congrArg k0_pay27 r1.2.2) r1.2.1)) (congr (congrArg k0_pay28 r1.2.2) r1.2.1)) (r2 _ _ _).2.2) (r2 _ _ _).2.1

end Cert.GlobBlock

end
-- ==== Proof.GlobSpec.lean ====
module

public import Idealize.ShloMosaic.Lib.Pointwise
public import Idealize.ShloMosaic.Lib.IdealHost

@[expose] public section

set_option backward.proofsInPublic true

noncomputable section

namespace Cert.GlobSpec

open Idealize.ShloMosaic

/-- Softmax attention of one query: real scores, values of any kind. -/
def att (σ : Fin 8448 → ℝ) (v : Fin 8448 → EReal) : EReal :=
  (∑ t, (Real.exp (σ t) : EReal) * v t) * ((1 / ∑ t, Real.exp (σ t) : ℝ) : EReal)

/-- A nonnegative real factor goes into a sum. -/
theorem mul_sum_of_nonneg {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, beginning with minus infinity, is real or minus infinity. -/
theorem fold_real {ι : Type} [DecidableEq ι] (s : Finset ι) (f : ι → ℝ) :
    (s.fold max (⊥ : EReal) fun i => (f i : EReal)) = ⊥ ∧ s = ∅ ∨ ∃ r : ℝ, (s.fold max (⊥ : EReal) fun i => (f i : EReal)) = r := by
  induction s using Finset.induction_on with
  | empty => left; simp
  | insert a s ha ih =>
    right
    rw [Finset.fold_insert ha]
    rcases ih with ⟨h, -⟩ | ⟨r, h⟩
    · exact ⟨f a, by rw [h]; simp⟩
    · exact ⟨max (f a) r, by rw [h]; exact (EReal.coe_strictMono.monotone.map_max).symm⟩

/-- The largest of some reals is real. -/
theorem fold_real' {n : ℕ} [NeZero n] (f : Fin n → ℝ) : ∃ r : ℝ, (Finset.univ.fold max (⊥ : EReal) fun i => (f i : EReal)) = r := by
  rcases fold_real Finset.univ f with ⟨-, h⟩ | h
  · exact absurd h (Finset.univ_nonempty (α := Fin n)).ne_empty
  · exact h

/-- Running maximum, running sum of weights, running weighted sum. -/
structure Run where
  /-- The running maximum. -/
  m : EReal
  /-- The running sum of the weights. -/
  l : EReal
  /-- The running weighted sum of the values. -/
  a : EReal

/-- One block of the running softmax: the scores and the values of 768 keys. -/
def next (s : Fin 768 → EReal) (v : Fin 768 → EReal) (r : Run) : Run :=
  let m' := max r.m (Finset.univ.fold max ⊥ s)
  ⟨m', Ideal.exp (r.m - m') * r.l + ∑ j, Ideal.exp (s j - m'), Ideal.exp (r.m - m') * r.a + ∑ j, Ideal.exp (s j - m') * v j⟩

/-- The running softmax over the first blocks. -/
def run (s : ℕ → Fin 768 → EReal) (v : ℕ → Fin 768 → EReal) : ℕ → Run
  | 0 => ⟨⊥, 0, 0⟩
  | n + 1 => next (s n) (v n) (run s v n)

/-- What the running arrays hold: the sums over the keys so far, scaled by the exponential of minus the running maximum. -/
theorem run_eq (σ : ℕ → Fin 768 → ℝ) (v : ℕ → Fin 768 → EReal) (n : ℕ) :
    ∃ M : ℝ, (run (fun i j => (σ i j : EReal)) v (n + 1)).m = M
      ∧ (run (fun i j => (σ i j : EReal)) v (n + 1)).l = ((Real.exp (-M) * ∑ i ∈ Finset.range (n + 1), ∑ j, Real.exp (σ i j) : ℝ) : EReal)
      ∧ (run (fun i j => (σ i j : EReal)) v (n + 1)).a
        = ((Real.exp (-M) : ℝ) : EReal) * ∑ i ∈ Finset.range (n + 1), ∑ j, (Real.exp (σ i j) : EReal) * v i j := by
  have blockl : ∀ (n : ℕ) (M : ℝ), (∑ j, Ideal.exp ((σ n j : EReal) - (M : EReal))) = ((Real.exp (-M) * ∑ j, Real.exp (σ n j) : ℝ) : EReal) := by
    intro n M
    rw [Finset.mul_sum, coe_sum]
    refine Finset.sum_congr rfl fun j _ => ?_
    rw [← EReal.coe_sub, ← Real.exp_add, show σ n j - M = -M + σ n j by ring]
    rfl
  have blocka : ∀ (n : ℕ) (M : ℝ), (∑ j, Ideal.exp ((σ n j : EReal) - (M : EReal)) * v n j)
      = ((Real.exp (-M) : ℝ) : EReal) * ∑ j, (Real.exp (σ n j) : EReal) * v n j := by
    intro n M
    rw [mul_sum_of_nonneg _ (Real.exp_pos _).le]
    refine Finset.sum_congr rfl fun j _ => ?_
    rw [← mul_assoc, ← EReal.coe_mul, ← EReal.coe_sub, ← Real.exp_add, show σ n j - M = -M + σ n j by ring]
    rfl
  induction n with
  | zero =>
    obtain ⟨M, hM⟩ := fold_real' (σ 0)
    refine ⟨M, ?_, ?_, ?_⟩
    · show max (⊥ : EReal) _ = _
      rw [hM]; simp
    · show Ideal.exp ((⊥ : EReal) - max ⊥ _) * 0 + ∑ j, Ideal.exp (_ - max ⊥ _) = _
      rw [hM, max_eq_right bot_le, blockl, mul_zero, zero_add, Finset.sum_range_one]
    · show Ideal.exp ((⊥ : EReal) - max ⊥ _) * 0 + ∑ j, Ideal.exp (_ - max ⊥ _) * _ = _
      rw [hM, max_eq_right bot_le, blocka, mul_zero, zero_add, Finset.sum_range_one]
  | succ n ih =>
    obtain ⟨M, h1, h2, h3⟩ := ih
    obtain ⟨B, hB⟩ := fold_real' (σ (n + 1))
    have hm : max (run (fun i j => (σ i j : EReal)) v (n + 1)).m (Finset.univ.fold max ⊥ fun j => (σ (n + 1) j : EReal)) = ((max M B : ℝ) : EReal) := by
      rw [h1, hB]; exact (EReal.coe_strictMono.monotone.map_max).symm
    have he : Ideal.exp ((M : EReal) - ((max M B : ℝ) : EReal)) = ((Real.exp (M - max M B) : ℝ) : EReal) := by
      rw [← EReal.coe_sub]; rfl
    have hc : Real.exp (M - max M B) * Real.exp (-M) = Real.exp (-max M B) := by
      rw [← Real.exp_add]; exact congrArg Real.exp (by ring)
    refine ⟨max M B, hm, ?_, ?_⟩
    · show Ideal.exp (_ - max _ _) * _ + ∑ j, Ideal.exp (_ - max _ _) = _
      rw [hm, h1, h2, blockl, he, ← EReal.coe_mul, ← EReal.coe_add, Finset.sum_range_succ _ (n + 1), mul_add, ← mul_assoc, hc]
    · show Ideal.exp (_ - max _ _) * _ + ∑ j, Ideal.exp (_ - max _ _) * _ = _
      rw [hm, h1, h3, blocka, he, ← mul_assoc, ← EReal.coe_mul, hc, Finset.sum_range_succ _ (n + 1),
        EReal.left_distrib_of_nonneg_of_ne_top (EReal.coe_nonneg.mpr (Real.exp_pos _).le) (EReal.coe_ne_top _)]

/-- Sums over eleven blocks of 768 keys are sums over all keys. -/
theorem sum_blocks {M : Type} [AddCommMonoid M] (f : Fin 8448 → M) :
    ∑ i ∈ Finset.range 11, ∑ j : Fin 768, f ⟨(768 * i + j.val) % 8448, Nat.mod_lt _ (by decide)⟩ = ∑ t, f t := by
  rw [Fin.sum_univ_tiles 11 768 (by decide) f, Finset.sum_range]
  refine Finset.sum_congr rfl fun i _ => Finset.sum_congr rfl fun j _ => congrArg f (Fin.ext ?_)
  show (768 * i.val + j.val) % 8448 = i.val * 768 + j.val
  have := i.isLt; have := j.isLt; omega

/-- The sum of exponentials is not zero. -/
theorem sum_exp_pos (σ : Fin 8448 → ℝ) : 0 < ∑ t, Real.exp (σ t) :=
  Finset.sum_pos (fun _ _ => Real.exp_pos _) ⟨⟨0, by decide⟩, Finset.mem_univ _⟩

/-- The running softmax over all keys, divided at the end, is the softmax attention. -/
theorem run_att (σ : Fin 8448 → ℝ) (v : Fin 8448 → EReal) (s w : ℕ → Fin 768 → EReal)
    (hs : ∀ n, n < 11 → ∀ j, s n j = (σ ⟨(768 * n + j.val) % 8448, Nat.mod_lt _ (by decide)⟩ : EReal))
    (hw : ∀ n, n < 11 → ∀ j, w n j = v ⟨(768 * n + j.val) % 8448, Nat.mod_lt _ (by decide)⟩) :
    Ideal.div (run s w 11).a (run s w 11).l = att σ v := by
  have ext : ∀ n, n ≤ 11 → run s w n = run (fun i j => (σ ⟨(768 * i + j.val) % 8448, Nat.mod_lt _ (by decide)⟩ : EReal))
      (fun i j => v ⟨(768 * i + j.val) % 8448, Nat.mod_lt _ (by decide)⟩) n := by
    intro n hn
    induction n with
    | zero => rfl
    | succ n ih =>
      show next _ _ _ = next _ _ _
      rw [ih (by omega), funext (hs n (by omega)), funext (hw n (by omega))]
  rw [ext 11 le_rfl]
  obtain ⟨M, -, h2, h3⟩ := run_eq (fun i j => σ ⟨(768 * i + j.val) % 8448, Nat.mod_lt _ (by decide)⟩)
    (fun i j => v ⟨(768 * i + j.val) % 8448, Nat.mod_lt _ (by decide)⟩) 10
  rw [h2, h3, sum_blocks (fun t => Real.exp (σ t)), sum_blocks (fun t => (Real.exp (σ t) : EReal) * v t)]
  have hp := sum_exp_pos σ
  have he := Real.exp_pos (-M)
  rw [Ideal.div_coe (mul_pos he hp).ne']
  unfold att
  rw [mul_comm ((Real.exp (-M) : ℝ) : EReal), mul_assoc, ← EReal.coe_mul]
  refine congrArg (fun x : ℝ => (_ : EReal) * (x : EReal)) ?_
  field_simp

/-- The plain softmax with any real shift, then the weighted sum, is the softmax attention. -/
theorem plain_att (σ : Fin 8448 → ℝ) (v : Fin 8448 → EReal) (M : ℝ) :
    (∑ t, Ideal.div (Ideal.exp ((σ t : EReal) - (M : EReal))) (∑ u, Ideal.exp ((σ u : EReal) - (M : EReal))) * v t) = att σ v := by
  have hp := sum_exp_pos σ
  have he := Real.exp_pos (-M)
  have hx : ∀ t, Ideal.exp ((σ t : EReal) - (M : EReal)) = ((Real.exp (-M) * Real.exp (σ t) : ℝ) : EReal) := by
    intro t
    rw [← EReal.coe_sub, ← Real.exp_add, show σ t - M = -M + σ t by ring]
    rfl
  have hS : (∑ u, Ideal.exp ((σ u : EReal) - (M : EReal))) = ((Real.exp (-M) * ∑ t, Real.exp (σ t) : ℝ) : EReal) := by
    rw [Finset.mul_sum, coe_sum]
    exact Finset.sum_congr rfl fun t _ => hx t
  unfold att
  rw [hS, mul_comm (∑ t, _), mul_sum_of_nonneg _ (one_div_pos.mpr hp).le]
  refine Finset.sum_congr rfl fun t _ => ?_
  rw [hx, Ideal.div_coe (mul_pos he hp).ne', ← EReal.coe_mul, ← mul_assoc, ← EReal.coe_mul]
  refine congrArg (fun x : ℝ => (x : EReal) * _) ?_
  field_simp

/-- A product sum of finite entries is real. -/
theorem dot_real {n : ℕ} (q k : Fin n → EReal) (hq : ∀ d, q d ≠ ⊥ ∧ q d ≠ ⊤) (hk : ∀ d, k d ≠ ⊥ ∧ k d ≠ ⊤) :
    (∑ d, q d * k d) = ((∑ d, (q d).toReal * (k d).toReal : ℝ) : EReal) := by
  rw [coe_sum]
  refine Finset.sum_congr rfl fun d _ => ?_
  rw [EReal.coe_mul, EReal.coe_toReal (hq d).2 (hq d).1, EReal.coe_toReal (hk d).2 (hk d).1]

/-- An array of extended reals. -/
abbrev Arr (s : Shape) : Type := s.Idx → EReal

section spec

variable (q : Arr ⟨3, ![2, 8448, 256]⟩) (k : Arr ⟨4, ![2, 33, 128, 256]⟩) (v : Arr ⟨3, ![2, 8448, 128]⟩)

/-- The score of query row `p` with key `t`, of the head that result column `c` belongs to. -/
def score (b : Fin 2) (p : Fin 8448) (c : Fin 256) (t : Fin 8448) : EReal :=
  ∑ d : Fin 64, q (ix3 b p ⟨64 * (c.val / 64) + d.val, by omega⟩)
    * k (ix4 b ⟨t.val / 256, by omega⟩ ⟨64 * (c.val / 128) + d.val, by omega⟩ ⟨t.val % 256, by omega⟩)

/-- The same score among the reals. -/
def scoreR (b : Fin 2) (p : Fin 8448) (c : Fin 256) (t : Fin 8448) : ℝ :=
  ∑ d : Fin 64, (q (ix3 b p ⟨64 * (c.val / 64) + d.val, by omega⟩)).toReal
    * (k (ix4 b ⟨t.val / 256, by omega⟩ ⟨64 * (c.val / 128) + d.val, by omega⟩ ⟨t.val % 256, by omega⟩)).toReal

/-- With finite queries and keys the score is real. -/
theorem score_real (hq : ∀ i, q i ≠ ⊥ ∧ q i ≠ ⊤) (hk : ∀ i, k i ≠ ⊥ ∧ k i ≠ ⊤) (b : Fin 2) (p : Fin 8448) (c : Fin 256) (t : Fin 8448) :
    score q k b p c t = (scoreR q k b p c t : EReal) :=
  dot_real _ _ (fun _ => hq _) (fun _ => hk _)

/-- The attention's result: row `p`, column `c`. -/
def out (b : Fin 2) (p : Fin 8448) (c : Fin 256) : EReal :=
  att (scoreR q k b p c) fun t => v (ix3 b t ⟨64 * (c.val / 128) + c.val % 64, by omega⟩)

end spec

end Cert.GlobSpec

end
-- ==== Proof.GlobKernel.lean ====
module

public import proofs.«01_k».proof.Proof.GlobLoop
public import proofs.«01_k».proof.Proof.GlobSpec

@[expose] public section

set_option backward.proofsInPublic true

noncomputable section

namespace Cert.GlobBlock

open Cert.GlobIdeal Cert.GlobIdeal.Gen Idealize.ShloMosaic Cert.GlobSpec

/-- The score of stacked query row `r` with key `j` of the block of trip `n`. -/
def sc (q : FVec Ideal S256x64 .bf16) (x1 : Vec Ideal S1x33x128x256 .bf16) (h : Fin 2) (r : Fin 256) (n : ℕ) (j : Fin 768) : EReal :=
  ∑ d : Fin 64, q (ix2 r d) * x1 (ix4 0 ⟨(3 * n + j.val / 256) % 33, Nat.mod_lt _ (by decide)⟩
    ⟨64 * h.val + d.val, by omega⟩ ⟨j.val % 256, Nat.mod_lt _ (by decide)⟩)

/-- Column `c` of the values of the block of trip `n`. -/
def vl (x2 : Vec Ideal S1x8448x128 .bf16) (c : Fin 128) (n : ℕ) (j : Fin 768) : EReal :=
  x2 (ix3 0 ⟨(768 * n + j.val) % 8448, Nat.mod_lt _ (by decide)⟩ c)

/-- The scores, element by element. -/
theorem pay9_apply (q : FVec Ideal S256x64 .bf16) (x1 : Vec Ideal S1x33x128x256 .bf16) (h : Fin 2) (n : ℕ) (r : Fin 256) (j : Fin 768) :
    k0_pay9 q (keys x1 h n 0) (keys x1 h n 1) (keys x1 h n 2) (ix2 r j) = sc q x1 h r n j := by
  have key : ∀ (a : Fin 3) (y : Fin 256), j.val = 256 * a.val + y.val →
      (∑ d, q (ix2 r d) * keys x1 h n a (ix4 0 0 d y)) = sc q x1 h r n j := by
    intro a y e
    refine Finset.sum_congr rfl fun d _ => congrArg (q (ix2 r d) * ·) (congrArg x1 ?_)
    have e1 : (⟨(3 * n + a.val) % 33, Nat.mod_lt _ (by decide)⟩ : Fin 33) = ⟨(3 * n + j.val / 256) % 33, Nat.mod_lt _ (by decide)⟩ :=
      Fin.ext (by show (3 * n + a.val) % 33 = (3 * n + j.val / 256) % 33; have := y.isLt; rw [show j.val / 256 = a.val by omega])
    have e2 : y = ⟨j.val % 256, Nat.mod_lt _ (by decide)⟩ := Fin.ext (by show y.val = j.val % 256; have := y.isLt; omega)
    rw [e1]
    conv_rhs => rw [← e2]
    rfl
  pointwise [k0_pay9]
  by_cases c1 : j.val < 256
  · rw [dif_pos c1]; exact key 0 ⟨j.val, c1⟩ (by simp)
  · rw [dif_neg c1]
    by_cases c2 : j.val - 256 < 256
    · rw [dif_pos c2]; exact key 1 ⟨j.val - 256, c2⟩ (by show j.val = 256 * 1 + (j.val - 256); omega)
    · rw [dif_neg c2]; exact key 2 ⟨j.val - 256 - 256, by omega⟩ (by show j.val = 256 * 2 + (j.val - 256 - 256); omega)

/-- The pattern of minus infinity. -/
theorem ofBits_bot : Ideal.ofBits FTy.f32 4286578688#32 = ⊥ := by
  simp [Ideal.ofBits, Ideal.ieee]

/-- One trip's maximum, element by element. -/
theorem pay10_apply (q : FVec Ideal S256x64 .bf16) (K0 K1 K2 : Vec Ideal S1x1x64x256 .bf16) (m : Vec Ideal S256x128 .f32) (r : Fin 256) (c : Fin 128) :
    k0_pay10 q K0 K1 K2 m (ix2 r c) = max (m (ix2 r c)) (Finset.univ.fold max ⊥ fun x => k0_pay9 q K0 K1 K2 (ix2 r x)) := by
  pointwise [k0_pay10]
  rw [ofBits_bot]

/-- One trip's weights, element by element. -/
theorem pay12_apply (q : FVec Ideal S256x64 .bf16) (K0 K1 K2 : Vec Ideal S1x1x64x256 .bf16) (m : Vec Ideal S256x128 .f32) (r : Fin 256) (j : Fin 768) :
    k0_pay12 q K0 K1 K2 m (ix2 r j) = Ideal.exp (k0_pay9 q K0 K1 K2 (ix2 r j) - k0_pay10 q K0 K1 K2 m (ix2 r 0)) := by
  pointwise [k0_pay12]

/-- One trip's sum of weights, element by element. -/
theorem pay23_apply (q : FVec Ideal S256x64 .bf16) (K0 K1 K2 : Vec Ideal S1x1x64x256 .bf16) (m l : Vec Ideal S256x128 .f32) (r : Fin 256) (c : Fin 128) :
    k0_pay23 (k0_pay12 q K0 K1 K2 m) (k0_pay13 q K0 K1 K2 m l) (ix2 r c)
      = Ideal.exp (m (ix2 r c) - k0_pay10 q K0 K1 K2 m (ix2 r c)) * l (ix2 r c) + ∑ x, k0_pay12 q K0 K1 K2 m (ix2 r x) := by
  pointwise [k0_pay23, k0_pay13, k0_pay11]

/-- One trip's weighted sum of values, element by element. -/
theorem pay24_apply (q : FVec Ideal S256x64 .bf16) (K0 K1 K2 : Vec Ideal S1x1x64x256 .bf16) (m a : Vec Ideal S256x128 .f32) (W : Vec Ideal S1x768x128 .bf16)
    (r : Fin 256) (c : Fin 128) :
    k0_pay24 (k0_pay11 q K0 K1 K2 m) (k0_pay12 q K0 K1 K2 m) a W (ix2 r c)
      = Ideal.exp (m (ix2 r c) - k0_pay10 q K0 K1 K2 m (ix2 r c)) * a (ix2 r c) + ∑ x, k0_pay12 q K0 K1 K2 m (ix2 r x) * W (ix3 0 x c) := by
  pointwise [k0_pay24, k0_pay11]

/-- The stored maximum, element by element. -/
theorem pay25_apply (m : FVec Ideal S256x128 .f32) (r : Fin 256) (c : Fin 128) : k0_pay25 m (ix2 r c) = m (ix2 r c) := by
  pointwise [k0_pay25]

/-- The running maximum and the running sum of weights do not depend on the values. -/
theorem run_indep (s v w : ℕ → Fin 768 → EReal) (n : ℕ) : (run s v n).m = (run s w n).m ∧ (run s v n).l = (run s w n).l := by
  induction n with
  | zero => exact ⟨rfl, rfl⟩
  | succ n ih =>
    constructor
    · show max _ _ = max _ _; rw [ih.1]
    · show Ideal.exp (_ - max _ _) * _ + ∑ j, Ideal.exp (_ - max _ _) = Ideal.exp (_ - max _ _) * _ + ∑ j, Ideal.exp (_ - max _ _)
      rw [ih.1, ih.2]

/-- The arrays after `n` trips hold the running softmax of every row and column. -/
theorem after_apply (q : FVec Ideal S256x64 .bf16) (x1 : Vec Ideal S1x33x128x256 .bf16) (x2 : Vec Ideal S1x8448x128 .bf16) (h : Fin 2) (n : ℕ) :
    ∀ (r : Fin 256) (c : Fin 128), (after q x1 x2 h n).m (ix2 r c) = (run (sc q x1 h r) (vl x2 c) n).m
      ∧ (after q x1 x2 h n).l (ix2 r c) = (run (sc q x1 h r) (vl x2 c) n).l
      ∧ (after q x1 x2 h n).a (ix2 r c) = (run (sc q x1 h r) (vl x2 c) n).a := by
  induction n with
  | zero =>
    intro r c
    refine ⟨?_, ?_, ?_⟩
    · show k0_pay20 (F := Ideal) (ix2 r c) = ⊥
      pointwise [k0_pay20]
      exact IdealRules.named_const.ideal_named_scalar _ _ _ _ rfl
    · show k0_pay21 (F := Ideal) (ix2 r c) = 0
      pointwise [k0_pay21]
    · show k0_pay22 (F := Ideal) (ix2 r c) = 0
      pointwise [k0_pay22]
  | succ n ih =>
    have H10 : ∀ (r : Fin 256) (c : Fin 128), k0_pay10 q (keys x1 h n 0) (keys x1 h n 1) (keys x1 h n 2) (after q x1 x2 h n).m (ix2 r c)
        = max (run (sc q x1 h r) (vl x2 c) n).m (Finset.univ.fold max ⊥ (sc q x1 h r n)) := by
      intro r c
      rw [pay10_apply, (ih r c).1]
      simp only [pay9_apply]
    have H12 : ∀ (r : Fin 256) (c : Fin 128) (j : Fin 768), k0_pay12 q (keys x1 h n 0) (keys x1 h n 1) (keys x1 h n 2) (after q x1 x2 h n).m (ix2 r j)
        = Ideal.exp (sc q x1 h r n j - max (run (sc q x1 h r) (vl x2 c) n).m (Finset.univ.fold max ⊥ (sc q x1 h r n))) := by
      intro r c j
      rw [pay12_apply, pay9_apply, H10, (run_indep _ (vl x2 0) (vl x2 c) n).1]
    intro r c
    refine ⟨?_, ?_, ?_⟩
    · show k0_pay25 (k0_pay10 _ _ _ _ _) (ix2 r c) = max _ _
      rw [pay25_apply]
      exact H10 r c
    · refine (pay23_apply _ _ _ _ _ _ r c).trans ?_
      rw [H10, (ih r c).1, (ih r c).2.1]
      simp only [H12 r c]
      rfl
    · refine (pay24_apply _ _ _ _ _ _ _ r c).trans ?_
      rw [H10, (ih r c).1, (ih r c).2.2]
      simp only [H12 r c]
      rfl

/-- The stacked queries of key head 0, element by element. -/
theorem pay19_apply (x : Vec Ideal S1x128x256 .bf16) (r : Fin 256) (d : Fin 64) :
    k0_pay19 (F := Ideal) x (ix2 r d)
      = if h : r.val < 128 then x (ix3 0 ⟨r.val, h⟩ ⟨d.val, by omega⟩) else x (ix3 0 ⟨r.val - 128, by omega⟩ ⟨64 + d.val, by omega⟩) := by
  pointwise [k0_pay19]

/-- The stacked queries of key head 1, element by element. -/
theorem pay1_apply (x : Vec Ideal S1x128x256 .bf16) (r : Fin 256) (d : Fin 64) :
    k0_pay1 (F := Ideal) (k0_pay30 x) (k0_pay31 x) (ix2 r d)
      = if h : r.val < 128 then x (ix3 0 ⟨r.val, h⟩ ⟨128 + d.val, by omega⟩) else x (ix3 0 ⟨r.val - 128, by omega⟩ ⟨128 + (64 + d.val), by omega⟩) := by
  pointwise [k0_pay1, k0_pay30, k0_pay31, k0_pay29]

/-- The finished block, element by element. -/
theorem pay8_apply (a l a' l' : Vec Ideal S256x128 .f32) (r : Fin 128) (c : Fin 256) :
    k0_pay8 (k0_pay27 a l) (k0_pay28 a l) a' l' (ix3 0 r c)
      = if h : c.val < 64 then Ideal.div (a (ix2 ⟨r.val, by omega⟩ ⟨c.val, by omega⟩)) (l (ix2 ⟨r.val, by omega⟩ ⟨c.val, by omega⟩))
        else if h : c.val - 64 < 64 then Ideal.div (a (ix2 ⟨128 + r.val, by omega⟩ ⟨c.val - 64, by omega⟩)) (l (ix2 ⟨128 + r.val, by omega⟩ ⟨c.val - 64, by omega⟩))
        else if h : c.val - 64 - 64 < 64 then Ideal.div (a' (ix2 ⟨r.val, by omega⟩ ⟨64 + (c.val - 64 - 64), by omega⟩)) (l' (ix2 ⟨r.val, by omega⟩ ⟨c.val - 64 - 64, by omega⟩))
        else Ideal.div (a' (ix2 ⟨128 + r.val, by omega⟩ ⟨64 + (c.val - 64 - 64 - 64), by omega⟩)) (l' (ix2 ⟨128 + r.val, by omega⟩ ⟨c.val - 64 - 64 - 64, by omega⟩)) := by
  pointwise [k0_pay8, k0_pay27, k0_pay28, k0_pay26]

section block

variable (q : Arr ⟨3, ![2, 8448, 256]⟩) (k : Arr ⟨4, ![2, 33, 128, 256]⟩) (v : Arr ⟨3, ![2, 8448, 128]⟩)
  (hq : ∀ i, q i ≠ ⊥ ∧ q i ≠ ⊤) (hk : ∀ i, k i ≠ ⊥ ∧ k i ≠ ⊤) (b : Fin 2)
  (x1 : Vec Ideal S1x33x128x256 .bf16) (x2 : Vec Ideal S1x8448x128 .bf16)
  (h1 : ∀ a e f, x1 (ix4 0 a e f) = k (ix4 b a e f)) (h2 : ∀ t e, x2 (ix3 0 t e) = v (ix3 b t e))
include hq hk h1 h2

/-- The final quotient of a row and column is the attention's result. -/
theorem quot_eq (Q : FVec Ideal S256x64 .bf16) (h : Fin 2) (R : Fin 256) (c : Fin 256) (p : Fin 8448) (e f : Fin 128)
    (hQ : ∀ (d : Fin 64) (y : Fin 256), y.val = 64 * (c.val / 64) + d.val → Q (ix2 R d) = q (ix3 b p y)) (hc : c.val / 128 = h.val) (he : e.val = 64 * h.val + c.val % 64) :
    Ideal.div ((after Q x1 x2 h 11).a (ix2 R e)) ((after Q x1 x2 h 11).l (ix2 R f)) = out q k v b p c := by
  rw [(after_apply Q x1 x2 h 11 R e).2.2, (after_apply Q x1 x2 h 11 R f).2.1, (run_indep _ (vl x2 f) (vl x2 e) 11).2]
  unfold out
  refine run_att _ _ _ _ (fun n hn j => ?_) (fun n hn j => ?_)
  · rw [← score_real q k hq hk]
    unfold sc score
    refine Finset.sum_congr rfl fun d _ => ?_
    rw [hQ d ⟨64 * (c.val / 64) + d.val, by omega⟩ rfl, h1]
    refine congrArg (_ * ·) (congrArg k ?_)
    have e1 : (⟨(3 * n + j.val / 256) % 33, Nat.mod_lt _ (by decide)⟩ : Fin 33) = ⟨(768 * n + j.val) % 8448 / 256, by omega⟩ :=
      Fin.ext (by show (3 * n + j.val / 256) % 33 = (768 * n + j.val) % 8448 / 256; omega)
    have e2 : (⟨64 * h.val + d.val, by omega⟩ : Fin 128) = ⟨64 * (c.val / 128) + d.val, by omega⟩ :=
      Fin.ext (by show 64 * h.val + d.val = 64 * (c.val / 128) + d.val; omega)
    have e3 : (⟨j.val % 256, Nat.mod_lt _ (by decide)⟩ : Fin 256) = ⟨(768 * n + j.val) % 8448 % 256, by omega⟩ :=
      Fin.ext (by show j.val % 256 = (768 * n + j.val) % 8448 % 256; omega)
    rw [e1, e2, e3]
  · unfold vl
    rw [h2]
    have e4 : e = ⟨64 * (c.val / 128) + c.val % 64, by omega⟩ := Fin.ext (by show e.val = 64 * (c.val / 128) + c.val % 64; omega)
    rw [e4]

/-- The finished block is the attention's result of its rows. -/
theorem block_apply (x0 : Vec Ideal S1x128x256 .bf16) (r : Fin 128) (p : Fin 8448)
    (h0 : ∀ e, x0 (ix3 0 r e) = q (ix3 b p e)) (c : Fin 256) :
    block x0 x1 x2 (ix3 0 r c) = out q k v b p c := by
  have quot := quot_eq q k v hq hk b x1 x2 h1 h2
  unfold block
  rw [pay8_apply]
  by_cases c1 : c.val < 64
  · rw [dif_pos c1]
    refine quot _ _ _ _ _ _ _ (fun d y hy => ?_) (by show c.val / 128 = 0; omega) (by show c.val = 64 * 0 + c.val % 64; omega)
    rw [pay19_apply, dif_pos (by show r.val < 128; omega)]
    refine (h0 _).trans (congrArg (fun z => q (ix3 b p z)) (Fin.ext ?_))
    show d.val = y.val
    omega
  · rw [dif_neg c1]
    by_cases c2 : c.val - 64 < 64
    · rw [dif_pos c2]
      refine quot _ _ _ _ _ _ _ (fun d y hy => ?_) (by show c.val / 128 = 0; omega) (by show c.val - 64 = 64 * 0 + c.val % 64; omega)
      rw [pay19_apply, dif_neg (by show ¬ 128 + r.val < 128; omega)]
      have er : (⟨128 + r.val - 128, by omega⟩ : Fin 128) = r := Fin.ext (by show 128 + r.val - 128 = r.val; omega)
      rw [er]
      refine (h0 _).trans (congrArg (fun z => q (ix3 b p z)) (Fin.ext ?_))
      show 64 + d.val = y.val
      omega
    · rw [dif_neg c2]
      by_cases c3 : c.val - 64 - 64 < 64
      · rw [dif_pos c3]
        refine quot _ _ _ _ _ _ _ (fun d y hy => ?_) (by show c.val / 128 = 1; omega) (by show 64 + (c.val - 64 - 64) = 64 * 1 + c.val % 64; omega)
        rw [pay1_apply, dif_pos (by show r.val < 128; omega)]
        refine (h0 _).trans (congrArg (fun z => q (ix3 b p z)) (Fin.ext ?_))
        show 128 + d.val = y.val
        omega
      · rw [dif_neg c3]
        refine quot _ _ _ _ _ _ _ (fun d y hy => ?_) (by show c.val / 128 = 1; omega) (by show 64 + (c.val - 64 - 64 - 64) = 64 * 1 + c.val % 64; omega)
        rw [pay1_apply, dif_neg (by show ¬ 128 + r.val < 128; omega)]
        have er : (⟨128 + r.val - 128, by omega⟩ : Fin 128) = r := Fin.ext (by show 128 + r.val - 128 = r.val; omega)
        rw [er]
        refine (h0 _).trans (congrArg (fun z => q (ix3 b p z)) (Fin.ext ?_))
        show 128 + (64 + d.val) = y.val
        omega

end block

end Cert.GlobBlock

end
-- ==== Proof.GlobFinal.lean ====
module

public import proofs.«01_k».proof.Proof.GlobKernel

@[expose] public section

set_option backward.proofsInPublic true

noncomputable section

namespace Cert.GlobBlock

open Cert.GlobIdeal Cert.GlobIdeal.Gen Idealize.ShloMosaic Idealize.ShloMosaic.TcCoe Idealize.SL.Sem Cert.GlobSpec
open Idealize.ShloMosaic.Pipeline (Dat)

variable (m : (ℓ : Loc nD τ sig) → Buf (Elt Ideal) ℓ) (c : Dev nD)

/-- The grid point's batch. -/
abbrev pb (t : Fin cfg0.N) : Fin 2 := ⟨(grid0.coords t 0).val, (grid0.coords t 0).isLt⟩
/-- The grid point's tile of rows. -/
abbrev pj (t : Fin cfg0.N) : Fin 64 := ⟨(grid0.coords t 1).val, (grid0.coords t 1).isLt⟩

/-- The block indices of the windows, at every grid point. -/
theorem idx_facts : ∀ t : Fin cfg0.N,
    (win0_0.index t 0 = (pb t).val ∧ win0_0.index t 1 = (pj t).val ∧ win0_0.index t 2 = 0)
    ∧ (win0_1.index t 0 = (pb t).val ∧ win0_1.index t 1 = 0 ∧ win0_1.index t 2 = 0 ∧ win0_1.index t 3 = 0)
    ∧ (win0_2.index t 0 = (pb t).val ∧ win0_2.index t 1 = 0 ∧ win0_2.index t 2 = 0)
    ∧ (win0_3.index t 0 = (pb t).val ∧ win0_3.index t 1 = (pj t).val ∧ win0_3.index t 2 = 0) :=
  (by decide +kernel : ∀ t : Fin grid0.N, _)

/-- Every batch and tile is some grid point's. -/
theorem point : ∀ (b : Fin 2) (j : Fin 64), ∃ t : Fin cfg0.N, pb t = b ∧ pj t = j :=
  (by decide +kernel : ∀ (b : Fin 2) (j : Fin 64), ∃ t : Fin grid0.N, _)

/-- The tile of queries. -/
theorem blk0 (t : Fin cfg0.N) (r : Fin 128) (p : Fin 8448) (hp : p.val = 128 * (pj t).val + r.val) (e : Fin 256) :
    iblk m c 0 t (ix3 0 r e) = m ((c : Thread nD τ).loc main_arg0) (ix3 (pb t) p e) := by
  obtain ⟨⟨a, b, d⟩, -⟩ := idx_facts t
  unfold iblk
  rw [View.read_apply]
  show m (c.tc.loc main_arg0) _ = m (c.tc.loc main_arg0) _
  congr 1
  funext x
  apply Fin.ext
  match x with
  | ⟨0, _⟩ => show win0_0.index t 0 * 1 + 1 * 0 = (pb t).val; rw [a]; omega
  | ⟨1, _⟩ => show win0_0.index t 1 * 128 + 1 * r.val = p.val; rw [b]; omega
  | ⟨2, _⟩ => show win0_0.index t 2 * 256 + 1 * e.val = e.val; rw [d]; omega

/-- The batch's keys. -/
theorem blk1 (t : Fin cfg0.N) (y : Fin 33) (e : Fin 128) (f : Fin 256) :
    iblk m c 1 t (ix4 0 y e f) = m ((c : Thread nD τ).loc main_arg1) (ix4 (pb t) y e f) := by
  obtain ⟨-, ⟨a, b, d, g⟩, -⟩ := idx_facts t
  unfold iblk
  rw [View.read_apply]
  show m (c.tc.loc main_arg1) _ = m (c.tc.loc main_arg1) _
  congr 1
  funext x
  apply Fin.ext
  match x with
  | ⟨0, _⟩ => show win0_1.index t 0 * 1 + 1 * 0 = (pb t).val; rw [a]; omega
  | ⟨1, _⟩ => show win0_1.index t 1 * 33 + 1 * y.val = y.val; rw [b]; omega
  | ⟨2, _⟩ => show win0_1.index t 2 * 128 + 1 * e.val = e.val; rw [d]; omega
  | ⟨3, _⟩ => show win0_1.index t 3 * 256 + 1 * f.val = f.val; rw [g]; omega

/-- The batch's values. -/
theorem blk2 (t : Fin cfg0.N) (y : Fin 8448) (e : Fin 128) :
    iblk m c 2 t (ix3 0 y e) = m ((c : Thread nD τ).loc main_arg2) (ix3 (pb t) y e) := by
  obtain ⟨-, -, ⟨a, b, d⟩, -⟩ := idx_facts t
  unfold iblk
  rw [View.read_apply]
  show m (c.tc.loc main_arg2) _ = m (c.tc.loc main_arg2) _
  congr 1
  funext x
  apply Fin.ext
  match x with
  | ⟨0, _⟩ => show win0_2.index t 0 * 1 + 1 * 0 = (pb t).val; rw [a]; omega
  | ⟨1, _⟩ => show win0_2.index t 1 * 8448 + 1 * y.val = y.val; rw [b]; omega
  | ⟨2, _⟩ => show win0_2.index t 2 * 128 + 1 * e.val = e.val; rw [d]; omega

/-- The result array ends holding the attention's result on the latent rows. -/
theorem final (hq : ∀ i, m ((c : Thread nD τ).loc main_arg0) i ≠ (⊥ : EReal) ∧ m ((c : Thread nD τ).loc main_arg0) i ≠ (⊤ : EReal))
    (hk : ∀ i, m ((c : Thread nD τ).loc main_arg1) i ≠ (⊥ : EReal) ∧ m ((c : Thread nD τ).loc main_arg1) i ≠ (⊤ : EReal))
    (b : Fin 2) (p : Fin 8448) (hp : p.val < 8192) (e : Fin 256) :
    (dats m 0 c).arrAt 3 cfg0.N (ix3 b p e)
      = out (m ((c : Thread nD τ).loc main_arg0)) (m ((c : Thread nD τ).loc main_arg1)) (m ((c : Thread nD τ).loc main_arg2)) b p e := by
  obtain ⟨t, h1, h2⟩ := point b ⟨p.val / 128, by omega⟩
  have e2 := congrArg Fin.val h2
  obtain ⟨-, -, -, x1, x2, x3⟩ := idx_facts t
  have B := congrFun (Cert.GlobIdeal.Value.blocks3 m c t (flush0_3 t)) (ix3 (0 : Fin 1) (⟨p.val % 128, by omega⟩ : Fin 128) e)
  rw [View.read_apply, Cert.GlobIdeal.Value.flushed3_A] at B
  refine Eq.trans (congrArg ((dats m 0 c).arrAt 3 cfg0.N) (funext fun a => Fin.ext ?_)) (B.trans ?_)
  · match a with
    | ⟨0, _⟩ => show b.val = win0_3.index t 0 * 1 + 1 * 0; rw [x1, h1]; omega
    | ⟨1, _⟩ => show p.val = win0_3.index t 1 * 128 + 1 * (p.val % 128); rw [x2]; dsimp only at e2 ⊢; omega
    | ⟨2, _⟩ => show e.val = win0_3.index t 2 * 256 + 1 * e.val; rw [x3]; omega
  · show out0_A_3 c (grid0.coords t) _ _ _ _ _ _ _ _ _ _ _ _ _ _ _ _ _ _ = _
    rw [out_eq]
    subst h1
    exact block_apply _ _ _ hq hk (pb t) _ _ (blk1 m c t) (blk2 m c t) _ _ p
      (blk0 m c t _ p (by show p.val = 128 * (pj t).val + p.val % 128; dsimp only at e2 ⊢; omega)) e

end Cert.GlobBlock

end
-- ==== Proof.GlobRef.lean ====
module

public import proofs.«01_k».proof.Proof.GlobSpec
public import proofs.«01_k».proof.Proof.Gen.GlobRefIdeal.Read

@[expose] public section

set_option backward.proofsInPublic true

noncomputable section

namespace Cert.GlobRef

open Cert.GlobRefIdeal Cert.GlobRefIdeal.Gen Cert.GlobRefIdeal.Read Idealize.ShloMosaic Cert.GlobSpec

variable (x0 : (⟨S2x8448x256, .bf16⟩ : BufTy).Contents (Elt Ideal)) (x1 : (⟨S2x33x128x256, .bf16⟩ : BufTy).Contents (Elt Ideal))
  (x2 : (⟨S2x8448x128, .bf16⟩ : BufTy).Contents (Elt Ideal))

/-- The scores, element by element. -/
theorem v8_apply (b kk g : Fin 2) (p t : Fin 8448) :
    val_main_v8 (F := Ideal) x0 x1 (ix5 b kk g p t)
      = ∑ x : Fin 64, x1 (ix4 b ⟨t.val / 256, by omega⟩ ⟨kk.val * 64 + x.val, by omega⟩ ⟨t.val % 256, by omega⟩)
        * x0 (ix3 b p ⟨kk.val * 128 + g.val * 64 + x.val, by omega⟩) := by
  pointwise [val_main_v8, val_main_v7, val_main_v4, val_main_v3, val_main_v2, val_main_v1, val_main_v0]

/-- The pattern of minus infinity. -/
theorem ofBits_bot : Ideal.ofBits FTy.f32 4286578688#32 = ⊥ := by
  simp [Ideal.ofBits, Ideal.ieee]

/-- A maximum over the last of five axes, element by element. -/
theorem max_reduce (y : S2x2x2x8448x8448.Idx → EReal) (init : S_.Idx → EReal) (b kk g : Fin 2) (p : Fin 8448) :
    Host.reduce (max : EReal → EReal → EReal) y init reducesTo_S2x2x2x8448x8448_S2x2x2x8448_d4 h_S_ (ix4 b kk g p)
      = Finset.univ.fold max (init (Shape.Idx.first h_S_)) fun t : Fin 8448 => y (ix5 b kk g p t) := by
  rw [Host.reduce_eq_fold_single max y init reducesTo_S2x2x2x8448x8448_S2x2x2x8448_d4 (by decide) h_S_]
  refine congrArg (fun f => Finset.univ.fold max _ f) (funext fun t => congrArg y (funext fun a => Fin.ext ?_))
  match a with
  | ⟨0, _⟩ => rfl
  | ⟨1, _⟩ => rfl
  | ⟨2, _⟩ => rfl
  | ⟨3, _⟩ => rfl
  | ⟨4, _⟩ => rfl

/-- The greatest score of a query, element by element. -/
theorem v9_apply (b kk g : Fin 2) (p : Fin 8448) :
    val_main_v9 (F := Ideal) x0 x1 (ix4 b kk g p)
      = Finset.univ.fold max ⊥ fun t : Fin 8448 => val_main_v8 (F := Ideal) x0 x1 (ix5 b kk g p t) := by
  unfold val_main_v9
  generalize val_main_v8 (F := Ideal) x0 x1 = y
  refine (max_reduce y _ b kk g p).trans ?_
  exact congrArg (fun z : EReal => Finset.univ.fold max z fun t : Fin 8448 => y (ix5 b kk g p t)) ofBits_bot

/-- The maximum with minus infinity changes nothing. -/
theorem max_bot (z : Ideal .f32) : FloatOps.maximumf (F := Ideal) (FloatOps.ofBits .f32 0xFF800000#32) z = z := by
  show max (Ideal.ofBits .f32 0xFF800000#32) z = z
  rw [ofBits_bot]
  exact max_eq_right bot_le

/-- The greatest score once more, with minus infinity. -/
theorem v11_apply (b kk g : Fin 2) (p : Fin 8448) :
    val_main_v11 (F := Ideal) x0 x1 (ix4 b kk g p)
      = Finset.univ.fold max ⊥ fun t : Fin 8448 => val_main_v8 (F := Ideal) x0 x1 (ix5 b kk g p t) := by
  rw [val_main_v11_apply, val_main_v10_apply, val_main_cst_0_apply, max_bot, v9_apply]

/-- The exponentials, element by element. -/
theorem v15_apply (b kk g : Fin 2) (p t : Fin 8448) :
    val_main_v15 (F := Ideal) x0 x1 (ix5 b kk g p t)
      = Ideal.exp (val_main_v8 (F := Ideal) x0 x1 (ix5 b kk g p t) - val_main_v11 (F := Ideal) x0 x1 (ix4 b kk g p)) := by
  pointwise [val_main_v15, val_main_v14, val_main_v13, val_main_v12]

/-- The weights, element by element. -/
theorem v19_apply (b kk g : Fin 2) (p t : Fin 8448) :
    val_main_v19 (F := Ideal) x0 x1 (ix5 b kk g p t)
      = Ideal.div (val_main_v15 (F := Ideal) x0 x1 (ix5 b kk g p t)) (∑ u, val_main_v15 (F := Ideal) x0 x1 (ix5 b kk g p u)) := by
  pointwise [val_main_v19, val_main_v18, val_main_v17, val_main_v16, val_main_cst_1]

/-- The result, element by element, over the weights. -/
theorem v22_apply (b : Fin 2) (p : Fin 8448) (c : Fin 256) :
    val_main_v22 (F := Ideal) x0 x1 x2 (ix3 b p c)
      = ∑ t, x2 (ix3 b t ⟨c.val / 128 * 64 + c.val % 64, by omega⟩)
        * val_main_v19 (F := Ideal) x0 x1 (ix5 b ⟨c.val / 128, by omega⟩ ⟨c.val / 64 % 2, by omega⟩ p t) := by
  pointwise [val_main_v22, val_main_v21, val_main_v20, val_main_v6, val_main_v5]

/-- The reference computes the attention's result. -/
theorem ref_out (hq : ∀ i, x0 i ≠ (⊥ : EReal) ∧ x0 i ≠ (⊤ : EReal)) (hk : ∀ i, x1 i ≠ (⊥ : EReal) ∧ x1 i ≠ (⊤ : EReal))
    (b : Fin 2) (p : Fin 8448) (c : Fin 256) :
    val_main_v22 (F := Ideal) x0 x1 x2 (ix3 b p c) = out x0 x1 x2 b p c := by
  have S : ∀ t, val_main_v8 (F := Ideal) x0 x1 (ix5 b ⟨c.val / 128, by omega⟩ ⟨c.val / 64 % 2, by omega⟩ p t) = (scoreR x0 x1 b p c t : EReal) := by
    intro t
    rw [v8_apply, ← score_real x0 x1 hq hk]
    unfold score
    refine Finset.sum_congr rfl fun d _ => ?_
    have e1 : (⟨c.val / 128 * 64 + d.val, by omega⟩ : Fin 128) = ⟨64 * (c.val / 128) + d.val, by omega⟩ :=
      Fin.ext (by show c.val / 128 * 64 + d.val = 64 * (c.val / 128) + d.val; omega)
    have e2 : (⟨c.val / 128 * 128 + c.val / 64 % 2 * 64 + d.val, by omega⟩ : Fin 256) = ⟨64 * (c.val / 64) + d.val, by omega⟩ :=
      Fin.ext (by show c.val / 128 * 128 + c.val / 64 % 2 * 64 + d.val = 64 * (c.val / 64) + d.val; omega)
    rw [e1, e2]
    exact mul_comm (_ : EReal) _
  obtain ⟨M, hM⟩ := fold_real' (scoreR x0 x1 b p c)
  have hm : val_main_v11 (F := Ideal) x0 x1 (ix4 b ⟨c.val / 128, by omega⟩ ⟨c.val / 64 % 2, by omega⟩ p) = (M : EReal) := by
    rw [v11_apply]
    simp only [S]
    exact hM
  rw [v22_apply]
  unfold out
  rw [← plain_att _ _ M]
  refine Finset.sum_congr rfl fun t _ => ?_
  rw [v19_apply]
  simp only [v15_apply, S, hm]
  have e1 : (⟨c.val / 128 * 64 + c.val % 64, by omega⟩ : Fin 128) = ⟨64 * (c.val / 128) + c.val % 64, by omega⟩ :=
    Fin.ext (by show c.val / 128 * 64 + c.val % 64 = 64 * (c.val / 128) + c.val % 64; omega)
  rw [e1]
  exact mul_comm (_ : EReal) _

end Cert.GlobRef

end
-- ==== Proof.GlobClaim.lean ====
module

public import proofs.«01_k».proof.Defs
public import proofs.«01_k».proof.Proof.GlobFinal
public import proofs.«01_k».proof.Proof.GlobRef
public import proofs.«01_k».proof.Proof.GlobFrame
public import proofs.«01_k».proof.Proof.Gen.Pre_finite_scores
public import proofs.«01_k».proof.Proof.Gen.On_latent_rows
public import Idealize.ShloMosaic.Lib.ReduceAll
public import Idealize.ShloMosaic.Lib.Affine

@[expose] public section

noncomputable section

namespace Cert.GlobClaim

open Idealize.ShloMosaic Idealize.ShloMosaic.TcCoe Idealize.SL.Sem

/-- An extended real whose absolute value compares less than the pattern of plus infinity is finite. -/
theorem finite_of_cmp (x : EReal) (h : Ideal.cmp .olt (max x (-x)) (Ideal.ofBits .f32 0x7F800000#32) = 1#1) : x ≠ ⊥ ∧ x ≠ ⊤ := by
  have e : Ideal.ofBits .f32 0x7F800000#32 = ⊤ := by simp [Ideal.ofBits, Ideal.ieee]
  rw [e] at h
  constructor
  · rintro rfl
    simp [Ideal.cmp] at h
  · rintro rfl
    simp [Ideal.cmp] at h

/-- The precondition says that the queries and the keys are finite. -/
theorem finite_of_pre [h : Cert.Pre_finite_scores.Facts] (x0 : FVec Ideal Cert.Pre_finite_scores.S2x8448x256 .bf16)
    (x1 : FVec Ideal Cert.Pre_finite_scores.S2x33x128x256 .bf16) (x2 : FVec Ideal Cert.Pre_finite_scores.S2x8448x128 .bf16)
    (e : Cert.Pre_finite_scores.fn (F := Ideal) x0 x1 x2 = fun _ => 1#1) :
    (∀ i, x0 i ≠ (⊥ : EReal) ∧ x0 i ≠ (⊤ : EReal)) ∧ (∀ i, x1 i ≠ (⊥ : EReal) ∧ x1 i ≠ (⊤ : EReal)) := by
  have e1 := congrFun e ix0
  dsimp only [Cert.Pre_finite_scores.fn] at e1
  have sub : Subsingleton Cert.Pre_finite_scores.S_.Idx := ⟨fun a b => funext fun k => k.elim0⟩
  obtain ⟨a, b⟩ := IntOp.andi_eq_one.1 e1
  constructor
  · intro i
    exact finite_of_cmp _ (Host.reduce_andi_all _ _ _ _ _ a i)
  · intro i
    exact finite_of_cmp _ (Host.reduce_andi_all _ _ _ _ _ b i)

/-- The mask selects latent rows only. -/
theorem row_of_on [h : Cert.On_latent_rows.Facts] (x0 : FVec Ideal Cert.On_latent_rows.S2x8448x256 .bf16)
    (x1 : FVec Ideal Cert.On_latent_rows.S2x33x128x256 .bf16) (x2 : FVec Ideal Cert.On_latent_rows.S2x8448x128 .bf16)
    (b : Fin 2) (p : Fin 8448) (c : Fin 256) (e : Cert.On_latent_rows.fn (F := Ideal) x0 x1 x2 (ix3 b p c) = 1#1) : p.val < 8192 := by
  have e1 : BitVec.ofBool (BitVec.slt (BitVec.ofNat 32 p.val) 8192#32) = 1#1 := e
  have e2 : BitVec.slt (BitVec.ofNat 32 p.val) 8192#32 = true := by
    revert e1
    cases BitVec.slt (BitVec.ofNat 32 p.val) 8192#32
    · intro h; exact absurd h (by decide)
    · intro _; rfl
  rw [BitVec.slt_iff_toInt_lt, BitVec.toInt_eq_toNat_cond, BitVec.toInt_eq_toNat_cond, BitVec.toNat_ofNat] at e2
  have := p.isLt
  simp only [BitVec.toNat_ofNat] at e2
  split at e2 <;> omega

/-- On the latent rows the kernel and the reference end with the same result: both hold the attention's result of the arguments. -/
theorem algebraic : Cert.algebraic_GlobIdeal_GlobRefIdeal_on_latent_rows_pre_finite_scores (hGlobIdeal := Cert.GlobIdeal.Gen.facts)
    (hGlobRefIdeal := Cert.GlobRefIdeal.Gen.facts) (hPre_finite_scores := Cert.Pre_finite_scores.Gen.facts)
    (hOn_latent_rows := Cert.On_latent_rows.Gen.facts) := by
  intro m ρ m' ρ' hpre hagree
  refine ⟨fun c i => Cert.GlobSpec.out (m ((c.tc : Thread Cert.GlobIdeal.nD Cert.GlobIdeal.τ).loc Cert.GlobIdeal.main_arg0))
    (m ((c.tc : Thread Cert.GlobIdeal.nD Cert.GlobIdeal.τ).loc Cert.GlobIdeal.main_arg1))
    (m ((c.tc : Thread Cert.GlobIdeal.nD Cert.GlobIdeal.τ).loc Cert.GlobIdeal.main_arg2)) (i 0) (i 1) (i 2), ?_, ?_⟩
  · refine (θ_run Cert.GlobIdeal.defs _ _).mono (fun r h c => ⟨fun i hi => ?_, (h c).2⟩)
      (Cert.GlobIdeal.Value.run_blocks (F := Ideal) m ρ)
    obtain ⟨b, p, n, rfl⟩ : ∃ (b : Fin 2) (p : Fin 8448) (n : Fin 256), i = ix3 b p n :=
      ⟨i 0, i 1, i 2, by funext x; match x with | 0 => rfl | 1 => rfl | 2 => rfl⟩
    rw [(h c).1]
    obtain ⟨hq, hk⟩ := finite_of_pre (h := Cert.Pre_finite_scores.Gen.facts) _ _ _ (hpre c)
    exact Cert.GlobBlock.final m c hq hk b p (row_of_on (h := Cert.On_latent_rows.Gen.facts) _ _ _ b p n hi) n
  · refine (θ_run Cert.GlobRefIdeal.defs _ _).mono (fun r h c => ⟨fun i _ => ?_, (h c).2⟩)
      (Cert.GlobRefIdeal.Value.run (F := Ideal) m' ρ')
    obtain ⟨b, p, n, rfl⟩ : ∃ (b : Fin 2) (p : Fin 8448) (n : Fin 256), i = ix3 b p n :=
      ⟨i 0, i 1, i 2, by funext x; match x with | 0 => rfl | 1 => rfl | 2 => rfl⟩
    obtain ⟨hq, hk⟩ := finite_of_pre (h := Cert.Pre_finite_scores.Gen.facts) _ _ _ (hpre c)
    obtain ⟨h0, h1, h2⟩ := hagree c
    rw [(h c).1, Cert.GlobRefIdeal.Read.val_main_v22_eq, h0, h1, h2]
    exact Cert.GlobRef.ref_out _ _ _ hq hk b p n

end Cert.GlobClaim

end
-- ==== Proof.InSpec.lean ====
module

public import Idealize.ShloMosaic.Lib.Pointwise
public import Idealize.ShloMosaic.Lib.IdealHost

@[expose] public section

set_option backward.proofsInPublic true

noncomputable section

namespace Cert.InSpec

open Idealize.ShloMosaic

/-- An array of extended reals of the given sizes. -/
abbrev Arr (s : Shape) := s.Idx → EReal

variable (h : Arr ⟨3, ![2, 8448, 1024]⟩) (md : Arr ⟨4, ![2, 2, 8, 1024]⟩) (w : Arr ⟨2, ![1024, 3072]⟩)
  (cs sn : Arr ⟨3, ![8192, 2, 16]⟩) (qk : Arr ⟨2, ![2, 64]⟩)

/-- Which modulation a token takes: the latent tokens' or the context tokens'. -/
def seg (p : Fin 8448) : Fin 2 := if p.val < 8192 then 0 else 1

/-- The modulated token. -/
def hm (b : Fin 2) (p : Fin 8448) (k : Fin 1024) : EReal :=
  h (ix3 b p k) * (1 + md (ix4 b (seg p) 1 k)) + md (ix4 b (seg p) 0 k)

/-- The projection. -/
def proj (b : Fin 2) (p : Fin 8448) (c : Fin 3072) : EReal := ∑ k, hm h md b p k * w (ix2 k c)

/-- The 64 columns of one head. -/
def head (b : Fin 2) (p : Fin 8448) (o : Fin 3009) (d : Fin 64) : EReal := proj h md w b p ⟨o.val + d.val, by omega⟩

/-- A head's axial rotation by the token's angles; a context token's head stays as it is. -/
def rot (p : Fin 8448) (x : Fin 64 → EReal) (d : Fin 64) : EReal :=
  if hp : p.val < 8192 then
    if hd : d.val % 32 < 16 then
      x d * cs (ix3 ⟨p.val, hp⟩ ⟨d.val / 32, by omega⟩ ⟨d.val % 16, by omega⟩)
        - x ⟨d.val + 16, by omega⟩ * sn (ix3 ⟨p.val, hp⟩ ⟨d.val / 32, by omega⟩ ⟨d.val % 16, by omega⟩)
    else
      x d * cs (ix3 ⟨p.val, hp⟩ ⟨d.val / 32, by omega⟩ ⟨d.val % 16, by omega⟩)
        + x ⟨d.val - 16, by omega⟩ * sn (ix3 ⟨p.val, hp⟩ ⟨d.val / 32, by omega⟩ ⟨d.val % 16, by omega⟩)
  else x d

/-- The cosine at a lane of the laid out table. -/
def cosT (p : Fin 8448) (d : Fin 64) : EReal :=
  if hp : p.val < 8192 then cs (ix3 ⟨p.val, hp⟩ ⟨d.val / 32, by omega⟩ ⟨d.val % 16, by omega⟩) else 1

/-- The signed sine at a lane of the laid out table. -/
def sinT (p : Fin 8448) (d : Fin 64) : EReal :=
  if hp : p.val < 8192 then
    if d.val % 32 < 16 then -sn (ix3 ⟨p.val, hp⟩ ⟨d.val / 32, by omega⟩ ⟨d.val % 16, by omega⟩)
    else sn (ix3 ⟨p.val, hp⟩ ⟨d.val / 32, by omega⟩ ⟨d.val % 16, by omega⟩)
  else 0

/-- A lane times its cosine plus its partner times the signed sine is the rotation. -/
theorem rot_eq (p : Fin 8448) (x : Fin 64 → EReal) (d : Fin 64) (y : EReal)
    (hy : ∀ e : Fin 64, (d.val % 32 < 16 → e.val = d.val + 16) → (¬ d.val % 32 < 16 → e.val + 16 = d.val) → y = x e) :
    x d * cosT cs p d + y * sinT sn p d = rot cs sn p x d := by
  unfold cosT sinT rot
  by_cases hp : p.val < 8192
  · rw [dif_pos hp, dif_pos hp, dif_pos hp]
    by_cases hd : d.val % 32 < 16
    · rw [if_pos hd, dif_pos hd, hy ⟨d.val + 16, by omega⟩ (fun _ => rfl) (fun h => absurd hd h), mul_neg, sub_eq_add_neg]
    · rw [if_neg hd, dif_neg hd, hy ⟨d.val - 16, by omega⟩ (fun h => absurd h hd)
        (fun _ => by show d.val - 16 + 16 = d.val; omega)]
  · rw [dif_neg hp, dif_neg hp, dif_neg hp, mul_one, mul_zero, add_zero]

/-- A head divided by its root mean square, times the gain. -/
def nrm (g : Fin 2) (x : Fin 64 → EReal) (d : Fin 64) : EReal :=
  x d * Ideal.rsqrt (Ideal.div (∑ e, x e * x e) (Ideal.ofBits FTy.f32 0x42800000#32) + Ideal.ofBits FTy.f32 0x358637BD#32)
    * qk (ix2 g d)

/-- The scale of the scores. -/
def scale : EReal := Ideal.ofBits FTy.f32 0x3E000000#32

/-- The window group's queries. -/
def qa (b : Fin 2) (p : Fin 8448) (c : Fin 256) : EReal :=
  rot cs sn p (head h md w b p ⟨64 * (c.val / 64), by omega⟩) ⟨c.val % 64, by omega⟩ * scale

/-- The window group's keys. -/
def ka (b : Fin 2) (p : Fin 8448) (c : Fin 128) : EReal :=
  rot cs sn p (head h md w b p ⟨256 + 64 * (c.val / 64), by omega⟩) ⟨c.val % 64, by omega⟩

/-- The global group's queries. -/
def qb (b : Fin 2) (p : Fin 8448) (c : Fin 256) : EReal :=
  rot cs sn p (nrm qk 0 (head h md w b p ⟨512 + 64 * (c.val / 64), by omega⟩)) ⟨c.val % 64, by omega⟩ * scale

/-- The global group's keys. -/
def kb (b : Fin 2) (p : Fin 8448) (c : Fin 128) : EReal :=
  rot cs sn p (nrm qk 1 (head h md w b p ⟨768 + 64 * (c.val / 64), by omega⟩)) ⟨c.val % 64, by omega⟩

/-- A finite extended real less itself is zero. -/
theorem sub_self_of_real {x : EReal} (h : ∃ r : ℝ, x = r) : x - x = 0 := by
  obtain ⟨r, rfl⟩ := h
  rw [← EReal.coe_sub, sub_self, EReal.coe_zero]

/-- A product of reals is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of two reals is real. -/
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- A finite sum of reals is real. -/
theorem real_sum {n : ℕ} {f : Fin n → EReal} (hf : ∀ k, ∃ r : ℝ, f k = r) : ∃ r : ℝ, ∑ k, f k = r := by
  choose g hg using hf
  refine ⟨∑ k, g k, ?_⟩
  rw [Finset.sum_congr rfl fun k _ => hg k]
  exact (map_sum (⟨⟨fun r : ℝ => (r : EReal), EReal.coe_zero⟩, EReal.coe_add⟩ : ℝ →+ EReal) g Finset.univ).symm

/-- Finite tokens, modulation and weights have a finite projection. -/
theorem proj_real (hh : ∀ i, ∃ r : ℝ, h i = r) (hmd : ∀ i, ∃ r : ℝ, md i = r) (hw : ∀ i, ∃ r : ℝ, w i = r)
    (b : Fin 2) (p : Fin 8448) (c : Fin 3072) : ∃ r : ℝ, proj h md w b p c = r :=
  real_sum fun k => real_mul (real_add (real_mul (hh _) (real_add ⟨1, EReal.coe_one.symm⟩ (hmd _))) (hmd _)) (hw _)

/-- A sum over the lanes of the lane's own head is the head's sum. -/
theorem sum_head {n : ℕ} (H : ℕ) (hn : n = 64 * H) (f : Fin n → EReal) (c : ℕ) (hc : c < n) :
    ∑ k : Fin n, f k * (if k.val / 64 = c / 64 then 1 else 0) = ∑ e : Fin 64, f ⟨64 * (c / 64) + e.val, by omega⟩ := by
  subst hn
  simp only [mul_ite, mul_one, mul_zero]
  rw [← Finset.sum_filter]
  refine (Finset.sum_bij (fun (e : Fin 64) _ => (⟨64 * (c / 64) + e.val, by omega⟩ : Fin (64 * H))) ?_ ?_ ?_ ?_).symm
  · intro e _
    rw [Finset.mem_filter]
    exact ⟨Finset.mem_univ _, by show (64 * (c / 64) + e.val) / 64 = c / 64; omega⟩
  · intro a _ b _ hab
    have := congrArg Fin.val hab
    exact Fin.ext (by dsimp only at this; omega)
  · intro k hk
    rw [Finset.mem_filter] at hk
    have h2 := hk.2
    exact ⟨⟨k.val % 64, by omega⟩, Finset.mem_univ _, Fin.ext (by show 64 * (c / 64) + k.val % 64 = k.val; omega)⟩
  · intro e _
    rfl

end Cert.InSpec

end
-- ==== Proof.InKernel.lean ====
module

public import proofs.«01_k».proof.Proof.Gen.InIdeal.Frame
public import proofs.«01_k».proof.Proof.InSpec

@[expose] public section

set_option backward.proofsInPublic true

noncomputable section

namespace Cert.InBlock

open Cert.InIdeal Cert.InIdeal.Gen Idealize.ShloMosaic Cert.InSpec

/-- The lane flag of the rotation: the first sixteen lanes of every thirty-two. -/
theorem lane (c : Fin 256) : IntOp.cmpi .slt (IntOp.andi (BitVec.ofNat 32 c.val) 31#32) 16#32
    = if c.val % 32 < 16 then 1#1 else 0#1 := by
  revert c
  decide +kernel

/-- A choice between the two partners of a lane. -/
theorem pick {n : ℕ} (hn : n ≤ 256) (c : Fin n) (x y : EReal) :
    Scalar.select (IntOp.cmpi .slt (IntOp.andi (BitVec.ofNat 32 c.val) 31#32) 16#32) x y
      = if c.val % 32 < 16 then x else y := by
  have h := lane ⟨c.val, by omega⟩
  dsimp only at h
  rw [h]
  by_cases hc : c.val % 32 < 16
  · rw [if_pos hc, if_pos hc]
    rfl
  · rw [if_neg hc, if_neg hc]
    rfl

section

variable (cs sn : Arr ⟨3, ![8192, 2, 16]⟩) (qk : Arr ⟨2, ![2, 64]⟩) (p : Fin 8448)

/-- The kernel's rotation of whole rows of heads is each head's rotation. -/
theorem turn {n : ℕ} (hn : n = 128 ∨ n = 256) (X : Fin n → EReal) (c u v : Fin n) (C S : EReal)
    (hu : u.val = (c.val + 16) % n) (hv : v.val = (c.val + n - 16) % n)
    (hC : C = cosT cs p ⟨c.val % 64, by omega⟩) (hS : S = sinT sn p ⟨c.val % 64, by omega⟩) :
    X c * C + Scalar.select (IntOp.cmpi .slt (IntOp.andi (BitVec.ofNat 32 c.val) 31#32) 16#32) (X u) (X v) * S
      = rot cs sn p (fun d => X ⟨64 * (c.val / 64) + d.val, by omega⟩) ⟨c.val % 64, by omega⟩ := by
  rw [pick (by omega), hC, hS]
  have hx : X c = (fun d : Fin 64 => X ⟨64 * (c.val / 64) + d.val, by omega⟩) ⟨c.val % 64, by omega⟩ :=
    congrArg X (Fin.ext (by show c.val = 64 * (c.val / 64) + c.val % 64; omega))
  rw [hx]
  refine rot_eq cs sn p (fun d : Fin 64 => X ⟨64 * (c.val / 64) + d.val, by omega⟩) ⟨c.val % 64, by omega⟩ _ fun e h1 h2 => ?_
  dsimp only at h1 h2 ⊢
  by_cases hc : c.val % 32 < 16
  · rw [if_pos hc]
    have := h1 (by omega)
    refine congrArg X (Fin.ext ?_)
    show u.val = 64 * (c.val / 64) + e.val
    rcases hn with rfl | rfl <;> omega
  · rw [if_neg hc]
    have := h2 (by omega)
    refine congrArg X (Fin.ext ?_)
    show v.val = 64 * (c.val / 64) + e.val
    rcases hn with rfl | rfl <;> omega

/-- A lane's normalisation with the squares split in two parts before they are summed over the lane's head. -/
def raw {n : ℕ} (X : Fin n → EReal) (E : Fin n → Fin n → EReal) (G : Fin n → EReal) (c : Fin n) : EReal :=
  X c * Ideal.rsqrt ((∑ x, X x * X x * E x c + ∑ x, (X x * X x - X x * X x) * E x c) * Ideal.ofBits FTy.f32 0x3C800000#32
    + Ideal.ofBits FTy.f32 0x358637BD#32) * G c

/-- A product with one sixty-fourth is a division by sixty-four. -/
theorem mul_inv64 (x : EReal) :
    x * Ideal.ofBits FTy.f32 0x3C800000#32 = Ideal.div x (Ideal.ofBits FTy.f32 0x42800000#32) := by
  have h1 : Ideal.ofBits FTy.f32 0x42800000#32 = ((64 : ℝ) : EReal) := by
    simp [Ideal.ofBits, Ideal.ieee, -EReal.coe_mul]; norm_num
  have h2 : Ideal.ofBits FTy.f32 0x3C800000#32 = ((1 / 64 : ℝ) : EReal) := by
    simp [Ideal.ofBits, Ideal.ieee, -EReal.coe_mul]; norm_num
  rw [h1, h2, Ideal.div_coe (by norm_num)]

/-- Over real values the split sum is the sum of the squares, and the lane is its head's normalised lane. -/
theorem raw_eq {n : ℕ} (hn : n = 128 ∨ n = 256) (X : Fin n → EReal) (hX : ∀ c, ∃ r : ℝ, X c = r) (E : Fin n → Fin n → EReal)
    (hE : ∀ a c, E a c = if a.val / 64 = c.val / 64 then 1 else 0) (G : Fin n → EReal) (g : Fin 2)
    (hG : ∀ c, G c = qk (ix2 g ⟨c.val % 64, by omega⟩)) (c : Fin n) (d : Fin 64) :
    raw X E G ⟨64 * (c.val / 64) + d.val, by omega⟩ = nrm qk g (fun d => X ⟨64 * (c.val / 64) + d.val, by omega⟩) d := by
  have hz : ∀ x, X x * X x - X x * X x = 0 := fun x => sub_self_of_real (real_mul (hX x) (hX x))
  unfold raw nrm
  rw [mul_inv64, hG]
  simp only [hz, zero_mul, Finset.sum_const_zero, add_zero, hE]
  have hs := sum_head (n / 64) (by rcases hn with rfl | rfl <;> rfl) (fun x => X x * X x) (64 * (c.val / 64) + d.val) (by omega)
  rw [hs]
  have e1 : (64 * (c.val / 64) + d.val) / 64 = c.val / 64 := by omega
  have e2 : (⟨(64 * (c.val / 64) + d.val) % 64, by omega⟩ : Fin 64) = d := Fin.ext (by show (64 * (c.val / 64) + d.val) % 64 = d.val; omega)
  rw [e2]
  simp only [e1]

end

section block

variable (h : Arr ⟨3, ![2, 8448, 1024]⟩) (md : Arr ⟨4, ![2, 2, 8, 1024]⟩) (w : Arr ⟨2, ![1024, 3072]⟩)
  (cs sn : Arr ⟨3, ![8192, 2, 16]⟩) (qk : Arr ⟨2, ![2, 64]⟩)
variable (b : Fin 2) (p : Fin 8448) (r : Fin 256)
  (x0 : Vec Ideal S1x256x1024 .f32) (x1 : Vec Ideal S1x1x8x1024 .f32) (x3 x4 : Vec Ideal S256x256 .f32)
  (x5 : Vec Ideal S2x256 .f32) (x6 : Vec Ideal S256x256 .bf16)
  (h0 : ∀ k, x0 (ix3 0 r k) = h (ix3 b p k)) (h1 : ∀ q k, x1 (ix4 0 0 q k) = md (ix4 b (seg p) q k))
  (h3 : ∀ c : Fin 256, x3 (ix2 r c) = cosT cs p ⟨c.val % 64, by omega⟩)
  (h4 : ∀ c : Fin 256, x4 (ix2 r c) = sinT sn p ⟨c.val % 64, by omega⟩)
  (h5 : ∀ g (c : Fin 256), x5 (ix2 g c) = qk (ix2 g ⟨c.val % 64, by omega⟩))
  (h6 : ∀ a c : Fin 256, x6 (ix2 a c) = if a.val / 64 = c.val / 64 then 1 else 0)

section rows

include h0 h1

/-- The kernel's modulated row is the token's. -/
theorem row_eq (k : Fin 1024) : k0_pay26 (F := Ideal) x0 x1 w x3 x4 x5 x6 (ix2 r k) = hm h md b p k := by
  unfold k0_pay26
  pointwise [k0_pay5]
  rw [h0, h1, h1]
  rfl

/-- The first run of 512 projected columns. -/
theorem projA_eq (c : Fin 512) : k0_pay29 (F := Ideal) x0 x1 w x3 x4 x5 x6 (ix2 r c) = proj h md w b p ⟨c.val, by omega⟩ := by
  have e := row_eq h md w b p r x0 x1 x3 x4 x5 x6 h0 h1
  have f : k0_pay29 (F := Ideal) x0 x1 w x3 x4 x5 x6 = k0_pay13 (k0_pay26 (F := Ideal) x0 x1 w x3 x4 x5 x6) (View.ld w r0_4) := rfl
  rw [f]
  pointwise [k0_pay13]
  simp only [e]
  rfl

/-- The second run of 512 projected columns. -/
theorem projB_eq (c : Fin 512) : k0_pay30 (F := Ideal) x0 x1 w x3 x4 x5 x6 (ix2 r c) = proj h md w b p ⟨512 + c.val, by omega⟩ := by
  have e := row_eq h md w b p r x0 x1 x3 x4 x5 x6 h0 h1
  unfold k0_pay30
  pointwise [k0_pay13]
  simp only [e]
  rfl

/-- The window group's values. -/
theorem out9_eq (c : Fin 128) :
    out0_9 (F := Ideal) x0 x1 w x3 x4 x5 x6 (ix3 0 r c) = proj h md w b p ⟨384 + c.val, by omega⟩ := by
  unfold out0_9
  rw [View.canon_unit_zero (by funext a; fin_cases a <;> rfl)]
  pointwise [k0_pay12]
  rw [projA_eq h md w b p r x0 x1 x3 x4 x5 x6 h0 h1]

/-- The global group's values. -/
theorem out12_eq (c : Fin 128) :
    out0_12 (F := Ideal) x0 x1 w x3 x4 x5 x6 (ix3 0 r c) = proj h md w b p ⟨896 + c.val, by omega⟩ := by
  unfold out0_12
  rw [View.canon_unit_zero (by funext a; fin_cases a <;> rfl)]
  pointwise [k0_pay24]
  rw [projB_eq h md w b p r x0 x1 x3 x4 x5 x6 h0 h1]
  exact congrArg _ (Fin.ext (by show 512 + (384 + c.val) = 896 + c.val; omega))

/-- The third group's columns. -/
theorem out13_eq (c : Fin 1280) :
    out0_13 (F := Ideal) x0 x1 w x3 x4 x5 x6 (ix3 0 r c) = proj h md w b p ⟨1024 + c.val, by omega⟩ := by
  have e := row_eq h md w b p r x0 x1 x3 x4 x5 x6 h0 h1
  unfold out0_13
  rw [View.canon_unit_zero (by funext a; fin_cases a <;> rfl)]
  pointwise [k0_pay25]
  simp only [e]
  rfl

/-- The last group's queries. -/
theorem out14_eq (c : Fin 256) :
    out0_14 (F := Ideal) x0 x1 w x3 x4 x5 x6 (ix3 0 r c) = proj h md w b p ⟨2304 + c.val, by omega⟩ * scale := by
  have e := row_eq h md w b p r x0 x1 x3 x4 x5 x6 h0 h1
  unfold out0_14
  rw [View.canon_unit_zero (by funext a; fin_cases a <;> rfl)]
  pointwise [k0_pay2, k0_pay1]
  simp only [e]
  rfl

/-- The last group's keys. -/
theorem out15_eq (c : Fin 256) :
    out0_15 (F := Ideal) x0 x1 w x3 x4 x5 x6 (ix3 0 r c) = proj h md w b p ⟨2560 + c.val, by omega⟩ := by
  have e := row_eq h md w b p r x0 x1 x3 x4 x5 x6 h0 h1
  unfold out0_15
  rw [View.canon_unit_zero (by funext a; fin_cases a <;> rfl)]
  pointwise [k0_pay3, k0_pay1]
  simp only [e]
  refine Finset.sum_congr rfl fun k _ => congrArg (hm h md b p k * w ·) ?_
  exact congrArg (ix2 k) (Fin.ext (by show 2304 + (256 + c.val) = 2560 + c.val; omega))

/-- The last group's values. -/
theorem out16_eq (c : Fin 256) :
    out0_16 (F := Ideal) x0 x1 w x3 x4 x5 x6 (ix3 0 r c) = proj h md w b p ⟨2816 + c.val, by omega⟩ := by
  have e := row_eq h md w b p r x0 x1 x3 x4 x5 x6 h0 h1
  unfold out0_16
  rw [View.canon_unit_zero (by funext a; fin_cases a <;> rfl)]
  pointwise [k0_pay4, k0_pay1]
  simp only [e]
  refine Finset.sum_congr rfl fun k _ => congrArg (hm h md b p k * w ·) ?_
  exact congrArg (ix2 k) (Fin.ext (by show 2304 + (512 + c.val) = 2816 + c.val; omega))

include h3 h4

/-- The window group's queries. -/
theorem out7_eq (c : Fin 256) : out0_7 (F := Ideal) x0 x1 w x3 x4 x5 x6 (ix3 0 r c) = qa h md w cs sn b p c := by
  have f : ∀ n : Fin 512, k0_pay8 (F := Ideal) (View.ld x1 r0_0) (View.ld x1 r0_1) (View.ld x0 r0_2) (View.ld w r0_4) (ix2 r n)
      = proj h md w b p ⟨n.val, by omega⟩ := projA_eq h md w b p r x0 x1 x3 x4 x5 x6 h0 h1
  unfold out0_7
  rw [View.canon_unit_zero (by funext a; fin_cases a <;> rfl)]
  pointwise [k0_pay10, k0_pay9, k0_pay6, k0_pay7]
  simp only [f]
  unfold qa
  refine congrArg (· * scale) ?_
  refine (turn cs sn p (Or.inr rfl) (fun n : Fin 256 => proj h md w b p ⟨n.val, by omega⟩) c
    ⟨(c.val + 256 - 240) % 256, by omega⟩ ⟨(c.val + 256 - 16) % 256, by omega⟩ _ _
    (by show (c.val + 256 - 240) % 256 = (c.val + 16) % 256; omega) rfl (h3 c) (h4 c)).trans ?_
  refine congrArg (fun x => rot cs sn p x _) (funext fun d => congrArg (proj h md w b p) (Fin.ext rfl))

/-- The window group's keys. -/
theorem out8_eq (c : Fin 128) : out0_8 (F := Ideal) x0 x1 w x3 x4 x5 x6 (ix3 0 c r) = ka h md w cs sn b p c := by
  have f := projA_eq h md w b p r x0 x1 x3 x4 x5 x6 h0 h1
  unfold out0_8
  rw [View.canon_unit_zero (by funext a; fin_cases a <;> rfl)]
  pointwise [k0_pay11, k0_pay27, k0_pay28, k0_pay6, k0_pay7]
  simp only [f]
  unfold ka
  refine (turn cs sn p (Or.inl rfl) (fun n : Fin 128 => proj h md w b p ⟨256 + n.val, by omega⟩) c
    ⟨(c.val + 128 - 112) % 128, by omega⟩ ⟨(c.val + 128 - 16) % 128, by omega⟩ _ _
    (by show (c.val + 128 - 112) % 128 = (c.val + 16) % 128; omega) rfl (h3 ⟨c.val, by omega⟩) (h4 ⟨c.val, by omega⟩)).trans ?_
  refine congrArg (fun x => rot cs sn p x _) (funext fun d => congrArg (proj h md w b p) (Fin.ext ?_))
  show 256 + (64 * (c.val / 64) + d.val) = 256 + 64 * (c.val / 64) + d.val
  omega

include h5 h6

/-- The global group's queries, over finite projections. -/
theorem out10_eq (hr : ∀ n, ∃ x : ℝ, proj h md w b p n = x) (c : Fin 256) :
    out0_10 (F := Ideal) x0 x1 w x3 x4 x5 x6 (ix3 0 r c) = qb h md w cs sn qk b p c := by
  have f : ∀ n : Fin 512, k0_pay13 (F := Ideal) (k0_pay26 x0 x1 w x3 x4 x5 x6) (View.ld w r0_8) (ix2 r n)
      = proj h md w b p ⟨512 + n.val, by omega⟩ := projB_eq h md w b p r x0 x1 x3 x4 x5 x6 h0 h1
  unfold out0_10
  rw [View.canon_unit_zero (by funext a; fin_cases a <;> rfl)]
  pointwise [k0_pay20, k0_pay27, k0_pay28, k0_pay6, k0_pay7, k0_pay14, k0_pay15, k0_pay16, k0_pay17, k0_pay18, k0_pay19]
  simp only [f]
  unfold qb
  refine congrArg (· * scale) ?_
  refine (turn cs sn p (Or.inr rfl) (raw (fun n : Fin 256 => proj h md w b p ⟨512 + n.val, by omega⟩)
    (fun a c => x6 (ix2 a c)) (fun c => x5 (ix2 0 c))) c
    ⟨(c.val + 256 - 240) % 256, by omega⟩ ⟨(c.val + 256 - 16) % 256, by omega⟩ _ _
    (by show (c.val + 256 - 240) % 256 = (c.val + 16) % 256; omega) rfl (h3 c) (h4 c)).trans ?_
  refine congrArg (fun x => rot cs sn p x _) (funext fun d => ?_)
  refine (raw_eq qk (Or.inr rfl) _ (fun n => hr _) _ h6 _ 0 (h5 0) c d).trans ?_
  refine congrArg (fun x => nrm qk 0 x d) (funext fun d => congrArg (proj h md w b p) (Fin.ext ?_))
  show 512 + (64 * (c.val / 64) + d.val) = 512 + 64 * (c.val / 64) + d.val
  omega

/-- The global group's keys, over finite projections. -/
theorem out11_eq (hr : ∀ n, ∃ x : ℝ, proj h md w b p n = x) (c : Fin 128) :
    out0_11 (F := Ideal) x0 x1 w x3 x4 x5 x6 (ix4 0 0 c r) = kb h md w cs sn qk b p c := by
  have f := projB_eq h md w b p r x0 x1 x3 x4 x5 x6 h0 h1
  unfold out0_11
  rw [View.canon_unit_zero (by funext a; fin_cases a <;> rfl)]
  pointwise [k0_pay23, k0_pay27, k0_pay28, k0_pay6, k0_pay7, k0_pay21, k0_pay22]
  simp only [f]
  unfold kb
  refine (turn cs sn p (Or.inl rfl) (raw (fun n : Fin 128 => proj h md w b p ⟨512 + (256 + n.val), by omega⟩)
    (fun a c => x6 (ix2 ⟨a.val, by omega⟩ ⟨c.val, by omega⟩)) (fun c => x5 (ix2 1 ⟨c.val, by omega⟩))) c
    ⟨(c.val + 128 - 112) % 128, by omega⟩ ⟨(c.val + 128 - 16) % 128, by omega⟩ _ _
    (by show (c.val + 128 - 112) % 128 = (c.val + 16) % 128; omega) rfl (h3 ⟨c.val, by omega⟩) (h4 ⟨c.val, by omega⟩)).trans ?_
  refine congrArg (fun x => rot cs sn p x _) (funext fun d => ?_)
  refine (raw_eq qk (Or.inl rfl) _ (fun n => hr _) _ (fun a c => h6 _ _) _ 1 (fun c => h5 1 _) c d).trans ?_
  refine congrArg (fun x => nrm qk 1 x d) (funext fun d => congrArg (proj h md w b p) (Fin.ext ?_))
  show 512 + (256 + (64 * (c.val / 64) + d.val)) = 768 + 64 * (c.val / 64) + d.val
  omega

end rows

end block

end Cert.InBlock

end
-- ==== Proof.InHost.lean ====
module

public import proofs.«01_k».proof.Proof.Gen.InIdeal.Frame
public import proofs.«01_k».proof.Proof.InSpec
public import Idealize.ShloMosaic.Lib.StableHlo.Run

@[expose] public section

set_option backward.proofsInPublic true

noncomputable section

namespace Cert.InBlock

open Cert.InIdeal Cert.InIdeal.Gen Idealize.ShloMosaic Idealize.ShloMosaic.TcCoe Idealize.SL.Sem Cert.InSpec Idealize.ShloMosaic.StableHlo

/-- The flags of the pairs of lanes that lie in one head. -/
def sameHead : FVec Ideal S256x256 .bf16 :=
  uitofp .bf16 (cmpi .eq (Host.divsi (iotaInDim S256x256 32 0) (broadcastInDim S256x256 ![] bcast_S_S256x256 (constantI S_ 32 64#32)))
    (Host.divsi (iotaInDim S256x256 32 1) (broadcastInDim S256x256 ![] bcast_S_S256x256 (constantI S_ 32 64#32))))

/-- A table of latent rows over a constant for the context rows. -/
def rows (x : FVec Ideal S8192x64 .f32) (z : BitVec 32) : FVec Ideal S8448x64 .f32 :=
  concatenate S8448x64 0 [⟨S8192x64, x⟩, ⟨S256x64, broadcastInDim S256x64 ![] bcast_S_S256x64 (constant S_ .f32 z)⟩]
    concatenates_S8192x64_S256x64_S8448x64_d0

/-- A table repeated for four heads. -/
def heads (x : FVec Ideal S8448x64 .f32) : FVec Ideal S8448x256 .f32 :=
  shapeCast S8448x256 (broadcastInDim S1x8448x4x64 ![0, 1, 2, 3] bcast_S1x8448x1x64_S1x8448x4x64_0_1_2_3
    (shapeCast S1x8448x1x64 x shapeCasts_S8448x64_S1x8448x1x64)) shapeCasts_S1x8448x4x64_S8448x256

/-- The cosines laid out for the lanes of a head. -/
def cosRows (x : FVec Ideal S8192x2x16 .f32) : FVec Ideal S8192x64 .f32 :=
  shapeCast S8192x64 (shapeCast S8192x2x2x16 (broadcastInDim S8192x2x1x2x16 ![0, 1, 2, 4] bcast_S8192x2x1x16_S8192x2x1x2x16_0_1_2_4
    (broadcastInDim S8192x2x1x16 ![0, 1, 3] bcast_S8192x2x16_S8192x2x1x16_0_1_3 x)) shapeCasts_S8192x2x1x2x16_S8192x2x2x16)
    shapeCasts_S8192x2x2x16_S8192x64

/-- The signed sines laid out for the lanes of a head. -/
def sinRows (x : FVec Ideal S8192x2x16 .f32) : FVec Ideal S8192x64 .f32 :=
  shapeCast S8192x64 (concatenate S8192x2x2x16 2
    [⟨S8192x2x1x16, broadcastInDim S8192x2x1x16 ![0, 1, 3] bcast_S8192x2x16_S8192x2x1x16_0_1_3 (Host.negf x)⟩,
      ⟨S8192x2x1x16, broadcastInDim S8192x2x1x16 ![0, 1, 3] bcast_S8192x2x16_S8192x2x1x16_0_1_3 x⟩]
    concatenates_S8192x2x1x16_S8192x2x1x16_S8192x2x2x16_d2) shapeCasts_S8192x2x2x16_S8192x64

/-- The gains repeated for four heads. -/
def gains (x : FVec Ideal S2x64 .f32) : FVec Ideal S2x256 .f32 :=
  shapeCast S2x256 (broadcastInDim S1x2x4x64 ![0, 1, 2, 3] bcast_S1x2x1x64_S1x2x4x64_0_1_2_3
    (shapeCast S1x2x1x64 x shapeCasts_S2x64_S1x2x1x64)) shapeCasts_S1x2x4x64_S2x256

/-- The cosine of a lane of a latent token's head. -/
theorem cosRows_apply (x : FVec Ideal S8192x2x16 .f32) (p : Fin 8192) (d : Fin 64) :
    cosRows x (ix2 p d) = x (ix3 p ⟨d.val / 32, by omega⟩ ⟨d.val % 16, by omega⟩) := by
  pointwise [cosRows]

/-- The signed sine of a lane of a latent token's head. -/
theorem sinRows_apply (x : FVec Ideal S8192x2x16 .f32) (p : Fin 8192) (d : Fin 64) :
    sinRows x (ix2 p d) = if d.val % 32 < 16 then -x (ix3 p ⟨d.val / 32, by omega⟩ ⟨d.val % 16, by omega⟩)
      else x (ix3 p ⟨d.val / 32, by omega⟩ ⟨d.val % 16, by omega⟩) := by
  pointwise [sinRows]
  by_cases hd : d.val % 32 < 16
  · rw [dif_pos (by omega), if_pos hd]
  · rw [dif_neg (by omega), if_neg hd]

/-- A repeated table reads the latent rows, then the constant. -/
theorem heads_apply (x : FVec Ideal S8192x64 .f32) (z : BitVec 32) (p : Fin 8448) (c : Fin 256) :
    heads (rows x z) (ix2 p c) = if hp : p.val < 8192 then x (ix2 ⟨p.val, hp⟩ ⟨c.val % 64, by omega⟩) else Ideal.ofBits .f32 z := by
  pointwise [heads, rows]

/-- The gain of a lane. -/
theorem gains_apply (x : FVec Ideal S2x64 .f32) (g : Fin 2) (c : Fin 256) :
    gains x (ix2 g c) = x (ix2 g ⟨c.val % 64, by omega⟩) := by
  pointwise [gains]

/-- The head of a lane. -/
theorem headOf (a : Fin 256) : IntOp.divsi .host (BitVec.ofNat 32 a.val) 64#32 = BitVec.ofNat 32 (a.val / 64) := by
  revert a
  decide +kernel

/-- Two heads' numbers as words agree when the heads do. -/
theorem sameFlag : ∀ a c : Fin 4, IntOp.cmpi .eq (BitVec.ofNat 32 a.val) (BitVec.ofNat 32 c.val)
    = if a.val = c.val then 1#1 else 0#1 := by
  decide +kernel

/-- The flag of two lanes is one when they lie in one head, zero otherwise. -/
theorem sameHead_apply (a c : Fin 256) :
    sameHead (ix2 a c) = if a.val / 64 = c.val / 64 then 1 else 0 := by
  pointwise [sameHead]
  rw [headOf, headOf]
  have h := sameFlag ⟨a.val / 64, by omega⟩ ⟨c.val / 64, by omega⟩
  dsimp only at h
  rw [h]
  by_cases hac : a.val / 64 = c.val / 64
  · rw [if_pos hac, if_pos hac]
    show (((1#1).toNat : ℝ) : EReal) = 1
    simp
  · rw [if_neg hac, if_neg hac]
    show (((0#1).toNat : ℝ) : EReal) = 0
    simp

variable (m : (ℓ : Loc nD τ sig) → Buf (Elt Ideal) ℓ) (c : Dev nD)

/-- The region finds the flags of the lanes. -/
theorem V_main_v7 : V m c main_v7 = sameHead := by
  show after hostOps0 _ _ = _
  simp only [hostOps0]
  after_results_simp
  rfl

/-- The region finds the repeated gains. -/
theorem V_main_v29 : V m c main_v29 = gains (m ((c : Thread nD τ).loc main_arg5)) := by
  show after hostOps0 _ _ = _
  simp only [hostOps0]
  after_results_simp
  rfl

/-- The region finds the cosine table. -/
theorem V_main_v21 : V m c main_v21 = heads (rows (cosRows (m ((c : Thread nD τ).loc main_arg3))) 0x3F800000#32) := by
  show after hostOps0 _ _ = _
  simp only [hostOps0]
  after_results_simp
  rfl

/-- The region finds the signed sine table. -/
theorem V_main_v26 : V m c main_v26 = heads (rows (sinRows (m ((c : Thread nD τ).loc main_arg4))) 0x00000000#32) := by
  show after hostOps0 _ _ = _
  simp only [hostOps0]
  after_results_simp
  rfl

end Cert.InBlock

end
-- ==== Proof.InFinal.lean ====
module

public import proofs.«01_k».proof.Proof.Gen.InIdeal.Value
public import proofs.«01_k».proof.Proof.InKernel
public import proofs.«01_k».proof.Proof.InHost

@[expose] public section

set_option backward.proofsInPublic true

noncomputable section

namespace Cert.InBlock

open Cert.InIdeal Cert.InIdeal.Gen Idealize.ShloMosaic Idealize.ShloMosaic.TcCoe Idealize.SL.Sem Cert.InSpec
open Idealize.ShloMosaic.Pipeline (Dat)

variable (m : (ℓ : Loc nD τ sig) → Buf (Elt Ideal) ℓ) (c : Dev nD)

/-- The grid point's batch. -/
abbrev pb (t : Fin cfg0.N) : Fin 2 := ⟨(grid0.coords t 0).val, (grid0.coords t 0).isLt⟩
/-- The grid point's tile of rows. -/
abbrev pj (t : Fin cfg0.N) : Fin 33 := ⟨(grid0.coords t 1).val, (grid0.coords t 1).isLt⟩
/-- A row of the grid point's tile. -/
abbrev pr (t : Fin cfg0.N) (r : Fin 256) : Fin 8448 := ⟨256 * (pj t).val + r.val, by have := (pj t).isLt; omega⟩

/-- The launched tokens. -/
abbrev aH : Arr ⟨3, ![2, 8448, 1024]⟩ := m ((c : Thread nD τ).loc main_arg0)
/-- The launched modulation. -/
abbrev aM : Arr ⟨4, ![2, 2, 8, 1024]⟩ := m ((c : Thread nD τ).loc main_arg1)
/-- The launched weights. -/
abbrev aW : Arr ⟨2, ![1024, 3072]⟩ := m ((c : Thread nD τ).loc main_arg2)
/-- The launched cosines. -/
abbrev aC : Arr ⟨3, ![8192, 2, 16]⟩ := m ((c : Thread nD τ).loc main_arg3)
/-- The launched sines. -/
abbrev aS : Arr ⟨3, ![8192, 2, 16]⟩ := m ((c : Thread nD τ).loc main_arg4)
/-- The launched gains. -/
abbrev aQ : Arr ⟨2, ![2, 64]⟩ := m ((c : Thread nD τ).loc main_arg5)

/-- The block indices of the windows the kernel reads, at every grid point. -/
theorem idx_in : ∀ t : Fin cfg0.N,
    (win0_0.index t 0 = (pb t).val ∧ win0_0.index t 1 = (pj t).val ∧ win0_0.index t 2 = 0)
    ∧ (win0_1.index t 0 = (pb t).val ∧ win0_1.index t 1 = (if (pj t).val < 32 then 0 else 1) ∧ win0_1.index t 2 = 0 ∧ win0_1.index t 3 = 0)
    ∧ (win0_2.index t 0 = 0 ∧ win0_2.index t 1 = 0)
    ∧ (win0_3.index t 0 = (pj t).val ∧ win0_3.index t 1 = 0) ∧ (win0_4.index t 0 = (pj t).val ∧ win0_4.index t 1 = 0)
    ∧ (win0_5.index t 0 = 0 ∧ win0_5.index t 1 = 0) ∧ (win0_6.index t 0 = 0 ∧ win0_6.index t 1 = 0) :=
  (by decide +kernel : ∀ t : Fin grid0.N, _)

/-- Every batch and tile is some grid point's. -/
theorem point : ∀ (b : Fin 2) (j : Fin 33), ∃ t : Fin cfg0.N, pb t = b ∧ pj t = j :=
  (by decide +kernel : ∀ (b : Fin 2) (j : Fin 33), ∃ t : Fin grid0.N, _)

/-- The tile’s rows. -/
theorem blk0 (t : Fin cfg0.N) (r : Fin 256) (k : Fin 1024) :
    iblk m c 0 t (ix3 0 r k) = aH m c (ix3 (pb t) (pr t r) k) := by
  obtain ⟨⟨a, b, d⟩, -⟩ := idx_in t
  unfold iblk
  rw [View.read_apply]
  show V m c main_arg0 _ = m (c.tc.loc main_arg0) _
  rw [V_main_arg0]
  congr 1
  funext x
  apply Fin.ext
  match x with
  | ⟨0, _⟩ => show win0_0.index t 0 * 1 + 1 * 0 = (pb t).val; rw [a]; omega
  | ⟨1, _⟩ => show win0_0.index t 1 * 256 + 1 * r.val = 256 * (pj t).val + r.val; rw [b]; omega
  | ⟨2, _⟩ => show win0_0.index t 2 * 1024 + 1 * k.val = k.val; rw [d]; omega

/-- The modulation of the tile’s tokens. -/
theorem blk1 (t : Fin cfg0.N) (r : Fin 256) (q : Fin 8) (k : Fin 1024) :
    iblk m c 1 t (ix4 0 0 q k) = aM m c (ix4 (pb t) (seg (pr t r)) q k) := by
  obtain ⟨-, ⟨a, b, d, e⟩, -⟩ := idx_in t
  unfold iblk
  rw [View.read_apply]
  show V m c main_arg1 _ = m (c.tc.loc main_arg1) _
  rw [V_main_arg1]
  congr 1
  funext x
  apply Fin.ext
  match x with
  | ⟨0, _⟩ => show win0_1.index t 0 * 1 + 1 * 0 = (pb t).val; rw [a]; omega
  | ⟨1, _⟩ =>
    show win0_1.index t 1 * 1 + 1 * 0 = (seg (pr t r)).val
    rw [b]
    unfold seg
    by_cases hj : (pj t).val < 32
    · rw [if_pos hj, if_pos (by show 256 * (pj t).val + r.val < 8192; omega)]
      rfl
    · rw [if_neg hj, if_neg (by show ¬ 256 * (pj t).val + r.val < 8192; omega)]
      rfl
  | ⟨2, _⟩ => show win0_1.index t 2 * 8 + 1 * q.val = q.val; rw [d]; omega
  | ⟨3, _⟩ => show win0_1.index t 3 * 1024 + 1 * k.val = k.val; rw [e]; omega

/-- Window 2’s block is all the weights. -/
theorem blk2 (t : Fin cfg0.N) : iblk m c 2 t = aW m c := by
  obtain ⟨-, -, ⟨a, b⟩, -⟩ := idx_in t
  funext y
  unfold iblk
  rw [View.read_apply]
  show V m c main_arg2 _ = m (c.tc.loc main_arg2) _
  rw [V_main_arg2]
  congr 1
  funext k
  apply Fin.ext
  match k with
  | ⟨0, _⟩ => show win0_2.index t 0 * 1024 + 1 * (y 0).val = (y 0).val; rw [a]; omega
  | ⟨1, _⟩ => show win0_2.index t 1 * 3072 + 1 * (y 1).val = (y 1).val; rw [b]; omega

/-- The cosines of the tile’s tokens. -/
theorem blk3 (t : Fin cfg0.N) (r c' : Fin 256) :
    iblk m c 3 t (ix2 r c') = cosT (aC m c) (pr t r) ⟨c'.val % 64, by omega⟩ := by
  obtain ⟨-, -, -, ⟨a, b⟩, -⟩ := idx_in t
  unfold iblk
  rw [View.read_apply]
  show V m c main_v21 _ = _
  rw [V_main_v21]
  refine Eq.trans (congrArg _ (?_ : _ = ix2 (pr t r) c')) ?_
  · funext x
    apply Fin.ext
    match x with
    | ⟨0, _⟩ => show win0_3.index t 0 * 256 + 1 * r.val = 256 * (pj t).val + r.val; rw [a]; omega
    | ⟨1, _⟩ => show win0_3.index t 1 * 256 + 1 * c'.val = c'.val; rw [b]; omega
  · rw [heads_apply]
    unfold cosT
    by_cases hp : (pr t r).val < 8192
    · rw [dif_pos hp, dif_pos hp, cosRows_apply]
    · rw [dif_neg hp, dif_neg hp, Ideal.ofBits_one_f32]

/-- The signed sines of the tile’s tokens. -/
theorem blk4 (t : Fin cfg0.N) (r c' : Fin 256) :
    iblk m c 4 t (ix2 r c') = sinT (aS m c) (pr t r) ⟨c'.val % 64, by omega⟩ := by
  obtain ⟨-, -, -, -, ⟨a, b⟩, -⟩ := idx_in t
  unfold iblk
  rw [View.read_apply]
  show V m c main_v26 _ = _
  rw [V_main_v26]
  refine Eq.trans (congrArg _ (?_ : _ = ix2 (pr t r) c')) ?_
  · funext x
    apply Fin.ext
    match x with
    | ⟨0, _⟩ => show win0_4.index t 0 * 256 + 1 * r.val = 256 * (pj t).val + r.val; rw [a]; omega
    | ⟨1, _⟩ => show win0_4.index t 1 * 256 + 1 * c'.val = c'.val; rw [b]; omega
  · rw [heads_apply]
    unfold sinT
    by_cases hp : (pr t r).val < 8192
    · rw [dif_pos hp, dif_pos hp, sinRows_apply]
    · rw [dif_neg hp, dif_neg hp, Ideal.ofBits_zero_f32]

/-- Window 5’s block is the repeated gains. -/
theorem blk5 (t : Fin cfg0.N) (g : Fin 2) (c' : Fin 256) :
    iblk m c 5 t (ix2 g c') = aQ m c (ix2 g ⟨c'.val % 64, by omega⟩) := by
  obtain ⟨-, -, -, -, -, ⟨a, b⟩, -⟩ := idx_in t
  unfold iblk
  rw [View.read_apply]
  show V m c main_v29 _ = _
  rw [V_main_v29]
  refine Eq.trans (congrArg _ (?_ : _ = ix2 g c')) (gains_apply _ g c')
  funext x
  apply Fin.ext
  match x with
  | ⟨0, _⟩ => show win0_5.index t 0 * 2 + 1 * g.val = g.val; rw [a]; omega
  | ⟨1, _⟩ => show win0_5.index t 1 * 256 + 1 * c'.val = c'.val; rw [b]; omega

/-- Window 6’s block is the flags of the lanes in one head. -/
theorem blk6 (t : Fin cfg0.N) (a' c' : Fin 256) :
    iblk m c 6 t (ix2 a' c') = (if a'.val / 64 = c'.val / 64 then (1 : EReal) else (0 : EReal)) := by
  obtain ⟨-, -, -, -, -, -, a, b⟩ := idx_in t
  unfold iblk
  rw [View.read_apply]
  show V m c main_v7 _ = _
  rw [V_main_v7]
  refine Eq.trans (congrArg _ (?_ : _ = ix2 a' c')) (sameHead_apply a' c')
  funext x
  apply Fin.ext
  match x with
  | ⟨0, _⟩ => show win0_6.index t 0 * 256 + 1 * a'.val = a'.val; rw [a]; omega
  | ⟨1, _⟩ => show win0_6.index t 1 * 256 + 1 * c'.val = c'.val; rw [b]; omega

/-- Window 7’s block indices. -/
theorem idx7 : ∀ t : Fin cfg0.N, win0_7.index t 0 = (pb t).val ∧ win0_7.index t 1 = (pj t).val ∧ win0_7.index t 2 = 0 :=
  (by decide +kernel : ∀ t : Fin grid0.N, _)

/-- Result 0 of the call: the window group’s queries. -/
def res7 : Buf (Elt Ideal) ((c : Thread nD τ).loc main_v30_0) := fun i =>
  qa (aH m c) (aM m c) (aW m c) (aC m c) (aS m c) (i 0) (i 1) (i 2)

/-- What a grid point writes back is its block of the result. -/
theorem flushed7_eq (t : Fin cfg0.N) :
    (dats m 0 c).flushed 7 t = ((cfg0.win 7).blk t).view.read (Elt Ideal) (res7 m c) := by
  rw [Cert.InIdeal.Value.flushed7]
  funext y
  rw [View.read_apply]
  show out0_7 _ _ _ _ _ _ _ y = res7 m c _
  rw [blk2]
  obtain ⟨r, n, rfl⟩ : ∃ (r : Fin 256) (n : Fin 256), y = (ix3 (0 : Fin 1) r n : S1x256x256.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx7 t
  have E : ((cfg0.win 7).blk t).view.emb (ix3 (0 : Fin 1) r n) = (ix3 (pb t) (pr t r) n : S2x8448x256.Idx) := by
    funext x
    apply Fin.ext
    match x with
    | ⟨0, _⟩ => show win0_7.index t 0 * 1 + 1 * 0 = (pb t).val; rw [a]; omega
    | ⟨1, _⟩ => show win0_7.index t 1 * 256 + 1 * r.val = 256 * (pj t).val + r.val; rw [b]; omega
    | ⟨2, _⟩ => show win0_7.index t 2 * 256 + 1 * n.val = n.val; rw [d]; omega
  refine (out7_eq (aH m c) (aM m c) (aW m c) (aC m c) (aS m c) (pb t) (pr t r) r _ _ _ _ _ _ (blk0 m c t r) (blk1 m c t r) (blk3 m c t r) (blk4 m c t r) n).trans ?_
  rw [E]
  rfl

/-- The result’s array ends holding it. -/
theorem final7 : (dats m 0 c).arrAt 7 cfg0.N = res7 m c :=
  (dats m 0 c).arrAt_eq_of_cover 7 (res7 m c) (fun t _ => flushed7_eq m c t) fun i => by
    obtain ⟨t, h1, h2⟩ := point (i 0) ⟨(i 1).val / 256, by have : (i 1).val < 8448 := (i 1).isLt; omega⟩
    refine ⟨t, flush0_7 t, ?_⟩
    obtain ⟨a, b, d⟩ := idx7 t
    have e1 := congrArg Fin.val h1
    have e2 := congrArg Fin.val h2
    show i ∈ ((View.whole main_v30_0).slice (win0_7.rect t)).set
    rw [View.set_slice_whole, Rect.mem_set_unit]
    intro x
    have k0 : (i 0).val < 2 := (i 0).isLt
    have k1 : (i 1).val < 8448 := (i 1).isLt
    have k2 : (i 2).val < 256 := (i 2).isLt
    match x with
    | ⟨0, _⟩ =>
      show win0_7.index t 0 * 1 ≤ (i 0).val ∧ (i 0).val < win0_7.index t 0 * 1 + 1
      rw [a]
      dsimp only at e1 e2 ⊢
      omega
    | ⟨1, _⟩ =>
      show win0_7.index t 1 * 256 ≤ (i 1).val ∧ (i 1).val < win0_7.index t 1 * 256 + 256
      rw [b]
      dsimp only at e1 e2 ⊢
      omega
    | ⟨2, _⟩ =>
      show win0_7.index t 2 * 256 ≤ (i 2).val ∧ (i 2).val < win0_7.index t 2 * 256 + 256
      rw [d]
      dsimp only at e1 e2 ⊢
      omega

/-- Window 8’s block indices. -/
theorem idx8 : ∀ t : Fin cfg0.N, win0_8.index t 0 = (pb t).val ∧ win0_8.index t 1 = 0 ∧ win0_8.index t 2 = (pj t).val :=
  (by decide +kernel : ∀ t : Fin grid0.N, _)

/-- Result 1 of the call: the window group’s keys, transposed. -/
def res8 : Buf (Elt Ideal) ((c : Thread nD τ).loc main_v30_1) := fun i =>
  ka (aH m c) (aM m c) (aW m c) (aC m c) (aS m c) (i 0) (i 2) (i 1)

/-- What a grid point writes back is its block of the result. -/
theorem flushed8_eq (t : Fin cfg0.N) :
    (dats m 0 c).flushed 8 t = ((cfg0.win 8).blk t).view.read (Elt Ideal) (res8 m c) := by
  rw [Cert.InIdeal.Value.flushed8]
  funext y
  rw [View.read_apply]
  show out0_8 _ _ _ _ _ _ _ y = res8 m c _
  rw [blk2]
  obtain ⟨r, n, rfl⟩ : ∃ (r : Fin 256) (n : Fin 128), y = (ix3 (0 : Fin 1) n r : S1x128x256.Idx) := ⟨y 2, y 1, by
    funext a
    match a with
    | ⟨0, _⟩ => exact Subsingleton.elim (α := Fin 1) _ _
    | ⟨1, _⟩ => rfl
    | ⟨2, _⟩ => rfl⟩
  obtain ⟨a, b, d⟩ := idx8 t
  have E : ((cfg0.win 8).blk t).view.emb (ix3 (0 : Fin 1) n r) = (ix3 (pb t) n (pr t r) : S2x128x8448.Idx) := by
    funext x
    apply Fin.ext
    match x with
    | ⟨0, _⟩ => show win0_8.index t 0 * 1 + 1 * 0 = (pb t).val; rw [a]; omega
    | ⟨1, _⟩ => show win0_8.index t 1 * 128 + 1 * n.val = n.val; rw [b]; omega
    | ⟨2, _⟩ => show win0_8.index t 2 * 256 + 1 * r.val = 256 * (pj t).val + r.val; rw [d]; omega
  refine (out8_eq (aH m c) (aM m c) (aW m c) (aC m c) (aS m c) (pb t) (pr t r) r _ _ _ _ _ _ (blk0 m c t r) (blk1 m c t r) (blk3 m c t r) (blk4 m c t r) n).trans ?_
  rw [E]
  rfl

/-- The result’s array ends holding it. -/
theorem final8 : (dats m 0 c).arrAt 8 cfg0.N = res8 m c :=
  (dats m 0 c).arrAt_eq_of_cover 8 (res8 m c) (fun t _ => flushed8_eq m c t) fun i => by
    obtain ⟨t, h1, h2⟩ := point (i 0) ⟨(i 2).val / 256, by have : (i 2).val < 8448 := (i 2).isLt; omega⟩
    refine ⟨t, flush0_8 t, ?_⟩
    obtain ⟨a, b, d⟩ := idx8 t
    have e1 := congrArg Fin.val h1
    have e2 := congrArg Fin.val h2
    show i ∈ ((View.whole main_v30_1).slice (win0_8.rect t)).set
    rw [View.set_slice_whole, Rect.mem_set_unit]
    intro x
    have k0 : (i 0).val < 2 := (i 0).isLt
    have k1 : (i 1).val < 128 := (i 1).isLt
    have k2 : (i 2).val < 8448 := (i 2).isLt
    match x with
    | ⟨0, _⟩ =>
      show win0_8.index t 0 * 1 ≤ (i 0).val ∧ (i 0).val < win0_8.index t 0 * 1 + 1
      rw [a]
      dsimp only at e1 e2 ⊢
      omega
    | ⟨1, _⟩ =>
      show win0_8.index t 1 * 128 ≤ (i 1).val ∧ (i 1).val < win0_8.index t 1 * 128 + 128
      rw [b]
      dsimp only at e1 e2 ⊢
      omega
    | ⟨2, _⟩ =>
      show win0_8.index t 2 * 256 ≤ (i 2).val ∧ (i 2).val < win0_8.index t 2 * 256 + 256
      rw [d]
      dsimp only at e1 e2 ⊢
      omega

/-- Window 9’s block indices. -/
theorem idx9 : ∀ t : Fin cfg0.N, win0_9.index t 0 = (pb t).val ∧ win0_9.index t 1 = (pj t).val ∧ win0_9.index t 2 = 0 :=
  (by decide +kernel : ∀ t : Fin grid0.N, _)

/-- Result 2 of the call: the window group’s values. -/
def res9 : Buf (Elt Ideal) ((c : Thread nD τ).loc main_v30_2) := fun i =>
  proj (aH m c) (aM m c) (aW m c) (i 0) (i 1) ⟨384 + (i 2).val, by have : (i 2).val < 128 := (i 2).isLt; omega⟩

/-- What a grid point writes back is its block of the result. -/
theorem flushed9_eq (t : Fin cfg0.N) :
    (dats m 0 c).flushed 9 t = ((cfg0.win 9).blk t).view.read (Elt Ideal) (res9 m c) := by
  rw [Cert.InIdeal.Value.flushed9]
  funext y
  rw [View.read_apply]
  show out0_9 _ _ _ _ _ _ _ y = res9 m c _
  rw [blk2]
  obtain ⟨r, n, rfl⟩ : ∃ (r : Fin 256) (n : Fin 128), y = (ix3 (0 : Fin 1) r n : S1x256x128.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx9 t
  have E : ((cfg0.win 9).blk t).view.emb (ix3 (0 : Fin 1) r n) = (ix3 (pb t) (pr t r) n : S2x8448x128.Idx) := by
    funext x
    apply Fin.ext
    match x with
    | ⟨0, _⟩ => show win0_9.index t 0 * 1 + 1 * 0 = (pb t).val; rw [a]; omega
    | ⟨1, _⟩ => show win0_9.index t 1 * 256 + 1 * r.val = 256 * (pj t).val + r.val; rw [b]; omega
    | ⟨2, _⟩ => show win0_9.index t 2 * 128 + 1 * n.val = n.val; rw [d]; omega
  refine (out9_eq (aH m c) (aM m c) (aW m c) (pb t) (pr t r) r _ _ _ _ _ _ (blk0 m c t r) (blk1 m c t r) n).trans ?_
  rw [E]
  rfl

/-- The result’s array ends holding it. -/
theorem final9 : (dats m 0 c).arrAt 9 cfg0.N = res9 m c :=
  (dats m 0 c).arrAt_eq_of_cover 9 (res9 m c) (fun t _ => flushed9_eq m c t) fun i => by
    obtain ⟨t, h1, h2⟩ := point (i 0) ⟨(i 1).val / 256, by have : (i 1).val < 8448 := (i 1).isLt; omega⟩
    refine ⟨t, flush0_9 t, ?_⟩
    obtain ⟨a, b, d⟩ := idx9 t
    have e1 := congrArg Fin.val h1
    have e2 := congrArg Fin.val h2
    show i ∈ ((View.whole main_v30_2).slice (win0_9.rect t)).set
    rw [View.set_slice_whole, Rect.mem_set_unit]
    intro x
    have k0 : (i 0).val < 2 := (i 0).isLt
    have k1 : (i 1).val < 8448 := (i 1).isLt
    have k2 : (i 2).val < 128 := (i 2).isLt
    match x with
    | ⟨0, _⟩ =>
      show win0_9.index t 0 * 1 ≤ (i 0).val ∧ (i 0).val < win0_9.index t 0 * 1 + 1
      rw [a]
      dsimp only at e1 e2 ⊢
      omega
    | ⟨1, _⟩ =>
      show win0_9.index t 1 * 256 ≤ (i 1).val ∧ (i 1).val < win0_9.index t 1 * 256 + 256
      rw [b]
      dsimp only at e1 e2 ⊢
      omega
    | ⟨2, _⟩ =>
      show win0_9.index t 2 * 128 ≤ (i 2).val ∧ (i 2).val < win0_9.index t 2 * 128 + 128
      rw [d]
      dsimp only at e1 e2 ⊢
      omega

/-- Window 10’s block indices. -/
theorem idx10 : ∀ t : Fin cfg0.N, win0_10.index t 0 = (pb t).val ∧ win0_10.index t 1 = (pj t).val ∧ win0_10.index t 2 = 0 :=
  (by decide +kernel : ∀ t : Fin grid0.N, _)

/-- Result 3 of the call: the global group’s queries. -/
def res10 : Buf (Elt Ideal) ((c : Thread nD τ).loc main_v30_3) := fun i =>
  qb (aH m c) (aM m c) (aW m c) (aC m c) (aS m c) (aQ m c) (i 0) (i 1) (i 2)

/-- What a grid point writes back is its block of the result. -/
theorem flushed10_eq
    (hr : ∀ b p n, ∃ x : ℝ, proj (aH m c) (aM m c) (aW m c) b p n = x) (t : Fin cfg0.N) :
    (dats m 0 c).flushed 10 t = ((cfg0.win 10).blk t).view.read (Elt Ideal) (res10 m c) := by
  rw [Cert.InIdeal.Value.flushed10]
  funext y
  rw [View.read_apply]
  show out0_10 _ _ _ _ _ _ _ y = res10 m c _
  rw [blk2]
  obtain ⟨r, n, rfl⟩ : ∃ (r : Fin 256) (n : Fin 256), y = (ix3 (0 : Fin 1) r n : S1x256x256.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx10 t
  have E : ((cfg0.win 10).blk t).view.emb (ix3 (0 : Fin 1) r n) = (ix3 (pb t) (pr t r) n : S2x8448x256.Idx) := by
    funext x
    apply Fin.ext
    match x with
    | ⟨0, _⟩ => show win0_10.index t 0 * 1 + 1 * 0 = (pb t).val; rw [a]; omega
    | ⟨1, _⟩ => show win0_10.index t 1 * 256 + 1 * r.val = 256 * (pj t).val + r.val; rw [b]; omega
    | ⟨2, _⟩ => show win0_10.index t 2 * 256 + 1 * n.val = n.val; rw [d]; omega
  refine (out10_eq (aH m c) (aM m c) (aW m c) (aC m c) (aS m c) (aQ m c) (pb t) (pr t r) r _ _ _ _ _ _ (blk0 m c t r) (blk1 m c t r) (blk3 m c t r) (blk4 m c t r) (blk5 m c t) (blk6 m c t) (hr _ _) n).trans ?_
  rw [E]
  rfl

/-- The result’s array ends holding it. -/
theorem final10
    (hr : ∀ b p n, ∃ x : ℝ, proj (aH m c) (aM m c) (aW m c) b p n = x) : (dats m 0 c).arrAt 10 cfg0.N = res10 m c :=
  (dats m 0 c).arrAt_eq_of_cover 10 (res10 m c) (fun t _ => flushed10_eq m c hr t) fun i => by
    obtain ⟨t, h1, h2⟩ := point (i 0) ⟨(i 1).val / 256, by have : (i 1).val < 8448 := (i 1).isLt; omega⟩
    refine ⟨t, flush0_10 t, ?_⟩
    obtain ⟨a, b, d⟩ := idx10 t
    have e1 := congrArg Fin.val h1
    have e2 := congrArg Fin.val h2
    show i ∈ ((View.whole main_v30_3).slice (win0_10.rect t)).set
    rw [View.set_slice_whole, Rect.mem_set_unit]
    intro x
    have k0 : (i 0).val < 2 := (i 0).isLt
    have k1 : (i 1).val < 8448 := (i 1).isLt
    have k2 : (i 2).val < 256 := (i 2).isLt
    match x with
    | ⟨0, _⟩ =>
      show win0_10.index t 0 * 1 ≤ (i 0).val ∧ (i 0).val < win0_10.index t 0 * 1 + 1
      rw [a]
      dsimp only at e1 e2 ⊢
      omega
    | ⟨1, _⟩ =>
      show win0_10.index t 1 * 256 ≤ (i 1).val ∧ (i 1).val < win0_10.index t 1 * 256 + 256
      rw [b]
      dsimp only at e1 e2 ⊢
      omega
    | ⟨2, _⟩ =>
      show win0_10.index t 2 * 256 ≤ (i 2).val ∧ (i 2).val < win0_10.index t 2 * 256 + 256
      rw [d]
      dsimp only at e1 e2 ⊢
      omega

/-- Window 11’s block indices. -/
theorem idx11 : ∀ t : Fin cfg0.N, win0_11.index t 0 = (pb t).val ∧ win0_11.index t 1 = (pj t).val ∧ win0_11.index t 2 = 0 ∧ win0_11.index t 3 = 0 :=
  (by decide +kernel : ∀ t : Fin grid0.N, _)

/-- Result 4 of the call: the global group’s keys, a transposed tile at a time. -/
def res11 : Buf (Elt Ideal) ((c : Thread nD τ).loc main_v30_4) := fun i =>
  kb (aH m c) (aM m c) (aW m c) (aC m c) (aS m c) (aQ m c) (i 0) ⟨256 * (i 1).val + (i 3).val, by have : (i 1).val < 33 := (i 1).isLt; have : (i 3).val < 256 := (i 3).isLt; omega⟩ (i 2)

/-- What a grid point writes back is its block of the result. -/
theorem flushed11_eq
    (hr : ∀ b p n, ∃ x : ℝ, proj (aH m c) (aM m c) (aW m c) b p n = x) (t : Fin cfg0.N) :
    (dats m 0 c).flushed 11 t = ((cfg0.win 11).blk t).view.read (Elt Ideal) (res11 m c) := by
  rw [Cert.InIdeal.Value.flushed11]
  funext y
  rw [View.read_apply]
  show out0_11 _ _ _ _ _ _ _ y = res11 m c _
  rw [blk2]
  obtain ⟨r, n, rfl⟩ : ∃ (r : Fin 256) (n : Fin 128), y = (ix4 (0 : Fin 1) (0 : Fin 1) n r : S1x1x128x256.Idx) := ⟨y 3, y 2, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  obtain ⟨a, b, d, e⟩ := idx11 t
  have E : ((cfg0.win 11).blk t).view.emb (ix4 (0 : Fin 1) (0 : Fin 1) n r) = (ix4 (pb t) (pj t) n r : S2x33x128x256.Idx) := by
    funext x
    apply Fin.ext
    match x with
    | ⟨0, _⟩ => show win0_11.index t 0 * 1 + 1 * 0 = (pb t).val; rw [a]; omega
    | ⟨1, _⟩ => show win0_11.index t 1 * 1 + 1 * 0 = (pj t).val; rw [b]; omega
    | ⟨2, _⟩ => show win0_11.index t 2 * 128 + 1 * n.val = n.val; rw [d]; omega
    | ⟨3, _⟩ => show win0_11.index t 3 * 256 + 1 * r.val = r.val; rw [e]; omega
  refine (out11_eq (aH m c) (aM m c) (aW m c) (aC m c) (aS m c) (aQ m c) (pb t) (pr t r) r _ _ _ _ _ _ (blk0 m c t r) (blk1 m c t r) (blk3 m c t r) (blk4 m c t r) (blk5 m c t) (blk6 m c t) (hr _ _) n).trans ?_
  rw [E]
  rfl

/-- The result’s array ends holding it. -/
theorem final11
    (hr : ∀ b p n, ∃ x : ℝ, proj (aH m c) (aM m c) (aW m c) b p n = x) : (dats m 0 c).arrAt 11 cfg0.N = res11 m c :=
  (dats m 0 c).arrAt_eq_of_cover 11 (res11 m c) (fun t _ => flushed11_eq m c hr t) fun i => by
    obtain ⟨t, h1, h2⟩ := point (i 0) (i 1)
    refine ⟨t, flush0_11 t, ?_⟩
    obtain ⟨a, b, d, e⟩ := idx11 t
    have e1 := congrArg Fin.val h1
    have e2 := congrArg Fin.val h2
    show i ∈ ((View.whole main_v30_4).slice (win0_11.rect t)).set
    rw [View.set_slice_whole, Rect.mem_set_unit]
    intro x
    have k0 : (i 0).val < 2 := (i 0).isLt
    have k1 : (i 1).val < 33 := (i 1).isLt
    have k2 : (i 2).val < 128 := (i 2).isLt
    have k3 : (i 3).val < 256 := (i 3).isLt
    match x with
    | ⟨0, _⟩ =>
      show win0_11.index t 0 * 1 ≤ (i 0).val ∧ (i 0).val < win0_11.index t 0 * 1 + 1
      rw [a]
      dsimp only at e1 e2 ⊢
      omega
    | ⟨1, _⟩ =>
      show win0_11.index t 1 * 1 ≤ (i 1).val ∧ (i 1).val < win0_11.index t 1 * 1 + 1
      rw [b]
      dsimp only at e1 e2 ⊢
      omega
    | ⟨2, _⟩ =>
      show win0_11.index t 2 * 128 ≤ (i 2).val ∧ (i 2).val < win0_11.index t 2 * 128 + 128
      rw [d]
      dsimp only at e1 e2 ⊢
      omega
    | ⟨3, _⟩ =>
      show win0_11.index t 3 * 256 ≤ (i 3).val ∧ (i 3).val < win0_11.index t 3 * 256 + 256
      rw [e]
      dsimp only at e1 e2 ⊢
      omega

/-- Window 12’s block indices. -/
theorem idx12 : ∀ t : Fin cfg0.N, win0_12.index t 0 = (pb t).val ∧ win0_12.index t 1 = (pj t).val ∧ win0_12.index t 2 = 0 :=
  (by decide +kernel : ∀ t : Fin grid0.N, _)

/-- Result 5 of the call: the global group’s values. -/
def res12 : Buf (Elt Ideal) ((c : Thread nD τ).loc main_v30_5) := fun i =>
  proj (aH m c) (aM m c) (aW m c) (i 0) (i 1) ⟨896 + (i 2).val, by have : (i 2).val < 128 := (i 2).isLt; omega⟩

/-- What a grid point writes back is its block of the result. -/
theorem flushed12_eq (t : Fin cfg0.N) :
    (dats m 0 c).flushed 12 t = ((cfg0.win 12).blk t).view.read (Elt Ideal) (res12 m c) := by
  rw [Cert.InIdeal.Value.flushed12]
  funext y
  rw [View.read_apply]
  show out0_12 _ _ _ _ _ _ _ y = res12 m c _
  rw [blk2]
  obtain ⟨r, n, rfl⟩ : ∃ (r : Fin 256) (n : Fin 128), y = (ix3 (0 : Fin 1) r n : S1x256x128.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx12 t
  have E : ((cfg0.win 12).blk t).view.emb (ix3 (0 : Fin 1) r n) = (ix3 (pb t) (pr t r) n : S2x8448x128.Idx) := by
    funext x
    apply Fin.ext
    match x with
    | ⟨0, _⟩ => show win0_12.index t 0 * 1 + 1 * 0 = (pb t).val; rw [a]; omega
    | ⟨1, _⟩ => show win0_12.index t 1 * 256 + 1 * r.val = 256 * (pj t).val + r.val; rw [b]; omega
    | ⟨2, _⟩ => show win0_12.index t 2 * 128 + 1 * n.val = n.val; rw [d]; omega
  refine (out12_eq (aH m c) (aM m c) (aW m c) (pb t) (pr t r) r _ _ _ _ _ _ (blk0 m c t r) (blk1 m c t r) n).trans ?_
  rw [E]
  rfl

/-- The result’s array ends holding it. -/
theorem final12 : (dats m 0 c).arrAt 12 cfg0.N = res12 m c :=
  (dats m 0 c).arrAt_eq_of_cover 12 (res12 m c) (fun t _ => flushed12_eq m c t) fun i => by
    obtain ⟨t, h1, h2⟩ := point (i 0) ⟨(i 1).val / 256, by have : (i 1).val < 8448 := (i 1).isLt; omega⟩
    refine ⟨t, flush0_12 t, ?_⟩
    obtain ⟨a, b, d⟩ := idx12 t
    have e1 := congrArg Fin.val h1
    have e2 := congrArg Fin.val h2
    show i ∈ ((View.whole main_v30_5).slice (win0_12.rect t)).set
    rw [View.set_slice_whole, Rect.mem_set_unit]
    intro x
    have k0 : (i 0).val < 2 := (i 0).isLt
    have k1 : (i 1).val < 8448 := (i 1).isLt
    have k2 : (i 2).val < 128 := (i 2).isLt
    match x with
    | ⟨0, _⟩ =>
      show win0_12.index t 0 * 1 ≤ (i 0).val ∧ (i 0).val < win0_12.index t 0 * 1 + 1
      rw [a]
      dsimp only at e1 e2 ⊢
      omega
    | ⟨1, _⟩ =>
      show win0_12.index t 1 * 256 ≤ (i 1).val ∧ (i 1).val < win0_12.index t 1 * 256 + 256
      rw [b]
      dsimp only at e1 e2 ⊢
      omega
    | ⟨2, _⟩ =>
      show win0_12.index t 2 * 128 ≤ (i 2).val ∧ (i 2).val < win0_12.index t 2 * 128 + 128
      rw [d]
      dsimp only at e1 e2 ⊢
      omega

/-- Window 13’s block indices. -/
theorem idx13 : ∀ t : Fin cfg0.N, win0_13.index t 0 = (pb t).val ∧ win0_13.index t 1 = (pj t).val ∧ win0_13.index t 2 = 0 :=
  (by decide +kernel : ∀ t : Fin grid0.N, _)

/-- Result 6 of the call: the third group’s columns. -/
def res13 : Buf (Elt Ideal) ((c : Thread nD τ).loc main_v30_6) := fun i =>
  proj (aH m c) (aM m c) (aW m c) (i 0) (i 1) ⟨1024 + (i 2).val, by have : (i 2).val < 1280 := (i 2).isLt; omega⟩

/-- What a grid point writes back is its block of the result. -/
theorem flushed13_eq (t : Fin cfg0.N) :
    (dats m 0 c).flushed 13 t = ((cfg0.win 13).blk t).view.read (Elt Ideal) (res13 m c) := by
  rw [Cert.InIdeal.Value.flushed13]
  funext y
  rw [View.read_apply]
  show out0_13 _ _ _ _ _ _ _ y = res13 m c _
  rw [blk2]
  obtain ⟨r, n, rfl⟩ : ∃ (r : Fin 256) (n : Fin 1280), y = (ix3 (0 : Fin 1) r n : S1x256x1280.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx13 t
  have E : ((cfg0.win 13).blk t).view.emb (ix3 (0 : Fin 1) r n) = (ix3 (pb t) (pr t r) n : S2x8448x1280.Idx) := by
    funext x
    apply Fin.ext
    match x with
    | ⟨0, _⟩ => show win0_13.index t 0 * 1 + 1 * 0 = (pb t).val; rw [a]; omega
    | ⟨1, _⟩ => show win0_13.index t 1 * 256 + 1 * r.val = 256 * (pj t).val + r.val; rw [b]; omega
    | ⟨2, _⟩ => show win0_13.index t 2 * 1280 + 1 * n.val = n.val; rw [d]; omega
  refine (out13_eq (aH m c) (aM m c) (aW m c) (pb t) (pr t r) r _ _ _ _ _ _ (blk0 m c t r) (blk1 m c t r) n).trans ?_
  rw [E]
  rfl

/-- The result’s array ends holding it. -/
theorem final13 : (dats m 0 c).arrAt 13 cfg0.N = res13 m c :=
  (dats m 0 c).arrAt_eq_of_cover 13 (res13 m c) (fun t _ => flushed13_eq m c t) fun i => by
    obtain ⟨t, h1, h2⟩ := point (i 0) ⟨(i 1).val / 256, by have : (i 1).val < 8448 := (i 1).isLt; omega⟩
    refine ⟨t, flush0_13 t, ?_⟩
    obtain ⟨a, b, d⟩ := idx13 t
    have e1 := congrArg Fin.val h1
    have e2 := congrArg Fin.val h2
    show i ∈ ((View.whole main_v30_6).slice (win0_13.rect t)).set
    rw [View.set_slice_whole, Rect.mem_set_unit]
    intro x
    have k0 : (i 0).val < 2 := (i 0).isLt
    have k1 : (i 1).val < 8448 := (i 1).isLt
    have k2 : (i 2).val < 1280 := (i 2).isLt
    match x with
    | ⟨0, _⟩ =>
      show win0_13.index t 0 * 1 ≤ (i 0).val ∧ (i 0).val < win0_13.index t 0 * 1 + 1
      rw [a]
      dsimp only at e1 e2 ⊢
      omega
    | ⟨1, _⟩ =>
      show win0_13.index t 1 * 256 ≤ (i 1).val ∧ (i 1).val < win0_13.index t 1 * 256 + 256
      rw [b]
      dsimp only at e1 e2 ⊢
      omega
    | ⟨2, _⟩ =>
      show win0_13.index t 2 * 1280 ≤ (i 2).val ∧ (i 2).val < win0_13.index t 2 * 1280 + 1280
      rw [d]
      dsimp only at e1 e2 ⊢
      omega

/-- Window 14’s block indices. -/
theorem idx14 : ∀ t : Fin cfg0.N, win0_14.index t 0 = (pb t).val ∧ win0_14.index t 1 = (pj t).val ∧ win0_14.index t 2 = 0 :=
  (by decide +kernel : ∀ t : Fin grid0.N, _)

/-- Result 7 of the call: the last group’s queries. -/
def res14 : Buf (Elt Ideal) ((c : Thread nD τ).loc main_v30_7) := fun i =>
  proj (aH m c) (aM m c) (aW m c) (i 0) (i 1) ⟨2304 + (i 2).val, by have : (i 2).val < 256 := (i 2).isLt; omega⟩ * scale

/-- What a grid point writes back is its block of the result. -/
theorem flushed14_eq (t : Fin cfg0.N) :
    (dats m 0 c).flushed 14 t = ((cfg0.win 14).blk t).view.read (Elt Ideal) (res14 m c) := by
  rw [Cert.InIdeal.Value.flushed14]
  funext y
  rw [View.read_apply]
  show out0_14 _ _ _ _ _ _ _ y = res14 m c _
  rw [blk2]
  obtain ⟨r, n, rfl⟩ : ∃ (r : Fin 256) (n : Fin 256), y = (ix3 (0 : Fin 1) r n : S1x256x256.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx14 t
  have E : ((cfg0.win 14).blk t).view.emb (ix3 (0 : Fin 1) r n) = (ix3 (pb t) (pr t r) n : S2x8448x256.Idx) := by
    funext x
    apply Fin.ext
    match x with
    | ⟨0, _⟩ => show win0_14.index t 0 * 1 + 1 * 0 = (pb t).val; rw [a]; omega
    | ⟨1, _⟩ => show win0_14.index t 1 * 256 + 1 * r.val = 256 * (pj t).val + r.val; rw [b]; omega
    | ⟨2, _⟩ => show win0_14.index t 2 * 256 + 1 * n.val = n.val; rw [d]; omega
  refine (out14_eq (aH m c) (aM m c) (aW m c) (pb t) (pr t r) r _ _ _ _ _ _ (blk0 m c t r) (blk1 m c t r) n).trans ?_
  rw [E]
  rfl

/-- The result’s array ends holding it. -/
theorem final14 : (dats m 0 c).arrAt 14 cfg0.N = res14 m c :=
  (dats m 0 c).arrAt_eq_of_cover 14 (res14 m c) (fun t _ => flushed14_eq m c t) fun i => by
    obtain ⟨t, h1, h2⟩ := point (i 0) ⟨(i 1).val / 256, by have : (i 1).val < 8448 := (i 1).isLt; omega⟩
    refine ⟨t, flush0_14 t, ?_⟩
    obtain ⟨a, b, d⟩ := idx14 t
    have e1 := congrArg Fin.val h1
    have e2 := congrArg Fin.val h2
    show i ∈ ((View.whole main_v30_7).slice (win0_14.rect t)).set
    rw [View.set_slice_whole, Rect.mem_set_unit]
    intro x
    have k0 : (i 0).val < 2 := (i 0).isLt
    have k1 : (i 1).val < 8448 := (i 1).isLt
    have k2 : (i 2).val < 256 := (i 2).isLt
    match x with
    | ⟨0, _⟩ =>
      show win0_14.index t 0 * 1 ≤ (i 0).val ∧ (i 0).val < win0_14.index t 0 * 1 + 1
      rw [a]
      dsimp only at e1 e2 ⊢
      omega
    | ⟨1, _⟩ =>
      show win0_14.index t 1 * 256 ≤ (i 1).val ∧ (i 1).val < win0_14.index t 1 * 256 + 256
      rw [b]
      dsimp only at e1 e2 ⊢
      omega
    | ⟨2, _⟩ =>
      show win0_14.index t 2 * 256 ≤ (i 2).val ∧ (i 2).val < win0_14.index t 2 * 256 + 256
      rw [d]
      dsimp only at e1 e2 ⊢
      omega

/-- Window 15’s block indices. -/
theorem idx15 : ∀ t : Fin cfg0.N, win0_15.index t 0 = (pb t).val ∧ win0_15.index t 1 = (pj t).val ∧ win0_15.index t 2 = 0 :=
  (by decide +kernel : ∀ t : Fin grid0.N, _)

/-- Result 8 of the call: the last group’s keys. -/
def res15 : Buf (Elt Ideal) ((c : Thread nD τ).loc main_v30_8) := fun i =>
  proj (aH m c) (aM m c) (aW m c) (i 0) (i 1) ⟨2560 + (i 2).val, by have : (i 2).val < 256 := (i 2).isLt; omega⟩

/-- What a grid point writes back is its block of the result. -/
theorem flushed15_eq (t : Fin cfg0.N) :
    (dats m 0 c).flushed 15 t = ((cfg0.win 15).blk t).view.read (Elt Ideal) (res15 m c) := by
  rw [Cert.InIdeal.Value.flushed15]
  funext y
  rw [View.read_apply]
  show out0_15 _ _ _ _ _ _ _ y = res15 m c _
  rw [blk2]
  obtain ⟨r, n, rfl⟩ : ∃ (r : Fin 256) (n : Fin 256), y = (ix3 (0 : Fin 1) r n : S1x256x256.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx15 t
  have E : ((cfg0.win 15).blk t).view.emb (ix3 (0 : Fin 1) r n) = (ix3 (pb t) (pr t r) n : S2x8448x256.Idx) := by
    funext x
    apply Fin.ext
    match x with
    | ⟨0, _⟩ => show win0_15.index t 0 * 1 + 1 * 0 = (pb t).val; rw [a]; omega
    | ⟨1, _⟩ => show win0_15.index t 1 * 256 + 1 * r.val = 256 * (pj t).val + r.val; rw [b]; omega
    | ⟨2, _⟩ => show win0_15.index t 2 * 256 + 1 * n.val = n.val; rw [d]; omega
  refine (out15_eq (aH m c) (aM m c) (aW m c) (pb t) (pr t r) r _ _ _ _ _ _ (blk0 m c t r) (blk1 m c t r) n).trans ?_
  rw [E]
  rfl

/-- The result’s array ends holding it. -/
theorem final15 : (dats m 0 c).arrAt 15 cfg0.N = res15 m c :=
  (dats m 0 c).arrAt_eq_of_cover 15 (res15 m c) (fun t _ => flushed15_eq m c t) fun i => by
    obtain ⟨t, h1, h2⟩ := point (i 0) ⟨(i 1).val / 256, by have : (i 1).val < 8448 := (i 1).isLt; omega⟩
    refine ⟨t, flush0_15 t, ?_⟩
    obtain ⟨a, b, d⟩ := idx15 t
    have e1 := congrArg Fin.val h1
    have e2 := congrArg Fin.val h2
    show i ∈ ((View.whole main_v30_8).slice (win0_15.rect t)).set
    rw [View.set_slice_whole, Rect.mem_set_unit]
    intro x
    have k0 : (i 0).val < 2 := (i 0).isLt
    have k1 : (i 1).val < 8448 := (i 1).isLt
    have k2 : (i 2).val < 256 := (i 2).isLt
    match x with
    | ⟨0, _⟩ =>
      show win0_15.index t 0 * 1 ≤ (i 0).val ∧ (i 0).val < win0_15.index t 0 * 1 + 1
      rw [a]
      dsimp only at e1 e2 ⊢
      omega
    | ⟨1, _⟩ =>
      show win0_15.index t 1 * 256 ≤ (i 1).val ∧ (i 1).val < win0_15.index t 1 * 256 + 256
      rw [b]
      dsimp only at e1 e2 ⊢
      omega
    | ⟨2, _⟩ =>
      show win0_15.index t 2 * 256 ≤ (i 2).val ∧ (i 2).val < win0_15.index t 2 * 256 + 256
      rw [d]
      dsimp only at e1 e2 ⊢
      omega

/-- Window 16’s block indices. -/
theorem idx16 : ∀ t : Fin cfg0.N, win0_16.index t 0 = (pb t).val ∧ win0_16.index t 1 = (pj t).val ∧ win0_16.index t 2 = 0 :=
  (by decide +kernel : ∀ t : Fin grid0.N, _)

/-- Result 9 of the call: the last group’s values. -/
def res16 : Buf (Elt Ideal) ((c : Thread nD τ).loc main_v30_9) := fun i =>
  proj (aH m c) (aM m c) (aW m c) (i 0) (i 1) ⟨2816 + (i 2).val, by have : (i 2).val < 256 := (i 2).isLt; omega⟩

/-- What a grid point writes back is its block of the result. -/
theorem flushed16_eq (t : Fin cfg0.N) :
    (dats m 0 c).flushed 16 t = ((cfg0.win 16).blk t).view.read (Elt Ideal) (res16 m c) := by
  rw [Cert.InIdeal.Value.flushed16]
  funext y
  rw [View.read_apply]
  show out0_16 _ _ _ _ _ _ _ y = res16 m c _
  rw [blk2]
  obtain ⟨r, n, rfl⟩ : ∃ (r : Fin 256) (n : Fin 256), y = (ix3 (0 : Fin 1) r n : S1x256x256.Idx) := ⟨y 1, y 2, by
    funext a
    match a with
    | ⟨0, _⟩ => exact Subsingleton.elim (α := Fin 1) _ _
    | ⟨1, _⟩ => rfl
    | ⟨2, _⟩ => rfl⟩
  obtain ⟨a, b, d⟩ := idx16 t
  have E : ((cfg0.win 16).blk t).view.emb (ix3 (0 : Fin 1) r n) = (ix3 (pb t) (pr t r) n : S2x8448x256.Idx) := by
    funext x
    apply Fin.ext
    match x with
    | ⟨0, _⟩ => show win0_16.index t 0 * 1 + 1 * 0 = (pb t).val; rw [a]; omega
    | ⟨1, _⟩ => show win0_16.index t 1 * 256 + 1 * r.val = 256 * (pj t).val + r.val; rw [b]; omega
    | ⟨2, _⟩ => show win0_16.index t 2 * 256 + 1 * n.val = n.val; rw [d]; omega
  refine (out16_eq (aH m c) (aM m c) (aW m c) (pb t) (pr t r) r _ _ _ _ _ _ (blk0 m c t r) (blk1 m c t r) n).trans ?_
  rw [E]
  rfl

/-- The result’s array ends holding it. -/
theorem final16 : (dats m 0 c).arrAt 16 cfg0.N = res16 m c :=
  (dats m 0 c).arrAt_eq_of_cover 16 (res16 m c) (fun t _ => flushed16_eq m c t) fun i => by
    obtain ⟨t, h1, h2⟩ := point (i 0) ⟨(i 1).val / 256, by have : (i 1).val < 8448 := (i 1).isLt; omega⟩
    refine ⟨t, flush0_16 t, ?_⟩
    obtain ⟨a, b, d⟩ := idx16 t
    have e1 := congrArg Fin.val h1
    have e2 := congrArg Fin.val h2
    show i ∈ ((View.whole main_v30_9).slice (win0_16.rect t)).set
    rw [View.set_slice_whole, Rect.mem_set_unit]
    intro x
    have k0 : (i 0).val < 2 := (i 0).isLt
    have k1 : (i 1).val < 8448 := (i 1).isLt
    have k2 : (i 2).val < 256 := (i 2).isLt
    match x with
    | ⟨0, _⟩ =>
      show win0_16.index t 0 * 1 ≤ (i 0).val ∧ (i 0).val < win0_16.index t 0 * 1 + 1
      rw [a]
      dsimp only at e1 e2 ⊢
      omega
    | ⟨1, _⟩ =>
      show win0_16.index t 1 * 256 ≤ (i 1).val ∧ (i 1).val < win0_16.index t 1 * 256 + 256
      rw [b]
      dsimp only at e1 e2 ⊢
      omega
    | ⟨2, _⟩ =>
      show win0_16.index t 2 * 256 ≤ (i 2).val ∧ (i 2).val < win0_16.index t 2 * 256 + 256
      rw [d]
      dsimp only at e1 e2 ⊢
      omega

end Cert.InBlock

end
-- ==== Proof.InRef.lean ====
module

public import proofs.«01_k».proof.Proof.Gen.InRefIdeal.Read
public import proofs.«01_k».proof.Proof.InSpec
public import Idealize.ShloMosaic.Lib.Pointwise
public import Idealize.ShloMosaic.Lib.IdealHost

@[expose] public section

set_option backward.proofsInPublic true

noncomputable section

namespace Cert.InRef

open Cert.InRefIdeal Cert.InRefIdeal.Gen Cert.InRefIdeal.Read Idealize.ShloMosaic Cert.InSpec

variable (h : Arr ⟨3, ![2, 8448, 1024]⟩) (md : Arr ⟨4, ![2, 2, 8, 1024]⟩) (w : Arr ⟨2, ![1024, 3072]⟩)
  (cs sn : Arr ⟨3, ![8192, 2, 16]⟩) (qk : Arr ⟨2, ![2, 64]⟩)

/-- The comparison of a token's number with the number of latent tokens chooses by the token's kind. -/
theorem latent_select (p : Fin 8448) (x y : EReal) :
    Scalar.select (IntOp.cmpi .slt (BitVec.ofNat 32 p.val) 8192#32) x y = if p.val < 8192 then x else y := by
  have e : IntOp.cmpi .slt (BitVec.ofNat 32 p.val) 8192#32 = if p.val < 8192 then 1#1 else 0#1 := by
    have hs : BitVec.slt (BitVec.ofNat 32 p.val) 8192#32 = decide (p.val < 8192) := by
      rw [Bool.eq_iff_iff, decide_eq_true_eq, BitVec.slt_iff_toInt_lt, BitVec.toInt_eq_toNat_cond, BitVec.toInt_eq_toNat_cond,
        BitVec.toNat_ofNat]
      have := p.isLt
      simp only [BitVec.toNat_ofNat]
      split <;> omega
    show BitVec.ofBool (BitVec.slt (BitVec.ofNat 32 p.val) 8192#32) = _
    rw [hs]
    by_cases hp : p.val < 8192
    · rw [if_pos hp, decide_eq_true hp]; rfl
    · rw [if_neg hp, decide_eq_false hp]; rfl
  rw [e]
  by_cases hp : p.val < 8192
  · rw [if_pos hp, if_pos hp]; rfl
  · rw [if_neg hp, if_neg hp]; rfl

/-- The modulation the reference gives each token. -/
theorem v10_apply (b : Fin 2) (p : Fin 8448) (q : Fin 8) (k : Fin 1024) :
    val_main_v10 (F := Ideal) md (ix4 b p q k) = md (ix4 b (seg p) q k) := by
  pointwise [val_main_v0, val_main_v1, val_main_c, val_main_v2, val_main_v3, val_main_v4, val_main_v5, val_main_v6, val_main_v7, val_main_v8, val_main_v9, val_main_call0_v0, val_main_call0_v1, val_main_call0_v2, val_main_v10]
  refine (latent_select p _ _).trans ?_
  unfold seg
  by_cases hp : p.val < 8192
  · rw [if_pos hp, if_pos hp]
  · rw [if_neg hp, if_neg hp]

/-- The modulation’s scale at each token. -/
theorem v12_apply (b : Fin 2) (p : Fin 8448) (k : Fin 1024) :
    val_main_v12 (F := Ideal) md (ix3 b p k) = md (ix4 b (seg p) 1 k) := by
  pointwise [val_main_v11, val_main_v12]
  exact v10_apply md b p 1 k

/-- The modulation’s shift at each token. -/
theorem v17_apply (b : Fin 2) (p : Fin 8448) (k : Fin 1024) :
    val_main_v17 (F := Ideal) md (ix3 b p k) = md (ix4 b (seg p) 0 k) := by
  pointwise [val_main_v16, val_main_v17]
  exact v10_apply md b p 0 k

/-- The reference’s modulated tokens. -/
theorem v18_apply (b : Fin 2) (p : Fin 8448) (k : Fin 1024) :
    val_main_v18 (F := Ideal) h md (ix3 b p k) = hm h md b p k := by
  rw [val_main_v18_apply, val_main_v15_apply, val_main_v14_apply, val_main_v13_apply, val_main_cst_apply, v12_apply, v17_apply]
  show h (ix3 b p k) * (Ideal.ofBits .f32 0x3F800000#32 + md (ix4 b (seg p) 1 k)) + md (ix4 b (seg p) 0 k) = _
  rw [Ideal.ofBits_one_f32]
  unfold hm
  rfl

/-- The reference’s projection. -/
theorem v20_apply (b : Fin 2) (p : Fin 8448) (c : Fin 3072) :
    val_main_v20 (F := Ideal) h md w (ix3 b p c) = proj h md w b p c := by
  pointwise [val_main_v19, val_main_v20]
  simp only [v18_apply]
  unfold proj
  rfl

/-- The reference’s raw query heads of the global group. -/
theorem v22_apply (b : Fin 2) (p : Fin 8448) (n : Fin 4) (d : Fin 64) :
    val_main_v22 (F := Ideal) h md w (ix4 b p n d) = head h md w b p ⟨512 + 64 * n.val, by omega⟩ d := by
  pointwise [val_main_v21, val_main_v22]
  rw [v20_apply]
  unfold head
  congr 1
  exact Fin.ext (by dsimp only; omega)

/-- The reference’s raw key heads of the global group. -/
theorem v39_apply (b : Fin 2) (p : Fin 8448) (n : Fin 2) (d : Fin 64) :
    val_main_v39 (F := Ideal) h md w (ix4 b p n d) = head h md w b p ⟨768 + 64 * n.val, by omega⟩ d := by
  pointwise [val_main_v38, val_main_v39]
  rw [v20_apply]
  unfold head
  congr 1
  exact Fin.ext (by dsimp only; omega)

/-- The reference’s heads of the window group. -/
theorem v56_apply (b : Fin 2) (p : Fin 8448) (n : Fin 6) (d : Fin 64) :
    val_main_v56 (F := Ideal) h md w (ix4 b p n d) = head h md w b p ⟨64 * n.val, by omega⟩ d := by
  pointwise [val_main_v55, val_main_v56]
  rw [v20_apply]
  unfold head
  congr 1
  exact Fin.ext (by dsimp only; omega)

/-- The reference’s normed query heads. -/
theorem v37_apply (b : Fin 2) (p : Fin 8448) (n : Fin 4) (d : Fin 64) :
    val_main_v37 (F := Ideal) h md w qk (ix4 b p n d) = nrm qk 0 (head h md w b p ⟨512 + 64 * n.val, by omega⟩) d := by
  pointwise [val_main_v23, val_main_v24, val_main_v25, val_main_cst_0, val_main_v26, val_main_v27, val_main_cst_1, val_main_v28, val_main_v29, val_main_cst_2, val_main_v30, val_main_v31, val_main_v32, val_main_v33, val_main_v34, val_main_v35, val_main_v36, val_main_v37]
  simp only [v22_apply]
  rfl

/-- The reference’s normed key heads. -/
theorem v54_apply (b : Fin 2) (p : Fin 8448) (n : Fin 2) (d : Fin 64) :
    val_main_v54 (F := Ideal) h md w qk (ix4 b p n d) = nrm qk 1 (head h md w b p ⟨768 + 64 * n.val, by omega⟩) d := by
  pointwise [val_main_v40, val_main_v41, val_main_v42, val_main_cst_3, val_main_v43, val_main_v44, val_main_cst_4, val_main_v45, val_main_v46, val_main_cst_5, val_main_v47, val_main_v48, val_main_v49, val_main_v50, val_main_v51, val_main_v52, val_main_v53, val_main_v54]
  simp only [v39_apply]
  rfl

/-- The twelve heads that are rotated: the window group’s six as projected, the global group’s queries and keys normed. -/
def heads (b : Fin 2) (p : Fin 8448) (n : Fin 12) : Fin 64 → EReal :=
  if h1 : n.val < 6 then head h md w b p ⟨64 * n.val, by omega⟩
  else if h2 : n.val < 10 then nrm qk 0 (head h md w b p ⟨512 + 64 * (n.val - 6), by omega⟩)
  else nrm qk 1 (head h md w b p ⟨768 + 64 * (n.val - 10), by omega⟩)

/-- The reference’s twelve heads before they are rotated. -/
theorem v57_apply (b : Fin 2) (p : Fin 8448) (n : Fin 12) (d : Fin 64) :
    val_main_v57 (F := Ideal) h md w qk (ix4 b p n d) = heads h md w qk b p n d := by
  pointwise [val_main_v57]
  unfold heads
  by_cases h1 : n.val < 6
  · rw [dif_pos h1, dif_pos h1]
    exact v56_apply h md w b p _ d
  · rw [dif_neg h1, dif_neg h1]
    by_cases h2 : n.val < 10
    · rw [dif_pos (show n.val - 6 < 4 by omega), dif_pos h2]
      exact v37_apply h md w qk b p _ d
    · rw [dif_neg (show ¬ n.val - 6 < 4 by omega), dif_neg h2]
      refine (v54_apply h md w qk b p _ d).trans ?_
      congr 3

/-- The first half of a pair to rotate. -/
theorem v61_apply (b : Fin 2) (p : Fin 8192) (n : Fin 24) (e : Fin 16) :
    val_main_v61 (F := Ideal) h md w qk (ix4 b p n e)
      = val_main_v57 (F := Ideal) h md w qk (ix4 b ⟨p.val, by omega⟩ ⟨n.val / 2, by omega⟩ ⟨n.val % 2 * 32 + e.val, by omega⟩) := by
  have e1 : idx_main_v61 (ix4 b p n e) = ix5 b p n (0 : Fin 1) e := by
    funext a
    apply Fin.ext
    match a with
    | ⟨0, _⟩ => show (((b.val * 8192 + p.val) * 24 + n.val) * 16 + e.val) / 3145728 = b.val; omega
    | ⟨1, _⟩ => show (((b.val * 8192 + p.val) * 24 + n.val) * 16 + e.val) / 384 % 8192 = p.val; omega
    | ⟨2, _⟩ => show (((b.val * 8192 + p.val) * 24 + n.val) * 16 + e.val) / 16 % 24 = n.val; omega
    | ⟨3, _⟩ => rfl
    | ⟨4, _⟩ => show (((b.val * 8192 + p.val) * 24 + n.val) * 16 + e.val) % 16 = e.val; omega
  have e2 : idx_main_v60 (ix5 b p n (0 : Fin 1) e) = ix5 b p n (0 : Fin 2) e := by
    funext a
    match a with
    | ⟨0, _⟩ => rfl
    | ⟨1, _⟩ => rfl
    | ⟨2, _⟩ => rfl
    | ⟨3, _⟩ => rfl
    | ⟨4, _⟩ => rfl
  have e3 : idx_main_v59 (ix5 b p n (0 : Fin 2) e) = ix4 b p ⟨n.val / 2, by omega⟩ ⟨n.val % 2 * 32 + e.val, by omega⟩ := by
    funext a
    apply Fin.ext
    match a with
    | ⟨0, _⟩ => show ((((b.val * 8192 + p.val) * 24 + n.val) * 2 + 0) * 16 + e.val) / 6291456 = b.val; omega
    | ⟨1, _⟩ => show ((((b.val * 8192 + p.val) * 24 + n.val) * 2 + 0) * 16 + e.val) / 768 % 8192 = p.val; omega
    | ⟨2, _⟩ => show ((((b.val * 8192 + p.val) * 24 + n.val) * 2 + 0) * 16 + e.val) / 64 % 12 = n.val / 2; omega
    | ⟨3, _⟩ => show ((((b.val * 8192 + p.val) * 24 + n.val) * 2 + 0) * 16 + e.val) % 64 = n.val % 2 * 32 + e.val; omega
  have e4 : idx_main_v58 (ix4 b p ⟨n.val / 2, by omega⟩ ⟨n.val % 2 * 32 + e.val, by omega⟩)
      = ix4 b ⟨p.val, by omega⟩ ⟨n.val / 2, by omega⟩ ⟨n.val % 2 * 32 + e.val, by omega⟩ := by
    funext a
    match a with
    | ⟨0, _⟩ => rfl
    | ⟨1, _⟩ => rfl
    | ⟨2, _⟩ => rfl
    | ⟨3, _⟩ => rfl
  rw [val_main_v61_apply, e1, val_main_v60_apply, e2, val_main_v59_apply, e3, val_main_v58_apply, e4]

/-- The second half of a pair to rotate. -/
theorem v63_apply (b : Fin 2) (p : Fin 8192) (n : Fin 24) (e : Fin 16) :
    val_main_v63 (F := Ideal) h md w qk (ix4 b p n e)
      = val_main_v57 (F := Ideal) h md w qk (ix4 b ⟨p.val, by omega⟩ ⟨n.val / 2, by omega⟩ ⟨n.val % 2 * 32 + 16 + e.val, by omega⟩) := by
  have e1 : idx_main_v63 (ix4 b p n e) = ix5 b p n (0 : Fin 1) e := by
    funext a
    apply Fin.ext
    match a with
    | ⟨0, _⟩ => show (((b.val * 8192 + p.val) * 24 + n.val) * 16 + e.val) / 3145728 = b.val; omega
    | ⟨1, _⟩ => show (((b.val * 8192 + p.val) * 24 + n.val) * 16 + e.val) / 384 % 8192 = p.val; omega
    | ⟨2, _⟩ => show (((b.val * 8192 + p.val) * 24 + n.val) * 16 + e.val) / 16 % 24 = n.val; omega
    | ⟨3, _⟩ => rfl
    | ⟨4, _⟩ => show (((b.val * 8192 + p.val) * 24 + n.val) * 16 + e.val) % 16 = e.val; omega
  have e2 : idx_main_v62 (ix5 b p n (0 : Fin 1) e) = ix5 b p n (1 : Fin 2) e := by
    funext a
    match a with
    | ⟨0, _⟩ => rfl
    | ⟨1, _⟩ => rfl
    | ⟨2, _⟩ => rfl
    | ⟨3, _⟩ => rfl
    | ⟨4, _⟩ => rfl
  have e3 : idx_main_v59 (ix5 b p n (1 : Fin 2) e) = ix4 b p ⟨n.val / 2, by omega⟩ ⟨n.val % 2 * 32 + 16 + e.val, by omega⟩ := by
    funext a
    apply Fin.ext
    match a with
    | ⟨0, _⟩ => show ((((b.val * 8192 + p.val) * 24 + n.val) * 2 + 1) * 16 + e.val) / 6291456 = b.val; omega
    | ⟨1, _⟩ => show ((((b.val * 8192 + p.val) * 24 + n.val) * 2 + 1) * 16 + e.val) / 768 % 8192 = p.val; omega
    | ⟨2, _⟩ => show ((((b.val * 8192 + p.val) * 24 + n.val) * 2 + 1) * 16 + e.val) / 64 % 12 = n.val / 2; omega
    | ⟨3, _⟩ => show ((((b.val * 8192 + p.val) * 24 + n.val) * 2 + 1) * 16 + e.val) % 64 = n.val % 2 * 32 + 16 + e.val; omega
  have e4 : idx_main_v58 (ix4 b p ⟨n.val / 2, by omega⟩ ⟨n.val % 2 * 32 + 16 + e.val, by omega⟩)
      = ix4 b ⟨p.val, by omega⟩ ⟨n.val / 2, by omega⟩ ⟨n.val % 2 * 32 + 16 + e.val, by omega⟩ := by
    funext a
    match a with
    | ⟨0, _⟩ => rfl
    | ⟨1, _⟩ => rfl
    | ⟨2, _⟩ => rfl
    | ⟨3, _⟩ => rfl
  rw [val_main_v63_apply, e1, val_main_v62_apply, e2, val_main_v59_apply, e3, val_main_v58_apply, e4]

/-- The cosines of each pair. -/
theorem v66_apply (p : Fin 8192) (n : Fin 24) (e : Fin 16) :
    val_main_v66 (F := Ideal) cs (ix3 p n e) = cs (ix3 p ⟨n.val % 2, by omega⟩ e) := by
  pointwise [val_main_v64, val_main_v65, val_main_v66]

/-- The sines of each pair. -/
theorem v69_apply (p : Fin 8192) (n : Fin 24) (e : Fin 16) :
    val_main_v69 (F := Ideal) sn (ix3 p n e) = sn (ix3 p ⟨n.val % 2, by omega⟩ e) := by
  pointwise [val_main_v67, val_main_v68, val_main_v69]

/-- The first half of each rotated pair. -/
theorem v76_apply (b : Fin 2) (p : Fin 8192) (n : Fin 24) (e : Fin 16) :
    val_main_v76 (F := Ideal) h md w cs sn qk (ix4 b p n e)
      = val_main_v61 (F := Ideal) h md w qk (ix4 b p n e) * val_main_v66 (F := Ideal) cs (ix3 p n e)
        - val_main_v63 (F := Ideal) h md w qk (ix4 b p n e) * val_main_v69 (F := Ideal) sn (ix3 p n e) := by
  have e1 : idx_main_v70 (idx_main_v71 (ix4 b p n e)) = ix3 p n e := by
    funext a
    match a with
    | ⟨0, _⟩ => rfl
    | ⟨1, _⟩ => rfl
    | ⟨2, _⟩ => rfl
  have e2 : idx_main_v73 (idx_main_v74 (ix4 b p n e)) = ix3 p n e := by
    funext a
    match a with
    | ⟨0, _⟩ => rfl
    | ⟨1, _⟩ => rfl
    | ⟨2, _⟩ => rfl
  rw [val_main_v76_apply, val_main_v72_apply, val_main_v75_apply, val_main_v71_apply, val_main_v70_apply, val_main_v74_apply, val_main_v73_apply, e1, e2]
  exact rfl

/-- The second half of each rotated pair. -/
theorem v83_apply (b : Fin 2) (p : Fin 8192) (n : Fin 24) (e : Fin 16) :
    val_main_v83 (F := Ideal) h md w cs sn qk (ix4 b p n e)
      = val_main_v63 (F := Ideal) h md w qk (ix4 b p n e) * val_main_v66 (F := Ideal) cs (ix3 p n e)
        + val_main_v61 (F := Ideal) h md w qk (ix4 b p n e) * val_main_v69 (F := Ideal) sn (ix3 p n e) := by
  have e1 : idx_main_v77 (idx_main_v78 (ix4 b p n e)) = ix3 p n e := by
    funext a
    match a with
    | ⟨0, _⟩ => rfl
    | ⟨1, _⟩ => rfl
    | ⟨2, _⟩ => rfl
  have e2 : idx_main_v80 (idx_main_v81 (ix4 b p n e)) = ix3 p n e := by
    funext a
    match a with
    | ⟨0, _⟩ => rfl
    | ⟨1, _⟩ => rfl
    | ⟨2, _⟩ => rfl
  rw [val_main_v83_apply, val_main_v79_apply, val_main_v82_apply, val_main_v78_apply, val_main_v77_apply, val_main_v81_apply, val_main_v80_apply, e1, e2]
  exact rfl

/-- The pairs put back into heads. -/
theorem v87_pairs (b : Fin 2) (p : Fin 8192) (n : Fin 12) (d : Fin 64) :
    val_main_v87 (F := Ideal) h md w cs sn qk (ix4 b p n d)
      = if d.val % 32 < 16 then val_main_v76 (F := Ideal) h md w cs sn qk (ix4 b p ⟨n.val * 2 + d.val / 32, by omega⟩ ⟨d.val % 16, by omega⟩)
        else val_main_v83 (F := Ideal) h md w cs sn qk (ix4 b p ⟨n.val * 2 + d.val / 32, by omega⟩ ⟨d.val % 16, by omega⟩) := by
  pointwise [val_main_v84, val_main_v85, val_main_v86, val_main_v87]
  by_cases hd : d.val % 32 < 16
  · rw [if_pos hd, dif_pos (by omega)]
  · rw [if_neg hd, dif_neg (by omega)]

/-- The reference’s rotated heads of the latent tokens. -/
theorem v87_apply (b : Fin 2) (p : Fin 8192) (n : Fin 12) (d : Fin 64) :
    val_main_v87 (F := Ideal) h md w cs sn qk (ix4 b p n d)
      = rot cs sn ⟨p.val, by omega⟩ (heads h md w qk b ⟨p.val, by omega⟩ n) d := by
  rw [v87_pairs, v76_apply, v83_apply, v61_apply, v63_apply, v66_apply, v69_apply, v57_apply, v57_apply]
  have e1 : (⟨(n.val * 2 + d.val / 32) / 2, by omega⟩ : Fin 12) = n := Fin.ext (by dsimp only; omega)
  have e2 : (⟨(n.val * 2 + d.val / 32) % 2, by omega⟩ : Fin 2) = ⟨d.val / 32, by omega⟩ := Fin.ext (by dsimp only; omega)
  unfold rot
  rw [dif_pos (show p.val < 8192 from p.isLt)]
  dsimp only
  rw [e1, e2]
  by_cases hd : d.val % 32 < 16
  · have e3 : (⟨(n.val * 2 + d.val / 32) % 2 * 32 + d.val % 16, by omega⟩ : Fin 64) = d := Fin.ext (by dsimp only; omega)
    have e4 : (⟨(n.val * 2 + d.val / 32) % 2 * 32 + 16 + d.val % 16, by omega⟩ : Fin 64) = ⟨d.val + 16, by omega⟩ := Fin.ext (by dsimp only; omega)
    rw [if_pos hd, dif_pos hd, e3, e4]
  · have e3 : (⟨(n.val * 2 + d.val / 32) % 2 * 32 + 16 + d.val % 16, by omega⟩ : Fin 64) = d := Fin.ext (by dsimp only; omega)
    have e4 : (⟨(n.val * 2 + d.val / 32) % 2 * 32 + d.val % 16, by omega⟩ : Fin 64) = ⟨d.val - 16, by omega⟩ := Fin.ext (by dsimp only; omega)
    rw [if_neg hd, dif_neg hd, e3, e4]

/-- The reference’s twelve heads, rotated. -/
theorem v89_apply (b : Fin 2) (p : Fin 8448) (n : Fin 12) (d : Fin 64) :
    val_main_v89 (F := Ideal) h md w cs sn qk (ix4 b p n d) = rot cs sn p (heads h md w qk b p n) d := by
  pointwise [val_main_v88, val_main_v89]
  by_cases hp : p.val < 8192
  · rw [dif_pos hp]
    exact v87_apply h md w cs sn qk b ⟨p.val, hp⟩ n d
  · rw [dif_neg hp]
    have e : (⟨8192 + (p.val - 8192), by omega⟩ : Fin 8448) = p := Fin.ext (by dsimp only; omega)
    rw [e, v57_apply]
    unfold rot
    rw [dif_neg hp]

/-- The heads of the window group among the twelve. -/
theorem heads_window (b : Fin 2) (p : Fin 8448) (n : Fin 12) (hn : n.val < 6) :
    heads h md w qk b p n = head h md w b p ⟨64 * n.val, by omega⟩ := by
  unfold heads
  rw [dif_pos hn]

/-- The queries of the global group among the twelve heads. -/
theorem heads_query (b : Fin 2) (p : Fin 8448) (n : Fin 12) (h1 : 6 ≤ n.val) (h2 : n.val < 10) :
    heads h md w qk b p n = nrm qk 0 (head h md w b p ⟨512 + 64 * (n.val - 6), by omega⟩) := by
  unfold heads
  rw [dif_neg (show ¬ n.val < 6 by omega), dif_pos h2]

/-- The keys of the global group among the twelve heads. -/
theorem heads_key (b : Fin 2) (p : Fin 8448) (n : Fin 12) (h1 : 10 ≤ n.val) :
    heads h md w qk b p n = nrm qk 1 (head h md w b p ⟨768 + 64 * (n.val - 10), by omega⟩) := by
  unfold heads
  rw [dif_neg (show ¬ n.val < 6 by omega), dif_neg (show ¬ n.val < 10 by omega)]

/-- Columns are heads of 64 lanes: four heads from the first. -/
theorem v94_apply (b : Fin 2) (p : Fin 8448) (c : Fin 256) :
    val_main_v94 (F := Ideal) h md w cs sn qk (ix3 b p c)
      = val_main_v89 (F := Ideal) h md w cs sn qk (ix4 b p ⟨c.val / 64, by omega⟩ ⟨c.val % 64, by omega⟩) := by
  pointwise [val_main_v90, val_main_v94]

/-- Columns are heads of 64 lanes: two heads from the fifth. -/
theorem v97_apply (b : Fin 2) (p : Fin 8448) (c : Fin 128) :
    val_main_v97 (F := Ideal) h md w cs sn qk (ix3 b p c)
      = val_main_v89 (F := Ideal) h md w cs sn qk (ix4 b p ⟨4 + c.val / 64, by omega⟩ ⟨c.val % 64, by omega⟩) := by
  pointwise [val_main_v91, val_main_v97]

/-- Columns are heads of 64 lanes: four heads from the seventh. -/
theorem v100_apply (b : Fin 2) (p : Fin 8448) (c : Fin 256) :
    val_main_v100 (F := Ideal) h md w cs sn qk (ix3 b p c)
      = val_main_v89 (F := Ideal) h md w cs sn qk (ix4 b p ⟨6 + c.val / 64, by omega⟩ ⟨c.val % 64, by omega⟩) := by
  pointwise [val_main_v92, val_main_v100]

/-- Tokens are tiles of 256 and columns heads of 64 lanes: two heads from the eleventh. -/
theorem v103_apply (b : Fin 2) (j : Fin 33) (r : Fin 256) (c : Fin 128) :
    val_main_v103 (F := Ideal) h md w cs sn qk (ix4 b j r c)
      = val_main_v89 (F := Ideal) h md w cs sn qk
          (ix4 b ⟨256 * j.val + r.val, by omega⟩ ⟨10 + c.val / 64, by omega⟩ ⟨c.val % 64, by omega⟩) := by
  have e1 : idx_main_v103 (ix4 b j r c) = ix4 b ⟨256 * j.val + r.val, by omega⟩ (⟨c.val / 64, by omega⟩ : Fin 2) (⟨c.val % 64, by omega⟩ : Fin 64) := by
    funext a
    apply Fin.ext
    match a with
    | ⟨0, _⟩ => show (((b.val * 33 + j.val) * 256 + r.val) * 128 + c.val) / 1081344 = b.val; omega
    | ⟨1, _⟩ => show (((b.val * 33 + j.val) * 256 + r.val) * 128 + c.val) / 128 % 8448 = 256 * j.val + r.val; omega
    | ⟨2, _⟩ => show (((b.val * 33 + j.val) * 256 + r.val) * 128 + c.val) / 64 % 2 = c.val / 64; omega
    | ⟨3, _⟩ => show (((b.val * 33 + j.val) * 256 + r.val) * 128 + c.val) % 64 = c.val % 64; omega
  rw [val_main_v103_apply, e1, val_main_v93_apply]
  refine congrArg (val_main_v89 (F := Ideal) h md w cs sn qk) ?_
  funext a
  match a with
  | ⟨0, _⟩ => rfl
  | ⟨1, _⟩ => rfl
  | ⟨2, _⟩ => rfl
  | ⟨3, _⟩ => rfl

/-- The reference’s first result. -/
theorem v112_apply (b : Fin 2) (p : Fin 8448) (c : Fin 256) :
    val_main_v112 (F := Ideal) h md w cs sn qk (ix3 b p c) = qa h md w cs sn b p c := by
  rw [val_main_v112_apply, val_main_v96_apply, val_main_v95_apply, val_main_cst_6_apply, v94_apply, v89_apply, heads_window h md w qk b p _ (by dsimp only; omega)]
  unfold qa
  rfl

/-- The reference’s second result. -/
theorem v113_apply (b : Fin 2) (c : Fin 128) (p : Fin 8448) :
    val_main_v113 (F := Ideal) h md w cs sn qk (ix3 b c p) = ka h md w cs sn b p c := by
  have e1 : idx_main_v98 (ix3 b c p) = ix3 b p c := by
    funext a
    match a with
    | ⟨0, _⟩ => rfl
    | ⟨1, _⟩ => rfl
    | ⟨2, _⟩ => rfl
  rw [val_main_v113_apply, val_main_v98_apply, e1, v97_apply, v89_apply, heads_window h md w qk b p _ (by dsimp only; omega)]
  unfold ka
  have e2 : (⟨64 * (4 + c.val / 64), by omega⟩ : Fin 3009) = ⟨256 + 64 * (c.val / 64), by omega⟩ := Fin.ext (by dsimp only; omega)
  rw [e2]
  rfl

/-- The reference’s fourth result. -/
theorem v115_apply (b : Fin 2) (p : Fin 8448) (c : Fin 256) :
    val_main_v115 (F := Ideal) h md w cs sn qk (ix3 b p c) = qb h md w cs sn qk b p c := by
  rw [val_main_v115_apply, val_main_v102_apply, val_main_v101_apply, val_main_cst_7_apply, v100_apply, v89_apply,
    heads_query h md w qk b p _ (by dsimp only; omega) (by dsimp only; omega)]
  unfold qb
  have e2 : (⟨512 + 64 * (6 + c.val / 64 - 6), by omega⟩ : Fin 3009) = ⟨512 + 64 * (c.val / 64), by omega⟩ := Fin.ext (by dsimp only; omega)
  rw [e2]
  rfl

/-- The reference’s fifth result. -/
theorem v116_apply (b : Fin 2) (j : Fin 33) (c : Fin 128) (r : Fin 256) :
    val_main_v116 (F := Ideal) h md w cs sn qk (ix4 b j c r) = kb h md w cs sn qk b ⟨256 * j.val + r.val, by omega⟩ c := by
  have e1 : idx_main_v104 (ix4 b j c r) = ix4 b j r c := by
    funext a
    match a with
    | ⟨0, _⟩ => rfl
    | ⟨1, _⟩ => rfl
    | ⟨2, _⟩ => rfl
    | ⟨3, _⟩ => rfl
  rw [val_main_v116_apply, val_main_v104_apply, e1, v103_apply, v89_apply, heads_key h md w qk b _ _ (by dsimp only; omega)]
  unfold kb
  have e2 : (⟨768 + 64 * (10 + c.val / 64 - 10), by omega⟩ : Fin 3009) = ⟨768 + 64 * (c.val / 64), by omega⟩ := Fin.ext (by dsimp only; omega)
  rw [e2]
  rfl

/-- The reference’s third result. -/
theorem v114_apply (b : Fin 2) (p : Fin 8448) (c : Fin 128) :
    val_main_v114 (F := Ideal) h md w (ix3 b p c) = proj h md w b p ⟨384 + c.val, by omega⟩ := by
  have e1 : idx_main_v99 (ix3 b p c) = ix3 b p ⟨384 + c.val, by omega⟩ := by
    funext a
    match a with
    | ⟨0, _⟩ => rfl
    | ⟨1, _⟩ => rfl
    | ⟨2, _⟩ => rfl
  rw [val_main_v114_apply, val_main_v99_apply, e1, v20_apply]
  rfl

/-- The reference’s sixth result. -/
theorem v117_apply (b : Fin 2) (p : Fin 8448) (c : Fin 128) :
    val_main_v117 (F := Ideal) h md w (ix3 b p c) = proj h md w b p ⟨896 + c.val, by omega⟩ := by
  have e1 : idx_main_v105 (ix3 b p c) = ix3 b p ⟨896 + c.val, by omega⟩ := by
    funext a
    match a with
    | ⟨0, _⟩ => rfl
    | ⟨1, _⟩ => rfl
    | ⟨2, _⟩ => rfl
  rw [val_main_v117_apply, val_main_v105_apply, e1, v20_apply]
  rfl

/-- The reference’s seventh result. -/
theorem v106_apply (b : Fin 2) (p : Fin 8448) (c : Fin 1280) :
    val_main_v106 (F := Ideal) h md w (ix3 b p c) = proj h md w b p ⟨1024 + c.val, by omega⟩ := by
  have e1 : idx_main_v106 (ix3 b p c) = ix3 b p ⟨1024 + c.val, by omega⟩ := by
    funext a
    match a with
    | ⟨0, _⟩ => rfl
    | ⟨1, _⟩ => rfl
    | ⟨2, _⟩ => rfl
  rw [val_main_v106_apply, e1, v20_apply]

/-- The reference’s eighth result. -/
theorem v118_apply (b : Fin 2) (p : Fin 8448) (c : Fin 256) :
    val_main_v118 (F := Ideal) h md w (ix3 b p c) = proj h md w b p ⟨2304 + c.val, by omega⟩ * scale := by
  have e1 : idx_main_v107 (ix3 b p c) = ix3 b p ⟨2304 + c.val, by omega⟩ := by
    funext a
    match a with
    | ⟨0, _⟩ => rfl
    | ⟨1, _⟩ => rfl
    | ⟨2, _⟩ => rfl
  rw [val_main_v118_apply, val_main_v109_apply, val_main_v108_apply, val_main_cst_8_apply, val_main_v107_apply, e1, v20_apply]
  rfl

/-- The reference’s ninth result. -/
theorem v119_apply (b : Fin 2) (p : Fin 8448) (c : Fin 256) :
    val_main_v119 (F := Ideal) h md w (ix3 b p c) = proj h md w b p ⟨2560 + c.val, by omega⟩ := by
  have e1 : idx_main_v110 (ix3 b p c) = ix3 b p ⟨2560 + c.val, by omega⟩ := by
    funext a
    match a with
    | ⟨0, _⟩ => rfl
    | ⟨1, _⟩ => rfl
    | ⟨2, _⟩ => rfl
  rw [val_main_v119_apply, val_main_v110_apply, e1, v20_apply]
  rfl

/-- The reference’s tenth result. -/
theorem v120_apply (b : Fin 2) (p : Fin 8448) (c : Fin 256) :
    val_main_v120 (F := Ideal) h md w (ix3 b p c) = proj h md w b p ⟨2816 + c.val, by omega⟩ := by
  have e1 : idx_main_v111 (ix3 b p c) = ix3 b p ⟨2816 + c.val, by omega⟩ := by
    funext a
    match a with
    | ⟨0, _⟩ => rfl
    | ⟨1, _⟩ => rfl
    | ⟨2, _⟩ => rfl
  rw [val_main_v120_apply, val_main_v111_apply, e1, v20_apply]
  rfl

end Cert.InRef

end
-- ==== Proof.InClaim.lean ====
module

public import proofs.«01_k».proof.Defs
public import proofs.«01_k».proof.Proof.InFinal
public import proofs.«01_k».proof.Proof.InRef
public import proofs.«01_k».proof.Proof.Gen.In.Frame
public import proofs.«01_k».proof.Proof.Gen.InRefIdeal.Run
public import proofs.«01_k».proof.Proof.Gen.Pre_finite_tokens
public import Idealize.ShloMosaic.Lib.ReduceAll
public import Idealize.ShloMosaic.Lib.Quiescent

@[expose] public section

noncomputable section

namespace Cert.InClaim

open Idealize.ShloMosaic Idealize.ShloMosaic.TcCoe Idealize.SL.Sem Cert.InSpec

/-- An extended real whose absolute value compares less than the pattern of plus infinity is a real. -/
theorem real_of_cmp (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

/-- The precondition says that the tokens, the modulation and the weights are real. -/
theorem real_of_pre [h : Cert.Pre_finite_tokens.Facts] (x0 : FVec Ideal Cert.Pre_finite_tokens.S2x8448x1024 .f32)
    (x1 : FVec Ideal Cert.Pre_finite_tokens.S2x2x8x1024 .f32) (x2 : FVec Ideal Cert.Pre_finite_tokens.S1024x3072 .bf16)
    (x3 x4 : FVec Ideal Cert.Pre_finite_tokens.S8192x2x16 .f32) (x5 : FVec Ideal Cert.Pre_finite_tokens.S2x64 .f32)
    (e : Cert.Pre_finite_tokens.fn (F := Ideal) x0 x1 x2 x3 x4 x5 = fun _ => 1#1) :
    (∀ i, ∃ r : ℝ, (x0 i : EReal) = r) ∧ (∀ i, ∃ r : ℝ, (x1 i : EReal) = r) ∧ (∀ i, ∃ r : ℝ, (x2 i : EReal) = r) := by
  have e1 := congrFun e ix0
  dsimp only [Cert.Pre_finite_tokens.fn] at e1
  have sub : Subsingleton Cert.Pre_finite_tokens.S_.Idx := ⟨fun a b => funext fun k => k.elim0⟩
  obtain ⟨ab, d⟩ := IntOp.andi_eq_one.1 e1
  obtain ⟨a, b⟩ := IntOp.andi_eq_one.1 ab
  refine ⟨fun i => ?_, fun i => ?_, fun i => ?_⟩
  · exact real_of_cmp _ (Host.reduce_andi_all _ _ _ _ _ a i)
  · exact real_of_cmp _ (Host.reduce_andi_all _ _ _ _ _ b i)
  · exact real_of_cmp _ (Host.reduce_andi_all _ _ _ _ _ d i)

/-- The reference of the input projection runs, leaves its arguments as they were, and has no counter to leave nonzero. -/
theorem frame_ref : Cert.quiescent_InRefIdeal (hInRefIdeal := Cert.InRefIdeal.Gen.facts) := by
  intro m ρ _
  exact (θ_run Cert.InRefIdeal.defs _ _).mono
    (fun r h => ⟨fun c => (h c).2.2.2.2.2.2.2.2.2.2, sem_eq_zero_of_no_sems (by decide) r.2⟩)
    (Cert.InRefIdeal.Value.run (F := Ideal) m ρ)

/-- The reference’s first result is the kernel’s. -/
theorem same0 (m : (ℓ : Loc Cert.InIdeal.nD Cert.InIdeal.τ Cert.InIdeal.sig) → Buf (Elt Ideal) ℓ) (c : Dev Cert.InIdeal.nD) :
    Cert.InRefIdeal.Read.val_main_v112 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) = Cert.InBlock.res7 m c := by
  funext i
  obtain ⟨a0, a1, a2, rfl⟩ : ∃ (a0 : Fin 2) (a1 : Fin 8448) (a2 : Fin 256), i = ix3 a0 a1 a2 :=
    ⟨i 0, i 1, i 2, by funext x; match x with | 0 => rfl | 1 => rfl | 2 => rfl⟩
  refine (Cert.InRef.v112_apply _ _ _ _ _ _ a0 a1 a2).trans ?_
  rfl

/-- The reference’s second result is the kernel’s. -/
theorem same1 (m : (ℓ : Loc Cert.InIdeal.nD Cert.InIdeal.τ Cert.InIdeal.sig) → Buf (Elt Ideal) ℓ) (c : Dev Cert.InIdeal.nD) :
    Cert.InRefIdeal.Read.val_main_v113 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) = Cert.InBlock.res8 m c := by
  funext i
  obtain ⟨a0, a1, a2, rfl⟩ : ∃ (a0 : Fin 2) (a1 : Fin 128) (a2 : Fin 8448), i = ix3 a0 a1 a2 :=
    ⟨i 0, i 1, i 2, by funext x; match x with | 0 => rfl | 1 => rfl | 2 => rfl⟩
  refine (Cert.InRef.v113_apply _ _ _ _ _ _ a0 a1 a2).trans ?_
  rfl

/-- The reference’s third result is the kernel’s. -/
theorem same2 (m : (ℓ : Loc Cert.InIdeal.nD Cert.InIdeal.τ Cert.InIdeal.sig) → Buf (Elt Ideal) ℓ) (c : Dev Cert.InIdeal.nD) :
    Cert.InRefIdeal.Read.val_main_v114 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) = Cert.InBlock.res9 m c := by
  funext i
  obtain ⟨a0, a1, a2, rfl⟩ : ∃ (a0 : Fin 2) (a1 : Fin 8448) (a2 : Fin 128), i = ix3 a0 a1 a2 :=
    ⟨i 0, i 1, i 2, by funext x; match x with | 0 => rfl | 1 => rfl | 2 => rfl⟩
  refine (Cert.InRef.v114_apply _ _ _ a0 a1 a2).trans ?_
  rfl

/-- The reference’s fourth result is the kernel’s. -/
theorem same3 (m : (ℓ : Loc Cert.InIdeal.nD Cert.InIdeal.τ Cert.InIdeal.sig) → Buf (Elt Ideal) ℓ) (c : Dev Cert.InIdeal.nD) :
    Cert.InRefIdeal.Read.val_main_v115 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) = Cert.InBlock.res10 m c := by
  funext i
  obtain ⟨a0, a1, a2, rfl⟩ : ∃ (a0 : Fin 2) (a1 : Fin 8448) (a2 : Fin 256), i = ix3 a0 a1 a2 :=
    ⟨i 0, i 1, i 2, by funext x; match x with | 0 => rfl | 1 => rfl | 2 => rfl⟩
  refine (Cert.InRef.v115_apply _ _ _ _ _ _ a0 a1 a2).trans ?_
  rfl

/-- The reference’s fifth result is the kernel’s. -/
theorem same4 (m : (ℓ : Loc Cert.InIdeal.nD Cert.InIdeal.τ Cert.InIdeal.sig) → Buf (Elt Ideal) ℓ) (c : Dev Cert.InIdeal.nD) :
    Cert.InRefIdeal.Read.val_main_v116 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) = Cert.InBlock.res11 m c := by
  funext i
  obtain ⟨a0, a1, a2, a3, rfl⟩ : ∃ (a0 : Fin 2) (a1 : Fin 33) (a2 : Fin 128) (a3 : Fin 256), i = ix4 a0 a1 a2 a3 :=
    ⟨i 0, i 1, i 2, i 3, by funext x; match x with | 0 => rfl | 1 => rfl | 2 => rfl | 3 => rfl⟩
  refine (Cert.InRef.v116_apply _ _ _ _ _ _ a0 a1 a2 a3).trans ?_
  rfl

/-- The reference’s sixth result is the kernel’s. -/
theorem same5 (m : (ℓ : Loc Cert.InIdeal.nD Cert.InIdeal.τ Cert.InIdeal.sig) → Buf (Elt Ideal) ℓ) (c : Dev Cert.InIdeal.nD) :
    Cert.InRefIdeal.Read.val_main_v117 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) = Cert.InBlock.res12 m c := by
  funext i
  obtain ⟨a0, a1, a2, rfl⟩ : ∃ (a0 : Fin 2) (a1 : Fin 8448) (a2 : Fin 128), i = ix3 a0 a1 a2 :=
    ⟨i 0, i 1, i 2, by funext x; match x with | 0 => rfl | 1 => rfl | 2 => rfl⟩
  refine (Cert.InRef.v117_apply _ _ _ a0 a1 a2).trans ?_
  rfl

/-- The reference’s seventh result is the kernel’s. -/
theorem same6 (m : (ℓ : Loc Cert.InIdeal.nD Cert.InIdeal.τ Cert.InIdeal.sig) → Buf (Elt Ideal) ℓ) (c : Dev Cert.InIdeal.nD) :
    Cert.InRefIdeal.Read.val_main_v106 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) = Cert.InBlock.res13 m c := by
  funext i
  obtain ⟨a0, a1, a2, rfl⟩ : ∃ (a0 : Fin 2) (a1 : Fin 8448) (a2 : Fin 1280), i = ix3 a0 a1 a2 :=
    ⟨i 0, i 1, i 2, by funext x; match x with | 0 => rfl | 1 => rfl | 2 => rfl⟩
  refine (Cert.InRef.v106_apply _ _ _ a0 a1 a2).trans ?_
  rfl

/-- The reference’s eighth result is the kernel’s. -/
theorem same7 (m : (ℓ : Loc Cert.InIdeal.nD Cert.InIdeal.τ Cert.InIdeal.sig) → Buf (Elt Ideal) ℓ) (c : Dev Cert.InIdeal.nD) :
    Cert.InRefIdeal.Read.val_main_v118 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) = Cert.InBlock.res14 m c := by
  funext i
  obtain ⟨a0, a1, a2, rfl⟩ : ∃ (a0 : Fin 2) (a1 : Fin 8448) (a2 : Fin 256), i = ix3 a0 a1 a2 :=
    ⟨i 0, i 1, i 2, by funext x; match x with | 0 => rfl | 1 => rfl | 2 => rfl⟩
  refine (Cert.InRef.v118_apply _ _ _ a0 a1 a2).trans ?_
  rfl

/-- The reference’s ninth result is the kernel’s. -/
theorem same8 (m : (ℓ : Loc Cert.InIdeal.nD Cert.InIdeal.τ Cert.InIdeal.sig) → Buf (Elt Ideal) ℓ) (c : Dev Cert.InIdeal.nD) :
    Cert.InRefIdeal.Read.val_main_v119 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) = Cert.InBlock.res15 m c := by
  funext i
  obtain ⟨a0, a1, a2, rfl⟩ : ∃ (a0 : Fin 2) (a1 : Fin 8448) (a2 : Fin 256), i = ix3 a0 a1 a2 :=
    ⟨i 0, i 1, i 2, by funext x; match x with | 0 => rfl | 1 => rfl | 2 => rfl⟩
  refine (Cert.InRef.v119_apply _ _ _ a0 a1 a2).trans ?_
  rfl

/-- The reference’s tenth result is the kernel’s. -/
theorem same9 (m : (ℓ : Loc Cert.InIdeal.nD Cert.InIdeal.τ Cert.InIdeal.sig) → Buf (Elt Ideal) ℓ) (c : Dev Cert.InIdeal.nD) :
    Cert.InRefIdeal.Read.val_main_v120 (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) = Cert.InBlock.res16 m c := by
  funext i
  obtain ⟨a0, a1, a2, rfl⟩ : ∃ (a0 : Fin 2) (a1 : Fin 8448) (a2 : Fin 256), i = ix3 a0 a1 a2 :=
    ⟨i 0, i 1, i 2, by funext x; match x with | 0 => rfl | 1 => rfl | 2 => rfl⟩
  refine (Cert.InRef.v120_apply _ _ _ a0 a1 a2).trans ?_
  rfl

/-- With finite tokens, modulation and weights the kernel and the reference end with the same ten results. -/
theorem algebraic : Cert.algebraic_InIdeal_InRefIdeal_pre_finite_tokens (hInIdeal := Cert.InIdeal.Gen.facts)
    (hInRefIdeal := Cert.InRefIdeal.Gen.facts) (hPre_finite_tokens := Cert.Pre_finite_tokens.Gen.facts) := by
  intro m ρ m' ρ' hpre hagree
  refine ⟨fun c => Cert.InBlock.res7 m c, fun c => Cert.InBlock.res8 m c, fun c => Cert.InBlock.res9 m c, fun c => Cert.InBlock.res10 m c, fun c => Cert.InBlock.res11 m c, fun c => Cert.InBlock.res12 m c, fun c => Cert.InBlock.res13 m c, fun c => Cert.InBlock.res14 m c, fun c => Cert.InBlock.res15 m c, fun c => Cert.InBlock.res16 m c, ?_, ?_⟩
  · refine (θ_run Cert.InIdeal.defs _ _).mono (fun r h c => ?_) (Cert.InIdeal.Value.run_blocks (F := Ideal) m ρ)
    obtain ⟨hh, hmd, hw⟩ := real_of_pre (h := Cert.Pre_finite_tokens.Gen.facts) _ _ _ _ _ _ (hpre c)
    have hr := proj_real _ _ _ hh hmd hw
    obtain ⟨h0, h1, h2, h3, h4, h5, h6, h7, h8, h9, hk⟩ := h c
    exact ⟨h0.trans (Cert.InBlock.final7 m c), h1.trans (Cert.InBlock.final8 m c), h2.trans (Cert.InBlock.final9 m c), h3.trans (Cert.InBlock.final10 m c hr), h4.trans (Cert.InBlock.final11 m c hr), h5.trans (Cert.InBlock.final12 m c), h6.trans (Cert.InBlock.final13 m c), h7.trans (Cert.InBlock.final14 m c), h8.trans (Cert.InBlock.final15 m c), h9.trans (Cert.InBlock.final16 m c), hk⟩
  · refine (θ_run Cert.InRefIdeal.defs _ _).mono (fun r h c => ?_) (Cert.InRefIdeal.Value.run (F := Ideal) m' ρ')
    obtain ⟨a0, a1, a2, a3, a4, a5⟩ := hagree c
    obtain ⟨h0, h1, h2, h3, h4, h5, h6, h7, h8, h9, hk⟩ := h c
    refine ⟨?_, ?_, ?_, ?_, ?_, ?_, ?_, ?_, ?_, ?_, hk⟩
    · rw [h0, Cert.InRefIdeal.Read.val_main_v112_eq]
      show Cert.InRefIdeal.Read.val_main_v112 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg3)) (m' ((c.tc : Thread Cert.InRefIdeal.nD Cert.InRefIdeal.τ).loc Cert.InRefIdeal.main_arg4)) (m' ((c.tc : Thread Cert.InRefIdeal.nD Cert.InRefIdeal.τ).loc Cert.InRefIdeal.main_arg5)) = _
      rw [a0, a1, a2, a3, a4, a5]
      exact same0 m c
    · rw [h1, Cert.InRefIdeal.Read.val_main_v113_eq]
      show Cert.InRefIdeal.Read.val_main_v113 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg3)) (m' ((c.tc : Thread Cert.InRefIdeal.nD Cert.InRefIdeal.τ).loc Cert.InRefIdeal.main_arg4)) (m' ((c.tc : Thread Cert.InRefIdeal.nD Cert.InRefIdeal.τ).loc Cert.InRefIdeal.main_arg5)) = _
      rw [a0, a1, a2, a3, a4, a5]
      exact same1 m c
    · rw [h2, Cert.InRefIdeal.Read.val_main_v114_eq]
      show Cert.InRefIdeal.Read.val_main_v114 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [a0, a1, a2]
      exact same2 m c
    · rw [h3, Cert.InRefIdeal.Read.val_main_v115_eq]
      show Cert.InRefIdeal.Read.val_main_v115 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg3)) (m' ((c.tc : Thread Cert.InRefIdeal.nD Cert.InRefIdeal.τ).loc Cert.InRefIdeal.main_arg4)) (m' ((c.tc : Thread Cert.InRefIdeal.nD Cert.InRefIdeal.τ).loc Cert.InRefIdeal.main_arg5)) = _
      rw [a0, a1, a2, a3, a4, a5]
      exact same3 m c
    · rw [h4, Cert.InRefIdeal.Read.val_main_v116_eq]
      show Cert.InRefIdeal.Read.val_main_v116 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg3)) (m' ((c.tc : Thread Cert.InRefIdeal.nD Cert.InRefIdeal.τ).loc Cert.InRefIdeal.main_arg4)) (m' ((c.tc : Thread Cert.InRefIdeal.nD Cert.InRefIdeal.τ).loc Cert.InRefIdeal.main_arg5)) = _
      rw [a0, a1, a2, a3, a4, a5]
      exact same4 m c
    · rw [h5, Cert.InRefIdeal.Read.val_main_v117_eq]
      show Cert.InRefIdeal.Read.val_main_v117 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [a0, a1, a2]
      exact same5 m c
    · rw [h6, Cert.InRefIdeal.Read.val_main_v106_eq]
      show Cert.InRefIdeal.Read.val_main_v106 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [a0, a1, a2]
      exact same6 m c
    · rw [h7, Cert.InRefIdeal.Read.val_main_v118_eq]
      show Cert.InRefIdeal.Read.val_main_v118 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [a0, a1, a2]
      exact same7 m c
    · rw [h8, Cert.InRefIdeal.Read.val_main_v119_eq]
      show Cert.InRefIdeal.Read.val_main_v119 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [a0, a1, a2]
      exact same8 m c
    · rw [h9, Cert.InRefIdeal.Read.val_main_v120_eq]
      show Cert.InRefIdeal.Read.val_main_v120 (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [a0, a1, a2]
      exact same9 m c

end Cert.InClaim

end
-- ==== Proof.lean ====
module

public import proofs.«01_k».proof.Defs
public import proofs.«01_k».proof.Proof.Gen.Glob.Frame
public import proofs.«01_k».proof.Proof.Gen.GlobIdeal.Frame
public import proofs.«01_k».proof.Proof.Gen.Ffn.Frame
public import proofs.«01_k».proof.Proof.Gen.FfnIdeal.Frame
public import proofs.«01_k».proof.Proof.GlobFrame
public import proofs.«01_k».proof.Proof.FfnClaim
public import proofs.«01_k».proof.Proof.GlobClaim
public import proofs.«01_k».proof.Proof.InClaim
public import proofs.«01_k».proof.Proof.Gen.GlobIdeal.Value
public import proofs.«01_k».proof.Proof.Gen.GlobRefIdeal.Run
public import proofs.«01_k».proof.Proof.Gen.GlobRefIdeal.Read
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.Gen.Pre_finite_tokens
public import proofs.«01_k».proof.Proof.Gen.Pre_finite_scores
public import proofs.«01_k».proof.Proof.Gen.On_latent_rows
public import Idealize.ShloMosaic.Adequacy
public import Idealize.ShloMosaic.Init

@[expose] public section

noncomputable section

namespace Cert.Proof

open Idealize.ShloMosaic Idealize.SL.Sem

/-- Everything claimed, together. -/
theorem claim : Cert.Claim :=
  ⟨Cert.Glob.Gen.facts, Cert.GlobIdeal.Gen.facts, Cert.GlobRefIdeal.Gen.facts, Cert.Ffn.Gen.facts, Cert.FfnIdeal.Gen.facts,
    Cert.FfnRefIdeal.Gen.facts, Cert.In.Gen.facts, Cert.InIdeal.Gen.facts, Cert.InRefIdeal.Gen.facts, Cert.Pre_finite_scores.Gen.facts,
    Cert.Pre_finite_tokens.Gen.facts, Cert.On_latent_rows.Gen.facts,
    fun m ρ _ => Cert.Glob.Gen.frame m ρ, fun m ρ _ => Cert.GlobIdeal.Gen.frame m ρ, fun m ρ _ => Cert.GlobIdeal.Gen.frame m ρ,
    GlobFrame.frame_ref, fun m ρ _ => GlobFrame.frame_ref m ρ trivial,
    fun m ρ _ => Cert.Ffn.Gen.frame m ρ, fun m ρ _ => Cert.FfnIdeal.Gen.frame m ρ, FfnClaim.frame_ref,
    fun m ρ _ => Cert.In.Gen.frame m ρ, fun m ρ _ => Cert.InIdeal.Gen.frame m ρ, fun m ρ _ => Cert.InIdeal.Gen.frame m ρ,
    InClaim.frame_ref, fun m ρ _ => InClaim.frame_ref m ρ trivial,
    GlobFrame.preserves, GlobClaim.algebraic, trivial, FfnClaim.algebraic, trivial, InClaim.algebraic⟩

end Cert.Proof

end
